-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenReferenceIdeal (m : (ℓ : Loc Cert.EvenReferenceIdeal.nD Cert.EvenReferenceIdeal.τ Cert.EvenReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3)
      ∧ r.2.mem ((c.tc : Thread Cert.Even.nD Cert.Even.τ).loc Cert.Even.main_arg4) = m ((c.tc : Thread Cert.Even.nD Cert.Even.τ).loc Cert.Even.main_arg4)
      ∧ r.2.mem ((c.tc : Thread Cert.Even.nD Cert.Even.τ).loc Cert.Even.main_arg5) = m ((c.tc : Thread Cert.Even.nD Cert.Even.τ).loc Cert.Even.main_arg5)
      ∧ r.2.mem ((c.tc : Thread Cert.Even.nD Cert.Even.τ).loc Cert.Even.main_arg6) = m ((c.tc : Thread Cert.Even.nD Cert.Even.τ).loc Cert.Even.main_arg6)
      ∧ r.2.mem ((c.tc : Thread Cert.Even.nD Cert.Even.τ).loc Cert.Even.main_arg7) = m ((c.tc : Thread Cert.Even.nD Cert.Even.τ).loc Cert.Even.main_arg7)
      ∧ r.2.mem ((c.tc : Thread Cert.Even.nD Cert.Even.τ).loc Cert.Even.main_arg8) = m ((c.tc : Thread Cert.Even.nD Cert.Even.τ).loc Cert.Even.main_arg8)
      ∧ r.2.mem ((c.tc : Thread Cert.Even.nD Cert.Even.τ).loc Cert.Even.main_arg9) = m ((c.tc : Thread Cert.Even.nD Cert.Even.τ).loc Cert.Even.main_arg9))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
      ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
      ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
      ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7)
      ∧ r.2.mem ((c.tc : Thread Cert.EvenIdeal.nD Cert.EvenIdeal.τ).loc Cert.EvenIdeal.main_arg8) = m ((c.tc : Thread Cert.EvenIdeal.nD Cert.EvenIdeal.τ).loc Cert.EvenIdeal.main_arg8)
      ∧ r.2.mem ((c.tc : Thread Cert.EvenIdeal.nD Cert.EvenIdeal.τ).loc Cert.EvenIdeal.main_arg9) = m ((c.tc : Thread Cert.EvenIdeal.nD Cert.EvenIdeal.τ).loc Cert.EvenIdeal.main_arg9))
      ∧ r.2.sem = fun _ => 0)

def quiescent_EvenReferenceIdeal [hEvenReferenceIdeal : Cert.EvenReferenceIdeal.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m ((c.tc : Thread Cert.EvenReferenceIdeal.nD Cert.EvenReferenceIdeal.τ).loc Cert.EvenReferenceIdeal.main_arg3)
      ∧ r.2.mem ((c.tc : Thread Cert.EvenReferenceIdeal.nD Cert.EvenReferenceIdeal.τ).loc Cert.EvenReferenceIdeal.main_arg4) = m ((c.tc : Thread Cert.EvenReferenceIdeal.nD Cert.EvenReferenceIdeal.τ).loc Cert.EvenReferenceIdeal.main_arg4)
      ∧ r.2.mem ((c.tc : Thread Cert.EvenReferenceIdeal.nD Cert.EvenReferenceIdeal.τ).loc Cert.EvenReferenceIdeal.main_arg5) = m ((c.tc : Thread Cert.EvenReferenceIdeal.nD Cert.EvenReferenceIdeal.τ).loc Cert.EvenReferenceIdeal.main_arg5)
      ∧ r.2.mem ((c.tc : Thread Cert.EvenReferenceIdeal.nD Cert.EvenReferenceIdeal.τ).loc Cert.EvenReferenceIdeal.main_arg6) = m ((c.tc : Thread Cert.EvenReferenceIdeal.nD Cert.EvenReferenceIdeal.τ).loc Cert.EvenReferenceIdeal.main_arg6)
      ∧ r.2.mem ((c.tc : Thread Cert.EvenReferenceIdeal.nD Cert.EvenReferenceIdeal.τ).loc Cert.EvenReferenceIdeal.main_arg7) = m ((c.tc : Thread Cert.EvenReferenceIdeal.nD Cert.EvenReferenceIdeal.τ).loc Cert.EvenReferenceIdeal.main_arg7)
      ∧ r.2.mem ((c.tc : Thread Cert.EvenReferenceIdeal.nD Cert.EvenReferenceIdeal.τ).loc Cert.EvenReferenceIdeal.main_arg8) = m ((c.tc : Thread Cert.EvenReferenceIdeal.nD Cert.EvenReferenceIdeal.τ).loc Cert.EvenReferenceIdeal.main_arg8)
      ∧ r.2.mem ((c.tc : Thread Cert.EvenReferenceIdeal.nD Cert.EvenReferenceIdeal.τ).loc Cert.EvenReferenceIdeal.main_arg9) = m ((c.tc : Thread Cert.EvenReferenceIdeal.nD Cert.EvenReferenceIdeal.τ).loc Cert.EvenReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v10_0)) (v1 : (c : Dev Cert.FfnIdeal.nD) → Buf (Elt Ideal) ((c.tc : Thread Cert.FfnIdeal.nD Cert.FfnIdeal.τ).loc Cert.FfnIdeal.main_v10_1)) (v2 : (c : Dev Cert.FfnIdeal.nD) → Buf (Elt Ideal) ((c.tc : Thread Cert.FfnIdeal.nD Cert.FfnIdeal.τ).loc Cert.FfnIdeal.main_v10_2)) (v3 : (c : Dev Cert.FfnIdeal.nD) → Buf (Elt Ideal) ((c.tc : Thread Cert.FfnIdeal.nD Cert.FfnIdeal.τ).loc Cert.FfnIdeal.main_v10_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10_0) = v0 c
          ∧ r.2.mem ((c.tc : Thread Cert.FfnIdeal.nD Cert.FfnIdeal.τ).loc Cert.FfnIdeal.main_v10_1) = v1 c
          ∧ r.2.mem ((c.tc : Thread Cert.FfnIdeal.nD Cert.FfnIdeal.τ).loc Cert.FfnIdeal.main_v10_2) = v2 c
          ∧ r.2.mem ((c.tc : Thread Cert.FfnIdeal.nD Cert.FfnIdeal.τ).loc Cert.FfnIdeal.main_v10_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v28) = v0 c
          ∧ r.2.mem ((c.tc : Thread Cert.FfnReferenceIdeal.nD Cert.FfnReferenceIdeal.τ).loc Cert.FfnReferenceIdeal.main_v31) = v1 c
          ∧ r.2.mem ((c.tc : Thread Cert.FfnReferenceIdeal.nD Cert.FfnReferenceIdeal.τ).loc Cert.FfnReferenceIdeal.main_v34) = v2 c
          ∧ r.2.mem ((c.tc : Thread Cert.FfnReferenceIdeal.nD Cert.FfnReferenceIdeal.τ).loc Cert.FfnReferenceIdeal.main_v37) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Even_EvenIdeal : Prop :=
  True

def algebraic_EvenIdeal_EvenReferenceIdeal [hEvenIdeal : Cert.EvenIdeal.Facts] [hEvenReferenceIdeal : Cert.EvenReferenceIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenReferenceIdeal.nD Cert.EvenReferenceIdeal.τ Cert.EvenReferenceIdeal.sig) → Buf (Elt Ideal) ℓ) (g' : Dev Cert.EvenReferenceIdeal.nD → PrngReg), Pre_EvenIdeal m →
    (∀ c : Dev Cert.EvenIdeal.nD,
      m' ((c.tc : Thread Cert.EvenReferenceIdeal.nD Cert.EvenReferenceIdeal.τ).loc Cert.EvenReferenceIdeal.main_arg0) = m ((c.tc : Thread Cert.EvenIdeal.nD Cert.EvenIdeal.τ).loc Cert.EvenIdeal.main_arg0)
      ∧ m' ((c.tc : Thread Cert.EvenReferenceIdeal.nD Cert.EvenReferenceIdeal.τ).loc Cert.EvenReferenceIdeal.main_arg1) = m ((c.tc : Thread Cert.EvenIdeal.nD Cert.EvenIdeal.τ).loc Cert.EvenIdeal.main_arg1)
      ∧ m' ((c.tc : Thread Cert.EvenReferenceIdeal.nD Cert.EvenReferenceIdeal.τ).loc Cert.EvenReferenceIdeal.main_arg2) = m ((c.tc : Thread Cert.EvenIdeal.nD Cert.EvenIdeal.τ).loc Cert.EvenIdeal.main_arg2)
      ∧ m' ((c.tc : Thread Cert.EvenReferenceIdeal.nD Cert.EvenReferenceIdeal.τ).loc Cert.EvenReferenceIdeal.main_arg3) = m ((c.tc : Thread Cert.EvenIdeal.nD Cert.EvenIdeal.τ).loc Cert.EvenIdeal.main_arg3)
      ∧ m' ((c.tc : Thread Cert.EvenReferenceIdeal.nD Cert.EvenReferenceIdeal.τ).loc Cert.EvenReferenceIdeal.main_arg4) = m ((c.tc : Thread Cert.EvenIdeal.nD Cert.EvenIdeal.τ).loc Cert.EvenIdeal.main_arg4)
      ∧ m' ((c.tc : Thread Cert.EvenReferenceIdeal.nD Cert.EvenReferenceIdeal.τ).loc Cert.EvenReferenceIdeal.main_arg5) = m ((c.tc : Thread Cert.EvenIdeal.nD Cert.EvenIdeal.τ).loc Cert.EvenIdeal.main_arg5)
      ∧ m' ((c.tc : Thread Cert.EvenReferenceIdeal.nD Cert.EvenReferenceIdeal.τ).loc Cert.EvenReferenceIdeal.main_arg6) = m ((c.tc : Thread Cert.EvenIdeal.nD Cert.EvenIdeal.τ).loc Cert.EvenIdeal.main_arg6)
      ∧ m' ((c.tc : Thread Cert.EvenReferenceIdeal.nD Cert.EvenReferenceIdeal.τ).loc Cert.EvenReferenceIdeal.main_arg7) = m ((c.tc : Thread Cert.EvenIdeal.nD Cert.EvenIdeal.τ).loc Cert.EvenIdeal.main_arg7)
      ∧ m' ((c.tc : Thread Cert.EvenReferenceIdeal.nD Cert.EvenReferenceIdeal.τ).loc Cert.EvenReferenceIdeal.main_arg8) = m ((c.tc : Thread Cert.EvenIdeal.nD Cert.EvenIdeal.τ).loc Cert.EvenIdeal.main_arg8)
      ∧ m' ((c.tc : Thread Cert.EvenReferenceIdeal.nD Cert.EvenReferenceIdeal.τ).loc Cert.EvenReferenceIdeal.main_arg9) = m ((c.tc : Thread Cert.EvenIdeal.nD Cert.EvenIdeal.τ).loc Cert.EvenIdeal.main_arg9)) →
    ∃ (v0 : (c : Dev Cert.EvenIdeal.nD) → Buf (Elt Ideal) ((c.tc : Thread Cert.EvenIdeal.nD Cert.EvenIdeal.τ).loc Cert.EvenIdeal.main_v13_0)) (v1 : (c : Dev Cert.EvenIdeal.nD) → Buf (Elt Ideal) ((c.tc : Thread Cert.EvenIdeal.nD Cert.EvenIdeal.τ).loc Cert.EvenIdeal.main_v14)) (v2 : (c : Dev Cert.EvenIdeal.nD) → Buf (Elt Ideal) ((c.tc : Thread Cert.EvenIdeal.nD Cert.EvenIdeal.τ).loc Cert.EvenIdeal.main_v13_2)) (v3 : (c : Dev Cert.EvenIdeal.nD) → Buf (Elt Ideal) ((c.tc : Thread Cert.EvenIdeal.nD Cert.EvenIdeal.τ).loc Cert.EvenIdeal.main_v13_3)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v13_0) = v0 c
          ∧ r.2.mem ((c.tc : Thread Cert.EvenIdeal.nD Cert.EvenIdeal.τ).loc Cert.EvenIdeal.main_v14) = v1 c
          ∧ r.2.mem ((c.tc : Thread Cert.EvenIdeal.nD Cert.EvenIdeal.τ).loc Cert.EvenIdeal.main_v13_2) = v2 c
          ∧ r.2.mem ((c.tc : Thread Cert.EvenIdeal.nD Cert.EvenIdeal.τ).loc Cert.EvenIdeal.main_v13_3) = v3 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
          ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
          ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
          ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
          ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7)
          ∧ r.2.mem ((c.tc : Thread Cert.EvenIdeal.nD Cert.EvenIdeal.τ).loc Cert.EvenIdeal.main_arg8) = m ((c.tc : Thread Cert.EvenIdeal.nD Cert.EvenIdeal.τ).loc Cert.EvenIdeal.main_arg8)
          ∧ r.2.mem ((c.tc : Thread Cert.EvenIdeal.nD Cert.EvenIdeal.τ).loc Cert.EvenIdeal.main_arg9) = m ((c.tc : Thread Cert.EvenIdeal.nD Cert.EvenIdeal.τ).loc Cert.EvenIdeal.main_arg9))
      ∧ θ_run (Cert.EvenReferenceIdeal.defs (F := Ideal)) (onTc (τ := Cert.EvenReferenceIdeal.τ) (Cert.EvenReferenceIdeal.main (F := Ideal))) ⟨m', fun _ => 0, g'⟩ (fun r => ∀ c : Dev Cert.EvenReferenceIdeal.nD,
          r.2.mem ((c.tc : Thread Cert.EvenReferenceIdeal.nD Cert.EvenReferenceIdeal.τ).loc Cert.EvenReferenceIdeal.main_v189) = v0 c
          ∧ r.2.mem ((c.tc : Thread Cert.EvenReferenceIdeal.nD Cert.EvenReferenceIdeal.τ).loc Cert.EvenReferenceIdeal.main_v102) = v1 c
          ∧ r.2.mem ((c.tc : Thread Cert.EvenReferenceIdeal.nD Cert.EvenReferenceIdeal.τ).loc Cert.EvenReferenceIdeal.main_v185) = v2 c
          ∧ r.2.mem ((c.tc : Thread Cert.EvenReferenceIdeal.nD Cert.EvenReferenceIdeal.τ).loc Cert.EvenReferenceIdeal.main_v190) = v3 c
          ∧ r.2.mem ((c.tc : Thread Cert.EvenReferenceIdeal.nD Cert.EvenReferenceIdeal.τ).loc Cert.EvenReferenceIdeal.main_arg0) = m' ((c.tc : Thread Cert.EvenReferenceIdeal.nD Cert.EvenReferenceIdeal.τ).loc Cert.EvenReferenceIdeal.main_arg0)
          ∧ r.2.mem ((c.tc : Thread Cert.EvenReferenceIdeal.nD Cert.EvenReferenceIdeal.τ).loc Cert.EvenReferenceIdeal.main_arg1) = m' ((c.tc : Thread Cert.EvenReferenceIdeal.nD Cert.EvenReferenceIdeal.τ).loc Cert.EvenReferenceIdeal.main_arg1)
          ∧ r.2.mem ((c.tc : Thread Cert.EvenReferenceIdeal.nD Cert.EvenReferenceIdeal.τ).loc Cert.EvenReferenceIdeal.main_arg2) = m' ((c.tc : Thread Cert.EvenReferenceIdeal.nD Cert.EvenReferenceIdeal.τ).loc Cert.EvenReferenceIdeal.main_arg2)
          ∧ r.2.mem ((c.tc : Thread Cert.EvenReferenceIdeal.nD Cert.EvenReferenceIdeal.τ).loc Cert.EvenReferenceIdeal.main_arg3) = m' ((c.tc : Thread Cert.EvenReferenceIdeal.nD Cert.EvenReferenceIdeal.τ).loc Cert.EvenReferenceIdeal.main_arg3)
          ∧ r.2.mem ((c.tc : Thread Cert.EvenReferenceIdeal.nD Cert.EvenReferenceIdeal.τ).loc Cert.EvenReferenceIdeal.main_arg4) = m' ((c.tc : Thread Cert.EvenReferenceIdeal.nD Cert.EvenReferenceIdeal.τ).loc Cert.EvenReferenceIdeal.main_arg4)
          ∧ r.2.mem ((c.tc : Thread Cert.EvenReferenceIdeal.nD Cert.EvenReferenceIdeal.τ).loc Cert.EvenReferenceIdeal.main_arg5) = m' ((c.tc : Thread Cert.EvenReferenceIdeal.nD Cert.EvenReferenceIdeal.τ).loc Cert.EvenReferenceIdeal.main_arg5)
          ∧ r.2.mem ((c.tc : Thread Cert.EvenReferenceIdeal.nD Cert.EvenReferenceIdeal.τ).loc Cert.EvenReferenceIdeal.main_arg6) = m' ((c.tc : Thread Cert.EvenReferenceIdeal.nD Cert.EvenReferenceIdeal.τ).loc Cert.EvenReferenceIdeal.main_arg6)
          ∧ r.2.mem ((c.tc : Thread Cert.EvenReferenceIdeal.nD Cert.EvenReferenceIdeal.τ).loc Cert.EvenReferenceIdeal.main_arg7) = m' ((c.tc : Thread Cert.EvenReferenceIdeal.nD Cert.EvenReferenceIdeal.τ).loc Cert.EvenReferenceIdeal.main_arg7)
          ∧ r.2.mem ((c.tc : Thread Cert.EvenReferenceIdeal.nD Cert.EvenReferenceIdeal.τ).loc Cert.EvenReferenceIdeal.main_arg8) = m' ((c.tc : Thread Cert.EvenReferenceIdeal.nD Cert.EvenReferenceIdeal.τ).loc Cert.EvenReferenceIdeal.main_arg8)
          ∧ r.2.mem ((c.tc : Thread Cert.EvenReferenceIdeal.nD Cert.EvenReferenceIdeal.τ).loc Cert.EvenReferenceIdeal.main_arg9) = m' ((c.tc : Thread Cert.EvenReferenceIdeal.nD Cert.EvenReferenceIdeal.τ).loc Cert.EvenReferenceIdeal.main_arg9))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hEven : Cert.Even.Facts) (hEvenIdeal : Cert.EvenIdeal.Facts) (hEvenReferenceIdeal : Cert.EvenReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Even (hEven := hEven)
    ∧ quiescent_EvenIdeal (hEvenIdeal := hEvenIdeal)
    ∧ quiescent_EvenReferenceIdeal (hEvenReferenceIdeal := hEvenReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_Even_EvenIdeal
    ∧ algebraic_EvenIdeal_EvenReferenceIdeal (hEvenIdeal := hEvenIdeal) (hEvenReferenceIdeal := hEvenReferenceIdeal)
-- ==== Kernel.lean ====
abbrev S17408x1024 : Shape := ⟨2, ![17408, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1024 : Shape := ⟨1, ![1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S6x1x1024 : Shape := ⟨3, ![6, 1, 1024]⟩
abbrev S1x1024 : Shape := ⟨2, ![1, 1024]⟩
abbrev S16384x1024 : Shape := ⟨2, ![16384, 1024]⟩
abbrev S1024x1024 : Shape := ⟨2, ![1024, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 19
  | .vmem => 11
  | .smem => 0
  | _ => 0

abbrev bufTy : (tb : Table) → Fin (tcTables nBuf tb) → BufTy
  | .hbm, ⟨0, _⟩ => ⟨S17408x1024, .f32⟩
  | .hbm, ⟨1, _⟩ => ⟨S2x3x1024, .f32⟩
  | .hbm, ⟨2, _⟩ => ⟨S2x2x1024x2816, .f32⟩
  | .hbm, ⟨3, _⟩ => ⟨S2x2x1024x2816, .f32⟩
  | .hbm, ⟨4, _⟩ => ⟨S2x2x2816x1024, .f32⟩
  | .hbm, ⟨5, _⟩ => ⟨S1024, .f32⟩
  | .hbm, ⟨6, _⟩ => ⟨S1x1x1024x2816, .f32⟩
  | .hbm, ⟨7, _⟩ => ⟨S1024x2816, .f32⟩
  | .hbm, ⟨8, _⟩ => ⟨S1024x2816, .bf16⟩
  | .hbm, ⟨9, _⟩ => ⟨S1x1x1024x2816, .f32⟩
  | .hbm, ⟨10, _⟩ => ⟨S1024x2816, .f32⟩
  | .hbm, ⟨11, _⟩ => ⟨S1024x2816, .bf16⟩
  | .hbm, ⟨12, _⟩ => ⟨S1x1x2816x1024, .f32⟩
  | .hbm, ⟨13, _⟩ => ⟨S2816x1024, .f32⟩
  | .hbm, ⟨14, _⟩ => ⟨S2816x1024, .bf16⟩
  | .hbm, ⟨15, _⟩ => ⟨S6x1x1024, .f32⟩
  | .hbm, ⟨16, _⟩ => ⟨S1x1024, .f32⟩
  | .hbm, ⟨17, _⟩ => ⟨S16384x1024, .f32⟩
  | .hbm, ⟨18, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S17408x1024 : Shape := ⟨2, ![17408, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1024 : Shape := ⟨1, ![1024]⟩
abbrev S1x1x1024 : Shape := ⟨3, ![1, 1, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S17408x2816 : Shape := ⟨2, ![17408, 2816]⟩
abbrev S16384x1024 : Shape := ⟨2, ![16384, 1024]⟩
abbrev S1024x1024 : Shape := ⟨2, ![1024, 1024]⟩

abbrev nBuf : Space → Nat
  | .hbm => 65
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S2x3x1024, .f32⟩
  | .hbm, ⟨2, _⟩ => ⟨S2x2x1024x2816, .f32⟩
  | .hbm, ⟨3, _⟩ => ⟨S2x2x1024x2816, .f32⟩
  | .hbm, ⟨4, _⟩ => ⟨S2x2x2816x1024, .f32⟩
  | .hbm, ⟨5, _⟩ => ⟨S1024, .f32⟩
  | .hbm, ⟨6, _⟩ => ⟨S1x1x1024, .f32⟩
  | .hbm, ⟨7, _⟩ => ⟨S1024, .f32⟩
  | .hbm, ⟨8, _⟩ => ⟨S17408x1024, .f32⟩
  | .hbm, ⟨9, _⟩ => ⟨S_, .f32⟩
  | .hbm, ⟨10, _⟩ => ⟨S17408, .f32⟩
  | .hbm, ⟨11, _⟩ => ⟨S17408x1, .f32⟩
  | .hbm, ⟨12, _⟩ => ⟨S_, .f32⟩
  | .hbm, ⟨13, _⟩ => ⟨S17408x1, .f32⟩
  | .hbm, ⟨14, _⟩ => ⟨S17408x1, .f32⟩
  | .hbm, ⟨15, _⟩ => ⟨S_, .f32⟩
  | .hbm, ⟨16, _⟩ => ⟨S17408x1, .f32⟩
  | .hbm, ⟨17, _⟩ => ⟨S17408x1, .f32⟩
  | .hbm, ⟨18, _⟩ => ⟨S17408x1, .f32⟩
  | .hbm, ⟨19, _⟩ => ⟨S17408x1024, .f32⟩
  | .hbm, ⟨20, _⟩ => ⟨S17408x1024, .f32⟩
  | .hbm, ⟨21, _⟩ => ⟨S1x1024, .f32⟩
  | .hbm, ⟨22, _⟩ => ⟨S17408x1024, .f32⟩
  | .hbm, ⟨23, _⟩ => ⟨S17408x1024, .f32⟩
  | .hbm, ⟨24, _⟩ => ⟨S1x1x1024x2816, .f32⟩
  | .hbm, ⟨25, _⟩ => ⟨S1024x2816, .f32⟩
  | .hbm, ⟨26, _⟩ => ⟨S1x1x1024x2816, .f32⟩
  | .hbm, ⟨27, _⟩ => ⟨S1024x2816, .f32⟩
  | .hbm, ⟨28, _⟩ => ⟨S1x1x2816x1024, .f32⟩
  | .hbm, ⟨29, _⟩ => ⟨S2816x1024, .f32⟩
  | .hbm, ⟨30, _⟩ => ⟨S17408x2816, .f32⟩
  | .hbm, ⟨31, _⟩ => ⟨S17408x2816, .f32⟩
  | .hbm, ⟨32, _⟩ => ⟨S17408x2816, .f32⟩
  | .hbm, ⟨33, _⟩ => ⟨S_, .f32⟩
  | .hbm, ⟨34, _⟩ => ⟨S17408x2816, .f32⟩
  | .hbm, ⟨35, _⟩ => ⟨S17408x2816, .f32⟩
  | .hbm, ⟨36, _⟩ => ⟨S_, .f32⟩
  | .hbm, ⟨37, _⟩ => ⟨S17408x2816, .f32⟩
  | .hbm, ⟨38, _⟩ => ⟨S17408x2816, .f32⟩
  | .hbm, ⟨39, _⟩ => ⟨S17408x2816, .f32⟩
  | .hbm, ⟨40, _⟩ => ⟨S17408x2816, .f32⟩
  | .hbm, ⟨41, _⟩ => ⟨S17408x2816, .f32⟩
  | .hbm, ⟨42, _⟩ => ⟨S17408x1024, .f32⟩
  | .hbm, ⟨43, _⟩ => ⟨S_, .f32⟩
  | .hbm, ⟨44, _⟩ => ⟨S17408x1024, .f32⟩
  | .hbm, ⟨45, _⟩ => ⟨S17408x1024, .f32⟩
  | .hbm, ⟨46, _⟩ => ⟨S17408x1024, .f32⟩
  | .hbm, ⟨47, _⟩ => ⟨S17408x1024, .f32⟩
  | .hbm, ⟨48, _⟩ => ⟨S_, .f32⟩
  | .hbm, ⟨49, _⟩ => ⟨S17408, .f32⟩
  | .hbm, ⟨50, _⟩ => ⟨S17408x1, .f32⟩
  | .hbm, ⟨51, _⟩ => ⟨S_, .f32⟩
  | .hbm, ⟨52, _⟩ => ⟨S17408x1, .f32⟩
  | .hbm, ⟨53, _⟩ => ⟨S17408x1, .f32⟩
  | .hbm, ⟨54, _⟩ => ⟨S_, .f32⟩
  | .hbm, ⟨55, _⟩ => ⟨S17408x1, .f32⟩
  | .hbm, ⟨56, _⟩ => ⟨S17408x1, .f32⟩
  | .hbm, ⟨57, _⟩ => ⟨S17408x1, .f32⟩
  | .hbm, ⟨58, _⟩ => ⟨S17408x1024, .f32⟩
  | .hbm, ⟨59, _⟩ => ⟨S17408x1024, .f32⟩
  | .hbm, ⟨60, _⟩ => ⟨S1x1024, .f32⟩
  | .hbm, ⟨61, _⟩ => ⟨S17408x1024, .f32⟩
  | .hbm, ⟨62, _⟩ => ⟨S17408x1024, .f32⟩
  | .hbm, ⟨63, _⟩ => ⟨S16384x1024, .f32⟩
  | .hbm, ⟨64, _⟩ => ⟨S1024x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Ffn.lean ====
abbrev S17408x1024 : Shape := ⟨2, ![17408, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S6x1x1024 : Shape := ⟨3, ![6, 1, 1024]⟩
abbrev S1024x1024 : Shape := ⟨2, ![1024, 1024]⟩
abbrev S1x1x1024 : Shape := ⟨3, ![1, 1, 1024]⟩
abbrev S1x1x64x2816 : Shape := ⟨4, ![1, 1, 64, 2816]⟩
abbrev S1x1x176x1024 : Shape := ⟨4, ![1, 1, 176, 1024]⟩
abbrev S64x2816 : Shape := ⟨2, ![64, 2816]⟩
abbrev S176x1024 : Shape := ⟨2, ![176, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 19
  | .vmem => 20
  | .smem => 0
  | _ => 0

abbrev bufTy : (tb : Table) → Fin (tcTables nBuf tb) → BufTy
  | .hbm, ⟨0, _⟩ => ⟨S17408x1024, .f32⟩
  | .hbm, ⟨1, _⟩ => ⟨S2x3x1024, .f32⟩
  | .hbm, ⟨2, _⟩ => ⟨S2x2x1024x2816, .f32⟩
  | .hbm, ⟨3, _⟩ => ⟨S2x2x1024x2816, .f32⟩
  | .hbm, ⟨4, _⟩ => ⟨S2x2x2816x1024, .f32⟩
  | .hbm, ⟨5, _⟩ => ⟨S1x1x1024x2816, .f32⟩
  | .hbm, ⟨6, _⟩ => ⟨S1024x2816, .f32⟩
  | .hbm, ⟨7, _⟩ => ⟨S1024x2816, .bf16⟩
  | .hbm, ⟨8, _⟩ => ⟨S1x1x1024x2816, .f32⟩
  | .hbm, ⟨9, _⟩ => ⟨S1024x2816, .f32⟩
  | .hbm, ⟨10, _⟩ => ⟨S1024x2816, .bf16⟩
  | .hbm, ⟨11, _⟩ => ⟨S1x1x2816x1024, .f32⟩
  | .hbm, ⟨12, _⟩ => ⟨S2816x1024, .f32⟩
  | .hbm, ⟨13, _⟩ => ⟨S2816x1024, .bf16⟩
  | .hbm, ⟨14, _⟩ => ⟨S6x1x1024, .f32⟩
  | .hbm, ⟨15, _⟩ => ⟨S17408x1024, .f32⟩
  | .hbm, ⟨16, _⟩ => ⟨S1024x2816, .bf16⟩
  | .hbm, ⟨17, _⟩ => ⟨S1024x2816, .bf16⟩
  | .hbm, ⟨18, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1x64x2816, .f32⟩
  | .local _ .vmem, ⟨7, _⟩ => ⟨S1x1x64x2816, .f32⟩
  | .local _ .vmem, ⟨8, _⟩ => ⟨S1x1x64x2816, .f32⟩
  | .local _ .vmem, ⟨9, _⟩ => ⟨S1x1x64x2816, .f32⟩
  | .local _ .vmem, ⟨10, _⟩ => ⟨S1x1x176x1024, .f32⟩
  | .local _ .vmem, ⟨11, _⟩ => ⟨S1x1x176x1024, .f32⟩
  | .local _ .vmem, ⟨12, _⟩ => ⟨S1024x1024, .f32⟩
  | .local _ .vmem, ⟨13, _⟩ => ⟨S1024x1024, .f32⟩
  | .local _ .vmem, ⟨14, _⟩ => ⟨S64x2816, .bf16⟩
  | .local _ .vmem, ⟨15, _⟩ => ⟨S64x2816, .bf16⟩
  | .local _ .vmem, ⟨16, _⟩ => ⟨S64x2816, .bf16⟩
  | .local _ .vmem, ⟨17, _⟩ => ⟨S64x2816, .bf16⟩
  | .local _ .vmem, ⟨18, _⟩ => ⟨S176x1024, .bf16⟩
  | .local _ .vmem, ⟨19, _⟩ => ⟨S176x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c15_i32 : BitVec 32 := 15#32
  let v0 : BitVec 32 := Scalar.minsi arg0 c15_i32
  let c1_i32 : BitVec 32 := 1#32
  let c1_i32_0 : BitVec 32 := 1#32
  let c0_i32 : BitVec 32 := 0#32
  let c0_i32_1 : BitVec 32 := 0#32
  ![c1_i32.toNat, c1_i32_0.toNat, v0.toNat, c0_i32.toNat]

def cc0_transform_6 (i : grid0.Coords) : Fin 4 → Nat :=
  let arg0 : BitVec 32 := BitVec.ofNat 32 (i 0).val
  let c15_i32 : BitVec 32 := 15#32
  let v0 : BitVec 32 := Scalar.minsi arg0 c15_i32
  let c1_i32 : BitVec 32 := 1#32
  let c1_i32_0 : BitVec 32 := 1#32
  let c0_i32 : BitVec 32 := 0#32
  let c0_i32_1 : BitVec 32 := 0#32
  ![c1_i32.toNat, c1_i32_0.toNat, v0.toNat, c0_i32.toNat]

def cc0_transform_7 (i : grid0.Coords) : Fin 4 → Nat :=
  let arg0 : BitVec 32 := BitVec.ofNat 32 (i 0).val
  let c15_i32 : BitVec 32 := 15#32
  let v0 : BitVec 32 := Scalar.minsi arg0 c15_i32
  let c1_i32 : BitVec 32 := 1#32
  let c1_i32_0 : BitVec 32 := 1#32
  let c0_i32 : BitVec 32 := 0#32
  let c0_i32_1 : BitVec 32 := 0#32
  ![c1_i32.toNat, c1_i32_0.toNat, v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FfnReferenceIdeal.lean ====
abbrev S17408x1024 : Shape := ⟨2, ![17408, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1x1x1024 : Shape := ⟨3, ![1, 1, 1024]⟩
abbrev S1024 : Shape := ⟨1, ![1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S17408x2816 : Shape := ⟨2, ![17408, 2816]⟩

abbrev nBuf : Space → Nat
  | .hbm => 55
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S2x3x1024, .f32⟩
  | .hbm, ⟨2, _⟩ => ⟨S2x2x1024x2816, .f32⟩
  | .hbm, ⟨3, _⟩ => ⟨S2x2x1024x2816, .f32⟩
  | .hbm, ⟨4, _⟩ => ⟨S2x2x2816x1024, .f32⟩
  | .hbm, ⟨5, _⟩ => ⟨S1x1x1024, .f32⟩
  | .hbm, ⟨6, _⟩ => ⟨S1024, .f32⟩
  | .hbm, ⟨7, _⟩ => ⟨S17408x1024, .f32⟩
  | .hbm, ⟨8, _⟩ => ⟨S_, .f32⟩
  | .hbm, ⟨9, _⟩ => ⟨S17408, .f32⟩
  | .hbm, ⟨10, _⟩ => ⟨S17408x1, .f32⟩
  | .hbm, ⟨11, _⟩ => ⟨S_, .f32⟩
  | .hbm, ⟨12, _⟩ => ⟨S17408x1, .f32⟩
  | .hbm, ⟨13, _⟩ => ⟨S17408x1, .f32⟩
  | .hbm, ⟨14, _⟩ => ⟨S_, .f32⟩
  | .hbm, ⟨15, _⟩ => ⟨S17408x1, .f32⟩
  | .hbm, ⟨16, _⟩ => ⟨S17408x1, .f32⟩
  | .hbm, ⟨17, _⟩ => ⟨S17408x1, .f32⟩
  | .hbm, ⟨18, _⟩ => ⟨S17408x1024, .f32⟩
  | .hbm, ⟨19, _⟩ => ⟨S17408x1024, .f32⟩
  | .hbm, ⟨20, _⟩ => ⟨S1x1024, .f32⟩
  | .hbm, ⟨21, _⟩ => ⟨S17408x1024, .f32⟩
  | .hbm, ⟨22, _⟩ => ⟨S17408x1024, .f32⟩
  | .hbm, ⟨23, _⟩ => ⟨S1x1x1024x2816, .f32⟩
  | .hbm, ⟨24, _⟩ => ⟨S1024x2816, .f32⟩
  | .hbm, ⟨25, _⟩ => ⟨S1x1x1024x2816, .f32⟩
  | .hbm, ⟨26, _⟩ => ⟨S1024x2816, .f32⟩
  | .hbm, ⟨27, _⟩ => ⟨S1x1x2816x1024, .f32⟩
  | .hbm, ⟨28, _⟩ => ⟨S2816x1024, .f32⟩
  | .hbm, ⟨29, _⟩ => ⟨S17408x2816, .f32⟩
  | .hbm, ⟨30, _⟩ => ⟨S17408x2816, .f32⟩
  | .hbm, ⟨31, _⟩ => ⟨S17408x2816, .f32⟩
  | .hbm, ⟨32, _⟩ => ⟨S_, .f32⟩
  | .hbm, ⟨33, _⟩ => ⟨S17408x2816, .f32⟩
  | .hbm, ⟨34, _⟩ => ⟨S17408x2816, .f32⟩
  | .hbm, ⟨35, _⟩ => ⟨S_, .f32⟩
  | .hbm, ⟨36, _⟩ => ⟨S17408x2816, .f32⟩
  | .hbm, ⟨37, _⟩ => ⟨S17408x2816, .f32⟩
  | .hbm, ⟨38, _⟩ => ⟨S17408x2816, .f32⟩
  | .hbm, ⟨39, _⟩ => ⟨S17408x2816, .f32⟩
  | .hbm, ⟨40, _⟩ => ⟨S17408x2816, .f32⟩
  | .hbm, ⟨41, _⟩ => ⟨S17408x1024, .f32⟩
  | .hbm, ⟨42, _⟩ => ⟨S_, .f32⟩
  | .hbm, ⟨43, _⟩ => ⟨S17408x1024, .f32⟩
  | .hbm, ⟨44, _⟩ => ⟨S17408x1024, .f32⟩
  | .hbm, ⟨45, _⟩ => ⟨S17408x1024, .f32⟩
  | .hbm, ⟨46, _⟩ => ⟨S1x1x1024x2816, .f32⟩
  | .hbm, ⟨47, _⟩ => ⟨S1024x2816, .f32⟩
  | .hbm, ⟨48, _⟩ => ⟨S1024x2816, .bf16⟩
  | .hbm, ⟨49, _⟩ => ⟨S1x1x1024x2816, .f32⟩
  | .hbm, ⟨50, _⟩ => ⟨S1024x2816, .f32⟩
  | .hbm, ⟨51, _⟩ => ⟨S1024x2816, .bf16⟩
  | .hbm, ⟨52, _⟩ => ⟨S1x1x2816x1024, .f32⟩
  | .hbm, ⟨53, _⟩ => ⟨S2816x1024, .f32⟩
  | .hbm, ⟨54, _⟩ => ⟨S2816x1024, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Even.lean ====
abbrev S17408x1024 : Shape := ⟨2, ![17408, 1024]⟩
abbrev S2x3x1024 : Shape := ⟨3, ![2, 3, 1024]⟩
abbrev S1x1024x2560 : Shape := ⟨3, ![1, 1024, 2560]⟩
abbrev S1x512 : Shape := ⟨2, ![1, 512]⟩
abbrev S1x4x128x128 : Shape := ⟨4, ![1, 4, 128, 128]⟩
abbrev S1x4x128 : Shape := ⟨3, ![1, 4, 128]⟩
abbrev S1x3x512 : Shape := ⟨3, ![1, 3, 512]⟩
abbrev S1x1024x1024 : Shape := ⟨3, ![1, 1024, 1024]⟩
abbrev S1x128x2x512 : Shape := ⟨4, ![1, 128, 2, 512]⟩
abbrev S1024x2560 : Shape := ⟨2, ![1024, 2560]⟩
abbrev S1024x1024 : Shape := ⟨2, ![1024, 1024]⟩
abbrev S6x1x1024 : Shape := ⟨3, ![6, 1, 1024]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S128x2x512 : Shape := ⟨3, ![128, 2, 512]⟩
abbrev S8x8x512 : Shape := ⟨3, ![8, 8, 512]⟩
abbrev S1024x512 : Shape := ⟨2, ![1024, 512]⟩
abbrev S1x1x1024 : Shape := ⟨3, ![1, 1, 1024]⟩
abbrev S1x8x512 : Shape := ⟨3, ![1, 8, 512]⟩
abbrev S8x512 : Shape := ⟨2, ![8, 512]⟩
abbrev S64x8x512 : Shape := ⟨3, ![64, 8, 512]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩
abbrev S128x1 : Shape := ⟨2, ![128, 1]⟩
abbrev S512x1024 : Shape := ⟨2, ![512, 1024]⟩
abbrev S1x1024 : Shape := ⟨2, ![1, 1024]⟩
abbrev S512x1 : Shape := ⟨2, ![512, 1]⟩
abbrev S512x512 : Shape := ⟨2, ![512, 512]⟩
abbrev S520x512 : Shape := ⟨2, ![520, 512]⟩
abbrev S512x128 : Shape := ⟨2, ![512, 128]⟩
abbrev S8x128 : Shape := ⟨2, ![8, 128]⟩
abbrev S1x8x128 : Shape := ⟨3, ![1, 8, 128]⟩
abbrev S64x1x512 : Shape := ⟨3, ![64, 1, 512]⟩
abbrev S64x512 : Shape := ⟨2, ![64, 512]⟩
abbrev S8x2x512 : Shape := ⟨3, ![8, 2, 512]⟩

abbrev nBuf : Space → Nat
  | .hbm => 28
  | .vmem => 21
  | .smem => 0
  | _ => 0

abbrev bufTy : (tb : Table) → Fin (tcTables nBuf tb) → BufTy
  | .hbm, ⟨0, _⟩ => ⟨S17408x1024, .f32⟩
  | .hbm, ⟨1, _⟩ => ⟨S2x3x1024, .f32⟩
  | .hbm, ⟨2, _⟩ => ⟨S1x1024x2560, .f32⟩
  | .hbm, ⟨3, _⟩ => ⟨S1x512, .f32⟩
  | .hbm, ⟨4, _⟩ => ⟨S1x512, .f32⟩
  | .hbm, ⟨5, _⟩ => ⟨S1x4x128x128, .f32⟩
  | .hbm, ⟨6, _⟩ => ⟨S1x4x128, .f32⟩
  | .hbm, ⟨7, _⟩ => ⟨S1x3x512, .f32⟩
  | .hbm, ⟨8, _⟩ => ⟨S1x1024x1024, .f32⟩
  | .hbm, ⟨9, _⟩ => ⟨S1x128x2x512, .f32⟩
  | .hbm, ⟨10, _⟩ => ⟨S1024x2560, .f32⟩
  | .hbm, ⟨11, _⟩ => ⟨S1024x2560, .bf16⟩
  | .hbm, ⟨12, _⟩ => ⟨S1024x1024, .f32⟩
  | .hbm, ⟨13, _⟩ => ⟨S1024x1024, .bf16⟩
  | .hbm, ⟨14, _⟩ => ⟨S6x1x1024, .f32⟩
  | .hbm, ⟨15, _⟩ => ⟨S512, .f32⟩
  | .hbm, ⟨16, _⟩ => ⟨S512, .f32⟩
  | .hbm, ⟨17, _⟩ => ⟨S4x128x128, .f32⟩
  | .hbm, ⟨18, _⟩ => ⟨S4x128, .f32⟩
  | .hbm, ⟨19, _⟩ => ⟨S3x512, .f32⟩
  | .hbm, ⟨20, _⟩ => ⟨S128x2x512, .f32⟩
  | .hbm, ⟨21, _⟩ => ⟨S1x512, .f32⟩
  | .hbm, ⟨22, _⟩ => ⟨S1x512, .f32⟩
  | .hbm, ⟨23, _⟩ => ⟨S17408x1024, .f32⟩
  | .hbm, ⟨24, _⟩ => ⟨S8x8x512, .f32⟩
  | .hbm, ⟨25, _⟩ => ⟨S128x2x512, .f32⟩
  | .hbm, ⟨26, _⟩ => ⟨S1024x512, .f32⟩
  | .hbm, ⟨27, _⟩ => ⟨S8x2x512, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1024x2560, .bf16⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S4x128, .f32⟩
  | .local _ .vmem, ⟨8, _⟩ => ⟨S3x512, .f32⟩
  | .local _ .vmem, ⟨9, _⟩ => ⟨S1024x1024, .bf16⟩
  | .local _ .vmem, ⟨10, _⟩ => ⟨S128x2x512, .f32⟩
  | .local _ .vmem, ⟨11, _⟩ => ⟨S1024x1024, .f32⟩
  | .local _ .vmem, ⟨12, _⟩ => ⟨S1024x1024, .f32⟩
  | .local _ .vmem, ⟨13, _⟩ => ⟨S1x8x512, .f32⟩
  | .local _ .vmem, ⟨14, _⟩ => ⟨S1x8x512, .f32⟩
  | .local _ .vmem, ⟨15, _⟩ => ⟨S128x2x512, .f32⟩
  | .local _ .vmem, ⟨16, _⟩ => ⟨S128x2x512, .f32⟩
  | .local _ .vmem, ⟨17, _⟩ => ⟨S1024x512, .f32⟩
  | .local _ .vmem, ⟨18, _⟩ => ⟨S1024x512, .f32⟩
  | .local _ .vmem, ⟨19, _⟩ => ⟨S8x512, .f32⟩
  | .local _ .vmem, ⟨20, _⟩ => ⟨S64x8x512, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond3 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32 : BitVec 32 := 7#32
  let v17 : BitVec 32 := Scalar.minsi v16 c7_i32
  let c0_i32_4 : BitVec 32 := 0#32
  let c0_i32_5 : BitVec 32 := 0#32
  let c0_i32_6 : BitVec 32 := 0#32
  ![v17.toNat, c0_i32_4.toNat, c0_i32_5.toNat]

def cc0_transform_12 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_13 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== EvenReferenceIdeal.lean ====
abbrev S17408x1024 : Shape := ⟨2, ![17408, 1024]⟩
abbrev S2x3x1024 : Shape := ⟨3, ![2, 3, 1024]⟩
abbrev S1x1024x2560 : Shape := ⟨3, ![1, 1024, 2560]⟩
abbrev S1x512 : Shape := ⟨2, ![1, 512]⟩
abbrev S1x4x128x128 : Shape := ⟨4, ![1, 4, 128, 128]⟩
abbrev S1x4x128 : Shape := ⟨3, ![1, 4, 128]⟩
abbrev S1x3x512 : Shape := ⟨3, ![1, 3, 512]⟩
abbrev S1x1024x1024 : Shape := ⟨3, ![1, 1024, 1024]⟩
abbrev S1x128x2x512 : Shape := ⟨4, ![1, 128, 2, 512]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S16384x1024 : Shape := ⟨2, ![16384, 1024]⟩
abbrev S8x2048x1024 : Shape := ⟨3, ![8, 2048, 1024]⟩
abbrev S8x2x512 : Shape := ⟨3, ![8, 2, 512]⟩
abbrev S8x2048x2560 : Shape := ⟨3, ![8, 2048, 2560]⟩
abbrev S8x2048x512 : Shape := ⟨3, ![8, 2048, 512]⟩
abbrev S8x2048 : Shape := ⟨2, ![8, 2048]⟩
abbrev S8x2048x1 : Shape := ⟨3, ![8, 2048, 1]⟩
abbrev S1x1x512 : Shape := ⟨3, ![1, 1, 512]⟩
abbrev S128x128 : Shape := ⟨2, ![128, 128]⟩
abbrev S1x128x128 : Shape := ⟨3, ![1, 128, 128]⟩
abbrev S8x16x128x4x128 : Shape := ⟨5, ![8, 16, 128, 4, 128]⟩
abbrev S4x8x16x128x128 : Shape := ⟨5, ![4, 8, 16, 128, 128]⟩
abbrev S128x4 : Shape := ⟨2, ![128, 4]⟩
abbrev S1x1x128x4x1 : Shape := ⟨5, ![1, 1, 128, 4, 1]⟩
abbrev S8x2050x512 : Shape := ⟨3, ![8, 2050, 512]⟩
abbrev S128x8x1024 : Shape := ⟨3, ![128, 8, 1024]⟩
abbrev S128x2x512 : Shape := ⟨3, ![128, 2, 512]⟩
abbrev S128x8x2560 : Shape := ⟨3, ![128, 8, 2560]⟩
abbrev S128x8x512 : Shape := ⟨3, ![128, 8, 512]⟩
abbrev S128x8 : Shape := ⟨2, ![128, 8]⟩
abbrev S128x8x1 : Shape := ⟨3, ![128, 8, 1]⟩
abbrev S8x8 : Shape := ⟨2, ![8, 8]⟩
abbrev S1x8x8 : Shape := ⟨3, ![1, 8, 8]⟩
abbrev S4x8x8 : Shape := ⟨3, ![4, 8, 8]⟩
abbrev S128x1x8x4x128 : Shape := ⟨5, ![128, 1, 8, 4, 128]⟩
abbrev S4x128x1x128x8 : Shape := ⟨5, ![4, 128, 1, 128, 8]⟩
abbrev S4x8 : Shape := ⟨2, ![4, 8]⟩
abbrev S8x4 : Shape := ⟨2, ![8, 4]⟩
abbrev S1x1x8x4x1 : Shape := ⟨5, ![1, 1, 8, 4, 1]⟩
abbrev S128x10x512 : Shape := ⟨3, ![128, 10, 512]⟩
abbrev S1024x512 : Shape := ⟨2, ![1024, 512]⟩

abbrev nBuf : Space → Nat
  | .hbm => 247
  | .vmem => 0
  | .smem => 0
  | _ => 0

abbrev hbmTy0_0 (i : Nat) : BufTy := match i % 128 with
  | 0 => ⟨S17408x1024, .f32⟩
  | 1 => ⟨S2x3x1024, .f32⟩
  | 2 => ⟨S1x1024x2560, .f32⟩
  | 3 => ⟨S1x512, .f32⟩
  | 4 => ⟨S1x512, .f32⟩
  | 5 => ⟨S1x4x128x128, .f32⟩
  | 6 => ⟨S1x4x128, .f32⟩
  | 7 => ⟨S1x3x512, .f32⟩
  | 8 => ⟨S1x1024x1024, .f32⟩
  | 9 => ⟨S1x128x2x512, .f32⟩
  | 10 => ⟨S1024x2560, .f32⟩
  | 11 => ⟨S512, .f32⟩
  | 12 => ⟨S512, .f32⟩
  | 13 => ⟨S4x128x128, .f32⟩
  | 14 => ⟨S4x128, .f32⟩
  | 15 => ⟨S3x512, .f32⟩
  | 16 => ⟨S1024x1024, .f32⟩
  | 17 => ⟨S1x1x1024, .f32⟩
  | 18 => ⟨S1024, .f32⟩
  | 19 => ⟨S17408x1024, .f32⟩
  | 20 => ⟨S_, .f32⟩
  | 21 => ⟨S17408, .f32⟩
  | 22 => ⟨S17408x1, .f32⟩
  | 23 => ⟨S_, .f32⟩
  | 24 => ⟨S17408x1, .f32⟩
  | 25 => ⟨S17408x1, .f32⟩
  | 26 => ⟨S_, .f32⟩
  | 27 => ⟨S17408x1, .f32⟩
  | 28 => ⟨S17408x1, .f32⟩
  | 29 => ⟨S17408x1, .f32⟩
  | 30 => ⟨S17408x1024, .f32⟩
  | 31 => ⟨S17408x1024, .f32⟩
  | 32 => ⟨S1x1024, .f32⟩
  | 33 => ⟨S17408x1024, .f32⟩
  | 34 => ⟨S17408x1024, .f32⟩
  | 35 => ⟨S16384x1024, .f32⟩
  | 36 => ⟨S8x2048x1024, .f32⟩
  | 37 => ⟨S_, .f32⟩
  | 38 => ⟨S8x2x512, .f32⟩
  | 39 => ⟨S8x2048x2560, .f32⟩
  | 40 => ⟨S8x2048x1024, .f32⟩
  | 41 => ⟨S_, .f32⟩
  | 42 => ⟨S8x2048x1024, .f32⟩
  | 43 => ⟨S8x2048x1024, .f32⟩
  | 44 => ⟨S_, .f32⟩
  | 45 => ⟨S8x2048x1024, .f32⟩
  | 46 => ⟨S8x2048x1024, .f32⟩
  | 47 => ⟨S8x2048x1024, .f32⟩
  | 48 => ⟨S_, .f32⟩
  | 49 => ⟨S8x2048x1024, .f32⟩
  | 50 => ⟨S8x2048x1024, .f32⟩
  | 51 => ⟨S8x2048x1024, .f32⟩
  | 52 => ⟨S8x2048x512, .f32⟩
  | 53 => ⟨S8x2048x512, .f32⟩
  | 54 => ⟨S_, .f32⟩
  | 55 => ⟨S8x2048, .f32⟩
  | 56 => ⟨S8x2048x1, .f32⟩
  | 57 => ⟨S_, .f32⟩
  | 58 => ⟨S8x2048x1, .f32⟩
  | 59 => ⟨S8x2048x1, .f32⟩
  | 60 => ⟨S8x2048x512, .f32⟩
  | 61 => ⟨S8x2048x512, .f32⟩
  | 62 => ⟨S8x2048x512, .f32⟩
  | 63 => ⟨S_, .f32⟩
  | 64 => ⟨S8x2048, .f32⟩
  | 65 => ⟨S8x2048x1, .f32⟩
  | 66 => ⟨S_, .f32⟩
  | 67 => ⟨S8x2048x1, .f32⟩
  | 68 => ⟨S8x2048x1, .f32⟩
  | 69 => ⟨S8x2048x512, .f32⟩
  | 70 => ⟨S8x2048x512, .f32⟩
  | 71 => ⟨S_, .f32⟩
  | 72 => ⟨S8x2048x1, .f32⟩
  | 73 => ⟨S8x2048x1, .f32⟩
  | 74 => ⟨S8x2048x1, .f32⟩
  | 75 => ⟨S8x2048x512, .f32⟩
  | 76 => ⟨S8x2048x512, .f32⟩
  | 77 => ⟨S1x1x512, .f32⟩
  | 78 => ⟨S8x2048x512, .f32⟩
  | 79 => ⟨S8x2048x512, .f32⟩
  | 80 => ⟨S1x1x512, .f32⟩
  | 81 => ⟨S8x2048x512, .f32⟩
  | 82 => ⟨S8x2048x512, .f32⟩
  | 83 => ⟨S_, .i1⟩
  | 84 => ⟨S128x128, .i1⟩
  | 85 => ⟨S128x128, .i32⟩
  | 86 => ⟨S_, .i32⟩
  | 87 => ⟨S128x128, .i32⟩
  | 88 => ⟨S128x128, .i32⟩
  | 89 => ⟨S128x128, .i32⟩
  | 90 => ⟨S128x128, .i1⟩
  | 91 => ⟨S_, .i1⟩
  | 92 => ⟨S128x128, .i1⟩
  | 93 => ⟨S128x128, .i1⟩
  | 94 => ⟨S1x128x128, .i1⟩
  | 95 => ⟨S_, .f32⟩
  | 96 => ⟨S_, .f32⟩
  | 97 => ⟨S4x128x128, .i1⟩
  | 98 => ⟨S4x128x128, .f32⟩
  | 99 => ⟨S4x128x128, .f32⟩
  | 100 => ⟨S8x16x128x4x128, .f32⟩
  | 101 => ⟨S4x8x16x128x128, .f32⟩
  | 102 => ⟨S8x16x128x4x128, .f32⟩
  | 103 => ⟨S128x4, .f32⟩
  | 104 => ⟨S1x1x128x4x1, .f32⟩
  | 105 => ⟨S8x16x128x4x128, .f32⟩
  | 106 => ⟨S8x16x128x4x128, .f32⟩
  | 107 => ⟨S8x2048x512, .f32⟩
  | 108 => ⟨S8x2048x512, .f32⟩
  | 109 => ⟨S8x2048x512, .f32⟩
  | 110 => ⟨S8x2048x512, .f32⟩
  | 111 => ⟨S8x2048x512, .f32⟩
  | 112 => ⟨S8x2048x512, .f32⟩
  | 113 => ⟨S8x2050x512, .f32⟩
  | 114 => ⟨S8x2048x512, .f32⟩
  | 115 => ⟨S1x512, .f32⟩
  | 116 => ⟨S512, .f32⟩
  | 117 => ⟨S1x1x512, .f32⟩
  | 118 => ⟨S8x2048x512, .f32⟩
  | 119 => ⟨S8x2048x512, .f32⟩
  | 120 => ⟨S8x2048x512, .f32⟩
  | 121 => ⟨S1x512, .f32⟩
  | 122 => ⟨S512, .f32⟩
  | 123 => ⟨S1x1x512, .f32⟩
  | 124 => ⟨S8x2048x512, .f32⟩
  | 125 => ⟨S8x2048x512, .f32⟩
  | 126 => ⟨S8x2048x512, .f32⟩
  | 127 => ⟨S8x2048x512, .f32⟩
  | _ => ⟨S17408x1024, .f32⟩

abbrev hbmTy0_1 (i : Nat) : BufTy := match i % 128 with
  | 0 => ⟨S1x512, .f32⟩
  | 1 => ⟨S512, .f32⟩
  | 2 => ⟨S1x1x512, .f32⟩
  | 3 => ⟨S8x2048x512, .f32⟩
  | 4 => ⟨S8x2048x512, .f32⟩
  | 5 => ⟨S8x2048x512, .f32⟩
  | 6 => ⟨S8x2048x512, .f32⟩
  | 7 => ⟨S8x2048x1024, .f32⟩
  | 8 => ⟨S8x2048x1024, .f32⟩
  | 9 => ⟨S8x2x512, .f32⟩
  | 10 => ⟨S1024x1024, .f32⟩
  | 11 => ⟨S128x8x1024, .f32⟩
  | 12 => ⟨S128x2x512, .f32⟩
  | 13 => ⟨S128x8x2560, .f32⟩
  | 14 => ⟨S128x8x1024, .f32⟩
  | 15 => ⟨S_, .f32⟩
  | 16 => ⟨S128x8x1024, .f32⟩
  | 17 => ⟨S128x8x1024, .f32⟩
  | 18 => ⟨S_, .f32⟩
  | 19 => ⟨S128x8x1024, .f32⟩
  | 20 => ⟨S128x8x1024, .f32⟩
  | 21 => ⟨S128x8x1024, .f32⟩
  | 22 => ⟨S_, .f32⟩
  | 23 => ⟨S128x8x1024, .f32⟩
  | 24 => ⟨S128x8x1024, .f32⟩
  | 25 => ⟨S128x8x1024, .f32⟩
  | 26 => ⟨S128x8x512, .f32⟩
  | 27 => ⟨S128x8x512, .f32⟩
  | 28 => ⟨S_, .f32⟩
  | 29 => ⟨S128x8, .f32⟩
  | 30 => ⟨S128x8x1, .f32⟩
  | 31 => ⟨S_, .f32⟩
  | 32 => ⟨S128x8x1, .f32⟩
  | 33 => ⟨S128x8x1, .f32⟩
  | 34 => ⟨S128x8x512, .f32⟩
  | 35 => ⟨S128x8x512, .f32⟩
  | 36 => ⟨S128x8x512, .f32⟩
  | 37 => ⟨S_, .f32⟩
  | 38 => ⟨S128x8, .f32⟩
  | 39 => ⟨S128x8x1, .f32⟩
  | 40 => ⟨S_, .f32⟩
  | 41 => ⟨S128x8x1, .f32⟩
  | 42 => ⟨S128x8x1, .f32⟩
  | 43 => ⟨S128x8x512, .f32⟩
  | 44 => ⟨S128x8x512, .f32⟩
  | 45 => ⟨S_, .f32⟩
  | 46 => ⟨S128x8x1, .f32⟩
  | 47 => ⟨S128x8x1, .f32⟩
  | 48 => ⟨S128x8x1, .f32⟩
  | 49 => ⟨S128x8x512, .f32⟩
  | 50 => ⟨S128x8x512, .f32⟩
  | 51 => ⟨S1x1x512, .f32⟩
  | 52 => ⟨S128x8x512, .f32⟩
  | 53 => ⟨S128x8x512, .f32⟩
  | 54 => ⟨S1x1x512, .f32⟩
  | 55 => ⟨S128x8x512, .f32⟩
  | 56 => ⟨S128x8x512, .f32⟩
  | 57 => ⟨S_, .i1⟩
  | 58 => ⟨S8x8, .i1⟩
  | 59 => ⟨S8x8, .i32⟩
  | 60 => ⟨S_, .i32⟩
  | 61 => ⟨S8x8, .i32⟩
  | 62 => ⟨S8x8, .i32⟩
  | 63 => ⟨S8x8, .i32⟩
  | 64 => ⟨S8x8, .i1⟩
  | 65 => ⟨S_, .i1⟩
  | 66 => ⟨S8x8, .i1⟩
  | 67 => ⟨S8x8, .i1⟩
  | 68 => ⟨S1x8x8, .i1⟩
  | 69 => ⟨S4x8x8, .f32⟩
  | 70 => ⟨S_, .f32⟩
  | 71 => ⟨S_, .f32⟩
  | 72 => ⟨S4x8x8, .i1⟩
  | 73 => ⟨S4x8x8, .f32⟩
  | 74 => ⟨S4x8x8, .f32⟩
  | 75 => ⟨S128x1x8x4x128, .f32⟩
  | 76 => ⟨S4x128x1x128x8, .f32⟩
  | 77 => ⟨S128x1x8x4x128, .f32⟩
  | 78 => ⟨S4x8, .f32⟩
  | 79 => ⟨S8x4, .f32⟩
  | 80 => ⟨S1x1x8x4x1, .f32⟩
  | 81 => ⟨S128x1x8x4x128, .f32⟩
  | 82 => ⟨S128x1x8x4x128, .f32⟩
  | 83 => ⟨S128x8x512, .f32⟩
  | 84 => ⟨S128x8x512, .f32⟩
  | 85 => ⟨S128x8x512, .f32⟩
  | 86 => ⟨S128x8x512, .f32⟩
  | 87 => ⟨S128x8x512, .f32⟩
  | 88 => ⟨S128x8x512, .f32⟩
  | 89 => ⟨S128x10x512, .f32⟩
  | 90 => ⟨S128x8x512, .f32⟩
  | 91 => ⟨S1x512, .f32⟩
  | 92 => ⟨S512, .f32⟩
  | 93 => ⟨S1x1x512, .f32⟩
  | 94 => ⟨S128x8x512, .f32⟩
  | 95 => ⟨S128x8x512, .f32⟩
  | 96 => ⟨S128x8x512, .f32⟩
  | 97 => ⟨S1x512, .f32⟩
  | 98 => ⟨S512, .f32⟩
  | 99 => ⟨S1x1x512, .f32⟩
  | 100 => ⟨S128x8x512, .f32⟩
  | 101 => ⟨S128x8x512, .f32⟩
  | 102 => ⟨S128x8x512, .f32⟩
  | 103 => ⟨S128x8x512, .f32⟩
  | 104 => ⟨S1x512, .f32⟩
  | 105 => ⟨S512, .f32⟩
  | 106 => ⟨S1x1x512, .f32⟩
  | 107 => ⟨S128x8x512, .f32⟩
  | 108 => ⟨S128x8x512, .f32⟩
  | 109 => ⟨S128x8x512, .f32⟩
  | 110 => ⟨S128x8x512, .f32⟩
  | 111 => ⟨S128x8x1024, .f32⟩
  | 112 => ⟨S128x8x1024, .f32⟩
  | 113 => ⟨S128x2x512, .f32⟩
  | 114 => ⟨S16384x1024, .f32⟩
  | 115 => ⟨S1024x1024, .f32⟩
  | 116 => ⟨S17408x1024, .f32⟩
  | 117 => ⟨S17408x1024, .f32⟩
  | 118 => ⟨S1024x512, .f32⟩
  | _ => ⟨S17408x1024, .f32⟩

abbrev hbmTy (i : Nat) : BufTy := match i / 128 with
  | 0 => hbmTy0_0 i
  | 1 => hbmTy0_1 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c : Ref sig .tc := ⟨.hbm, 83, rfl⟩
abbrev main_v61 : Ref sig .tc := ⟨.hbm, 84, rfl⟩
abbrev main_call0_v0 : Ref sig .tc := ⟨.hbm, 85, rfl⟩
abbrev main_call0_c : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_c_0 : Ref sig .tc := ⟨.hbm, 91, rfl⟩
abbrev main_call0_v5 : Ref sig .tc := ⟨.hbm, 92, rfl⟩
abbrev main_v62 : Ref sig .tc := ⟨.hbm, 93, rfl⟩
abbrev main_v63 : Ref sig .tc := ⟨.hbm, 94, rfl⟩
abbrev main_cst_11 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_12 : Ref sig .tc := ⟨.hbm, 143, rfl⟩
abbrev main_v108 : Ref sig .tc := ⟨.hbm, 144, rfl⟩
abbrev main_v109 : Ref sig .tc := ⟨.hbm, 145, rfl⟩
abbrev main_cst_13 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_14 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_15 : Ref sig .tc := ⟨.hbm, 156, rfl⟩
abbrev main_v118 : Ref sig .tc := ⟨.hbm, 157, rfl⟩
abbrev main_v119 : Ref sig .tc := ⟨.hbm, 158, rfl⟩
abbrev main_cst_16 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_17 : Ref sig .tc := ⟨.hbm, 165, rfl⟩
abbrev main_v125 : Ref sig .tc := ⟨.hbm, 166, rfl⟩
abbrev main_v126 : Ref sig .tc := ⟨.hbm, 167, rfl⟩
abbrev main_cst_18 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_19 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_c_20 : Ref sig .tc := ⟨.hbm, 185, rfl⟩
abbrev main_v142 : Ref sig .tc := ⟨.hbm, 186, rfl⟩
abbrev main_call2_v0 : Ref sig .tc := ⟨.hbm, 187, rfl⟩
abbrev main_call2_c : Ref sig .tc := ⟨.hbm, 188, rfl⟩
abbrev main_call2_v1 : Ref sig .tc := ⟨.hbm, 189, rfl⟩
abbrev main_call2_v2 : Ref sig .tc := ⟨.hbm, 190, rfl⟩
abbrev main_call2_v3 : Ref sig .tc := ⟨.hbm, 191, rfl⟩
abbrev main_call2_v4 : Ref sig .tc := ⟨.hbm, 192, rfl⟩
abbrev main_call2_c_0 : Ref sig .tc := ⟨.hbm, 193, rfl⟩
abbrev main_call2_v5 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_cst_21 : Ref sig .tc := ⟨.hbm, 198, rfl⟩
abbrev main_call3_v0 : Ref sig .tc := ⟨.hbm, 199, rfl⟩
abbrev main_call3_v1 : Ref sig .tc := ⟨.hbm, 200, rfl⟩
abbrev main_call3_v2 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩

abbrev nD : Nat := 1
abbrev τ : Topo := Topo.v7x

variable {F : FTy → Type} [FloatOps F]
-- ==== Proof.Math.lean ====
/-
  The feed-forward layer and the norm, one row of tokens at a time, over the extended reals: what both programs compute.
-/
module

public import Idealize.ShloMosaic.PureOps.Ideal
public import Idealize.ShloMosaic.Lib.Pointwise

@[expose] public section

noncomputable section

namespace Cert.FfnFinal

open Idealize.ShloMosaic

/-- A matrix's index is the pair of its coordinates. -/
theorem pair_eq {n0 n1 : ℕ} (j : Shape.Idx ⟨2, ![n0, n1]⟩) : j = ix2 (j 0) (j 1) := by
  funext a; fin_cases a <;> rfl

/-- The reciprocal root of a row's mean square, the small constant added. -/
def rootMean (x : Fin 1024 → EReal) : EReal :=
  Ideal.rsqrt (Ideal.div (∑ k, x k * x k) (Ideal.ofBits .f32 0x44800000#32) + Ideal.ofBits .f32 0x358637BD#32)

/-- The norm of a row, under a gain. -/
def normRow (x g : Fin 1024 → EReal) (k : Fin 1024) : EReal := x k * rootMean x * g k

/-- One hidden unit: the gate's product under silu, times the up product. -/
def hidden (h u v : Fin 1024 → EReal) : EReal :=
  (∑ k, h k * u k) * Ideal.logistic (∑ k, h k * u k) * ∑ k, h k * v k

/-- The feed-forward layer's product at one column of the output. -/
def ffn (h : Fin 1024 → EReal) (wg wu : Fin 1024 → Fin 2816 → EReal) (wd : Fin 2816 → EReal) : EReal :=
  ∑ j, hidden h (fun k => wg k j) (fun k => wu k j) * wd j

/-- A row after the layer: half of the feed-forward layer of its norm added to it. -/
def layerRow (x g : Fin 1024 → EReal) (wg wu : Fin 1024 → Fin 2816 → EReal) (wd : Fin 2816 → Fin 1024 → EReal) (c : Fin 1024) : EReal :=
  x c + Ideal.ofBits .f32 0x3F000000#32 * ffn (normRow x g) wg wu fun j => wd j c

/-- A row of the result: the last norm of the row after the layer. -/
def finalRow (x g : Fin 1024 → EReal) (wg wu : Fin 1024 → Fin 2816 → EReal) (wd : Fin 2816 → Fin 1024 → EReal) (fg : Fin 1024 → EReal)
    (c : Fin 1024) : EReal :=
  normRow (layerRow x g wg wu wd) fg c

/-- The hidden layer summed as two blocks. -/
theorem ffn_split (h : Fin 1024 → EReal) (wg wu : Fin 1024 → Fin 2816 → EReal) (wd : Fin 2816 → EReal) :
    (∑ j : Fin 1536, hidden h (fun k => wg k ⟨j.val, by omega⟩) (fun k => wu k ⟨j.val, by omega⟩) * wd ⟨j.val, by omega⟩)
      + (∑ j : Fin 1280, hidden h (fun k => wg k ⟨1536 + j.val, by omega⟩) (fun k => wu k ⟨1536 + j.val, by omega⟩) * wd ⟨1536 + j.val, by omega⟩)
      = ffn h wg wu wd :=
  (Fin.sum_univ_add (a := 1536) (b := 1280) (M := EReal) fun j : Fin (1536 + 1280) => hidden h (fun k => wg k j) (fun k => wu k j) * wd j).symm

end Cert.FfnFinal

end
-- ==== Proof.Rows.lean ====
/-
  Two pieces of 512 rows make a block of 1024 rows, and two stores under a mask that is one
  scalar everywhere leave either the stacked pieces (scalar true) or the block as it was (scalar false).
-/
module

public import proofs.«01_k».proof.Proof.Gen.KernelIdeal.Frame
public import proofs.«01_k».proof.Proof.Gen.KernelIdeal.Skeleton
public import Idealize.ShloMosaic.Lib.ValueIdxCore

@[expose] public section

noncomputable section

namespace Cert.FfnFinal

open Idealize.ShloMosaic Idealize.ShloMosaic.ValueIdx
open Cert.KernelIdeal Cert.KernelIdeal.Gen

/-- The block whose first 512 rows are `A` and whose last 512 rows are `B`. -/
def stackRows {α : Type} (A B : S512x1024.Idx → α) : S1024x1024.Idx → α := fun j =>
  if h : (j 0).val < 512 then A (ix2 ⟨(j 0).val, h⟩ (j 1))
  else B (ix2 ⟨(j 0).val - 512, by have := (j 0).isLt; change (j 0).val < 1024 at this; omega⟩ (j 1))

/-- A mask that holds one word everywhere selects every index or none. -/
theorem on_of_forall {s : Shape} (m : IVec s 1) (b : BitVec 1) (h : ∀ x, m x = b) :
    IVec.on m = if b = 1 then Finset.univ else ∅ := by
  unfold IVec.on
  by_cases hb : b = 1
  · rw [if_pos hb]; exact Finset.filter_true_of_mem fun x _ => (h x).trans hb
  · rw [if_neg hb]; exact Finset.filter_false_of_mem fun x _ => by rw [h x]; exact hb

section Stores

variable {Val : EltTy → Type} {κ : Kind} {sp : Space} (v : View sig κ sp S1024x1024 .f32) (f : v.ty.Contents Val)

/-- The first and the last 512 rows of a block. -/
abbrev rTop : Rect S1024x1024 := Rect.unit ![0, 0] S512x1024.size inb_S1024x1024_S512x1024_0_0
abbrev rBot : Rect S1024x1024 := Rect.unit ![512, 0] S512x1024.size inb_S1024x1024_S512x1024_512_0

/-- Storing `A` over the first rows and then `B` over the last leaves the two stacked. -/
theorem read_stack (A B : S512x1024.Idx → Val .f32) :
    v.read Val ((v.slice rBot).write Val ((v.slice rTop).write Val f A Finset.univ) B Finset.univ) = stackRows A B := by
  funext j
  unfold stackRows
  by_cases h : (j 0).val < 512
  · rw [dif_pos h, View.read_slice_write_of_not_mem]
    · have e : j = rTop.emb (ix2 (n0 := 512) (n1 := 1024) ⟨(j 0).val, h⟩ (j 1)) := by
        funext a; apply Fin.ext; rw [Rect.emb_apply]; fin_cases a
        · show (j 0).val = 0 + 1 * (j 0).val; omega
        · show (j 1).val = 0 + 1 * (j 1).val; omega
      conv_lhs => rw [e]
      exact View.read_slice_write_emb (v := v) rTop f A (Finset.mem_univ _)
    · intro hm
      obtain ⟨x, -, hx⟩ := Finset.mem_map.mp hm
      have := congrArg (fun k => (k 0).val) hx
      simp only [Rect.emb_apply] at this
      change 512 + 1 * (x 0).val = (j 0).val at this
      omega
  · have hj : (j 0).val < 1024 := (j 0).isLt
    rw [dif_neg h]
    have e : j = rBot.emb (ix2 (n0 := 512) (n1 := 1024) ⟨(j 0).val - 512, by omega⟩ (j 1)) := by
      funext a; apply Fin.ext; rw [Rect.emb_apply]; fin_cases a
      · show (j 0).val = 512 + 1 * ((j 0).val - 512); omega
      · show (j 1).val = 0 + 1 * (j 1).val; omega
    conv_lhs => rw [e]
    exact View.read_slice_write_emb (v := v) rBot _ B (Finset.mem_univ _)

/-- The two stores under masks that hold the word `b` everywhere. -/
theorem read_masked (A B : S512x1024.Idx → Val .f32) (b : BitVec 1) (m₁ m₂ : IVec S512x1024 1)
    (h₁ : ∀ x, m₁ x = b) (h₂ : ∀ x, m₂ x = b) :
    v.read Val ((v.slice rBot).write Val ((v.slice rTop).write Val f A (IVec.on m₁)) B (IVec.on m₂))
      = if b = 1 then stackRows A B else v.read Val f := by
  have e₁ := on_of_forall m₁ b h₁
  have e₂ := on_of_forall m₂ b h₂
  erw [e₁, e₂]
  by_cases hb : b = 1
  · simp only [if_pos hb]; exact read_stack v f A B
  · simp only [if_neg hb]
    exact congrArg _ ((View.write_empty _ _).trans (View.write_empty _ _))

end Stores

/-- The word that tells a tile of prompt tokens from the tile of sample tokens. -/
theorem isPrompt_eq (i : grid0.Coords) :
    (Scalar.cmpi .slt (BitVec.ofNat 32 (i 0).val) 16#32 : BitVec 1) = if (i 0).val < 16 then 1 else 0 := by
  have h : (i 0).val < 17 := (i 0).isLt
  generalize (i 0).val = n at h
  interval_cases n <;> rfl

end Cert.FfnFinal

end
-- ==== Proof.Body.lean ====
module

public import proofs.«01_k».proof.Proof.Rows

@[expose] public section

set_option maxRecDepth 16384

noncomputable section

namespace Cert.FfnFinal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The two blocks of the hidden layer, by columns of the gate and up weights and by rows of the down weight. -/
abbrev hidL : Rect S1024x2816 := Rect.unit ![0, 0] S1024x1536.size inb_S1024x2816_S1024x1536_0_0
abbrev hidR : Rect S1024x2816 := Rect.unit ![0, 1536] S1024x1280.size inb_S1024x2816_S1024x1280_0_1536
abbrev downL : Rect S2816x1024 := Rect.unit ![0, 0] S1536x1024.size inb_S2816x1024_S1536x1024_0_0
abbrev downR : Rect S2816x1024 := Rect.unit ![1536, 0] S1280x1024.size inb_S2816x1024_S1280x1024_1536_0

/-- The gains, whole. -/
abbrev rGain : Rect S1x1x1024 := Rect.unit ![0, 0, 0] S1x1x1024.size inb_S1x1x1024_S1x1x1024_0_0_0
abbrev rLast : Rect S1x1024 := Rect.unit ![0, 0] S1x1024.size inb_S1x1024_S1x1024_0_0

/-- The final rows of one piece of 512 tokens: the feed-forward layer over the two blocks of the hidden
  layer, half of it added to the piece, and the last norm. -/
def rowsOut (x : Vec F S512x1024 .f32) (g : Vec F S1x1x1024 .f32) (wg wu : Vec F S1024x2816 .bf16) (wd : Vec F S2816x1024 .bf16)
    (fg : Vec F S1x1024 .f32) : Vec F S512x1024 .f32 :=
  k0_pay13 x (k0_pay7 x (View.ld g rGain)) (k0_pay8 x (View.ld g rGain) (View.ld wg hidL) (View.ld wu hidL) (View.ld wd downL))
    (k0_pay9 x (View.ld g rGain) (View.ld wg hidR)) (k0_pay10 (View.ld wu hidR)) (constant S512x1280 .f32 0x00000000#32)
    (View.ld wd downR) (View.ld fg rLast)

/-- The final rows of a tile of 1024 tokens, the two pieces stacked. -/
def tileOut (x : Vec F S1024x1024 .f32) (g : Vec F S1x1x1024 .f32) (wg wu : Vec F S1024x2816 .bf16) (wd : Vec F S2816x1024 .bf16)
    (fg : Vec F S1x1024 .f32) : Vec F S1024x1024 .f32 :=
  stackRows (rowsOut (View.ld x rTop) g wg wu wd fg) (rowsOut (View.ld x rBot) g wg wu wd fg)

theorem pay14_apply (b : BitVec 1) (x : S512x1024.Idx) : k0_pay14 b x = b := rfl
theorem pay4_apply (b : BitVec 1) (x : S512x1024.Idx) : k0_pay4 b x = b := rfl
theorem pay16_apply (b : BitVec 1) (x : S512x1024.Idx) : k0_pay16 b x = b ^^^ 1#1 := rfl
theorem pay6_apply (b : BitVec 1) (x : S512x1024.Idx) : k0_pay6 b x = b ^^^ 1#1 := rfl

/-- The word that says the tile is one of prompt tokens, and its negation. -/
theorem ite_isPrompt (i : grid0.Coords) {α : Type} (a b : α) :
    (if (Scalar.cmpi .slt (BitVec.ofNat 32 (i 0).val) 16#32 : BitVec 1) = 1 then a else b) = if (i 0).val < 16 then a else b := by
  rw [isPrompt_eq]; by_cases h : (i 0).val < 16
  · simp only [if_pos h, if_true]
  · simp only [if_neg h]; exact if_neg (by decide)

theorem ite_not_isPrompt (i : grid0.Coords) {α : Type} (a b : α) :
    (if (Scalar.cmpi .slt (BitVec.ofNat 32 (i 0).val) 16#32 : BitVec 1) ^^^ 1#1 = 1 then a else b) = if (i 0).val < 16 then b else a := by
  rw [isPrompt_eq]; by_cases h : (i 0).val < 16
  · simp only [if_pos h]; exact if_neg (by decide)
  · simp only [if_neg h]; exact if_pos (by decide)

set_option maxHeartbeats 1000000 in
/-- One run of the body: a tile of prompt tokens leaves its rows in the first result's block and the second
  result's block as it was, the tile of sample tokens the other way round. -/
theorem body_run (c : Dev nD) (i : grid0.Coords)
    (arg1 : Memref sig .tc .vmem S1024x1024 .f32) (harg1 : arg1.IsWhole) (arg2 : Memref sig .tc .vmem S1x1x1024 .f32) (harg2 : arg2.IsWhole)
    (arg3 : Memref sig .tc .vmem S1024x2816 .bf16) (harg3 : arg3.IsWhole) (arg4 : Memref sig .tc .vmem S1024x2816 .bf16) (harg4 : arg4.IsWhole)
    (arg5 : Memref sig .tc .vmem S2816x1024 .bf16) (harg5 : arg5.IsWhole) (arg6 : Memref sig .tc .vmem S1x1024 .f32) (harg6 : arg6.IsWhole)
    (arg7 : Memref sig .tc .vmem S1024x1024 .f32) (harg7 : arg7.IsWhole) (arg8 : Memref sig .tc .vmem S1024x1024 .f32) (harg8 : arg8.IsWhole)
    (x0 : Vec F S1024x1024 .f32) (x1 : Vec F S1x1x1024 .f32) (x2 : Vec F S1024x2816 .bf16) (x3 : Vec F S1024x2816 .bf16)
    (x4 : Vec F S2816x1024 .bf16) (x5 : Vec F S1x1024 .f32) (y6 y7 : Vec F S1024x1024 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare y6 ∗ owns (c : Thread nD τ) arg8 fullShare y7
        ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare (if (i 0).val < 16 then tileOut x0 x1 x2 x3 x4 x5 else y6)
          ∗ owns (c : Thread nD τ) arg8 fullShare (if (i 0).val < 16 then y7 else tileOut x0 x1 x2 x3 x4 x5)) -∗ K ⟨⟩))
      ⊢ wp frame (wpE (defs₀ (F := F)) Variants.none c none) E
          (cc0_ffn_final i arg1 harg1 arg2 harg2 arg3 harg3 arg4 harg4 arg5 harg5 arg6 harg6 arg7 harg7 arg8 harg8) K := by
  simp only [cc0_ffn_final_eq_skeleton]; unfold cc0_ffn_final_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := hf0; obtain rfl := hf1; obtain rfl := hf2; obtain rfl := hf3
  obtain rfl := hf4; obtain rfl := hf5; obtain rfl := hf6; obtain rfl := hf7
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr
    · ipureintro
      exact (read_masked (Val := Elt F) arg7.view f6 _ _ _ _ _ (pay14_apply _) (pay4_apply _)).trans (ite_isPrompt i _ _)
    iexact H6
  · iexists _; isplitr
    · ipureintro
      exact (read_masked (Val := Elt F) arg8.view f7 _ _ _ _ _ (pay16_apply _) (pay6_apply _)).trans (ite_not_isPrompt i _ _)
    iexact H7

end Cert.FfnFinal

end
-- ==== Proof.KernelValue.lean ====
/-
  What the kernel's body computes, read row by row.
-/
module

public import proofs.«01_k».proof.Proof.Math
public import proofs.«01_k».proof.Proof.Body
public import Idealize.ShloMosaic.Lib.Pointwise

@[expose] public section

set_option maxRecDepth 16384

noncomputable section

namespace Cert.FfnFinal

open Idealize.ShloMosaic Idealize.ShloMosaic.Tactic
open Cert.KernelIdeal Cert.KernelIdeal.Gen

/-- The norm of a row of the tile. -/
theorem pay7_apply (x : Vec Ideal S512x1024 .f32) (g : Vec Ideal S1x1x1024 .f32) (r : Fin 512) (k : Fin 1024) :
    k0_pay7 x g (ix2 r k) = normRow (fun k => x (ix2 r k)) (fun k => g (ix3 0 0 k)) k := by
  pointwise [k0_pay7, normRow, rootMean]

/-- The first block of the hidden layer. -/
theorem pay8_apply (x : Vec Ideal S512x1024 .f32) (g : Vec Ideal S1x1x1024 .f32) (a b : Vec Ideal S1024x1536 .bf16)
    (w : Vec Ideal S1536x1024 .bf16) (r : Fin 512) (c : Fin 1024) :
    k0_pay8 x g a b w (ix2 r c)
      = ∑ j : Fin 1536, hidden (fun k => k0_pay7 x g (ix2 r k)) (fun k => a (ix2 k j)) (fun k => b (ix2 k j)) * w (ix2 j c) := by
  pointwise [k0_pay8, hidden]

/-- The second block, the half-weighted residual and the last norm. -/
theorem pay13_apply (x : Vec Ideal S512x1024 .f32) (h : Vec Ideal S512x1024 .bf16) (p : Vec Ideal S512x1024 .f32) (s : Vec Ideal S512x1280 .f32)
   (b : Vec Ideal S1024x1280 .bf16) (w : Vec Ideal S1280x1024 .bf16) (fg : Vec Ideal S1x1024 .f32) (r : Fin 512) (c : Fin 1024) :
    k0_pay13 x h p s b (constant S512x1280 .f32 0x00000000#32) w fg (ix2 r c)
      = normRow (fun c => x (ix2 r c) + Ideal.ofBits .f32 0x3F000000#32 * (p (ix2 r c)
          + ∑ j : Fin 1280, s (ix2 r j) * Ideal.logistic (s (ix2 r j)) * (∑ k, h (ix2 r k) * b (ix2 k j)) * w (ix2 j c)))
          (fun c => fg (ix2 0 c)) c := by
  pointwise [k0_pay13, k0_pay11, normRow, rootMean]
/-- The gate of the second block. -/
theorem pay9_apply (x : Vec Ideal S512x1024 .f32) (g : Vec Ideal S1x1x1024 .f32) (a : Vec Ideal S1024x1280 .bf16)
    (r : Fin 512) (j : Fin 1280) :
    k0_pay9 x g a (ix2 r j) = ∑ k, k0_pay7 x g (ix2 r k) * a (ix2 k j) := by
  pointwise [k0_pay9]

theorem pay10_apply (b : Vec Ideal S1024x1280 .bf16) (k : Fin 1024) (j : Fin 1280) : k0_pay10 b (ix2 k j) = b (ix2 k j) := by
  pointwise [k0_pay10]

/-- A row of half a tile's output. -/
theorem rowsOut_apply (x : Vec Ideal S512x1024 .f32) (g : Vec Ideal S1x1x1024 .f32) (wg wu : Vec Ideal S1024x2816 .bf16)
    (wd : Vec Ideal S2816x1024 .bf16) (fg : Vec Ideal S1x1024 .f32) (r : Fin 512) (c : Fin 1024) :
    rowsOut x g wg wu wd fg (ix2 r c)
      = finalRow (fun k => x (ix2 r k)) (fun k => g (ix3 0 0 k)) (fun k j => wg (ix2 k j)) (fun k j => wu (ix2 k j))
          (fun j c => wd (ix2 j c)) (fun k => fg (ix2 0 k)) c := by
  unfold rowsOut
  rw [pay13_apply]
  simp only [pay8_apply, pay9_apply, pay10_apply, pay7_apply]
  have hl (w : Vec Ideal S1024x2816 .bf16) (k : Fin 1024) (j : Fin 1536) : View.ld w hidL (ix2 k j) = w (ix2 k ⟨j.val, by omega⟩) := by
    pointwise [hidL]
  have hr (w : Vec Ideal S1024x2816 .bf16) (k : Fin 1024) (j : Fin 1280) : View.ld w hidR (ix2 k j) = w (ix2 k ⟨1536 + j.val, by omega⟩) := by
    pointwise [hidR]
  have dl (k : Fin 1024) (j : Fin 1536) : View.ld wd downL (ix2 j k) = wd (ix2 ⟨j.val, by omega⟩ k) := by
    pointwise [downL]
  have dr (k : Fin 1024) (j : Fin 1280) : View.ld wd downR (ix2 j k) = wd (ix2 ⟨1536 + j.val, by omega⟩ k) := by
    pointwise [downR]
  have hg (k : Fin 1024) : View.ld g rGain (ix3 0 0 k) = g (ix3 0 0 k) := by pointwise [rGain]
  have hf (k : Fin 1024) : View.ld fg rLast (ix2 0 k) = fg (ix2 0 k) := by pointwise [rLast]
  simp only [hl wg, hl wu, hr wg, hr wu, dl, dr, hg, hf]
  unfold finalRow layerRow
  simp only [← ffn_split]
  rfl

end Cert.FfnFinal

end
-- ==== Proof.Run.lean ====
/-
  The run of the kernel: what each point of the grid leaves in the two results' blocks, and what the two result
  arrays hold at the end. The blocks of the results are held to a relation, since the second result's block is not
  written before the last point.
-/
module

public import proofs.«01_k».proof.Proof.Body
public import proofs.«01_k».proof.Proof.Gen.KernelIdeal.Points
public import Idealize.ShloMosaic.Lib.Pipeline.DatRel
public import Idealize.ShloMosaic.Lib.Pipeline.ArrRel
public import Idealize.ShloMosaic.Lib.Pipeline.ValueKit
public import Idealize.ShloMosaic.Lib.Claim

@[expose] public section

set_option maxRecDepth 16384

noncomputable section

namespace Cert.FfnFinal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows that the body computes at point `t`. -/
def tileAt (c : Dev nD) (t : Fin cfg0.N) : Vec F S1024x1024 .f32 :=
  tileOut (iblk m c 0 t) (iblk m c 1 t) (iblk m c 2 t) (iblk m c 3 t) (iblk m c 4 t) (iblk m c 5 t)

/-- The last tile of prompt tokens at or before point `t`. -/
def promptOf (t : Fin cfg0.N) : Fin cfg0.N := ⟨min t.val 15, lt_of_le_of_lt (min_le_left _ _) t.isLt⟩

/-- The two windows of the results. -/
def isOut : Fin 8 → Bool := fun w => w.val == 6 || w.val == 7

/-- What the results' blocks hold after point `t`: the first, its last tile of prompt tokens; the second, at the
    last point, the tile of sample tokens. -/
def leaves (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun X => X = tileAt m c (promptOf t)
  | ⟨7, _⟩ => fun X => t.val = 16 → X = tileAt m c t

/-- The exact part of the proof data: each operand's block stays as it was staged. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data, the results' windows held to `leaves`. -/
abbrev rdat (c : Dev nD) : RDat τ (Elt F) Unit ℕ (UR sig nD τ) ℕ cfg0 c := (dats m 0 c).toRRel isOut (leaves m c)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem coords_val : ∀ t : Fin grid0.N, (grid0.coords t 0).val = t.val := by decide +kernel

/-- The first result's window is not fetched, and its block of the last prompt tile is not written back before the end. -/
theorem fetch_6 (t : Fin cfg0.N) : (cfg0.win 6).fetch t = false := rfl
theorem flush_6_15 : (cfg0.win 6).flush ⟨15, by decide⟩ = false := (by decide +kernel : win0_6.flush ⟨15, by decide⟩ = false)

/-- At the last point the body finds the last prompt tile in the first result's block. -/
theorem finds_6 (c : Dev nD) (t : Fin cfg0.N) (ht : ¬ t.val < 16) (Y : S1024x1024.Idx → Elt F .f32)
    (h : (rdat m c).Finds 6 t Y) : Y = tileAt m c (promptOf t) := by
  have h17 : t.val < 17 := lt_of_lt_of_eq t.isLt N_0
  obtain ⟨n, hn⟩ := t
  obtain rfl : n = 16 := by simp only at ht h17; omega
  rcases (RDat.finds_of_pos (rd := rdat m c) (fetch_6 _) (by show (16:ℕ) ≠ 0; decide) Y).mp h with hf | hl
  · exact absurd (hf.symm.trans flush_6_15) (by decide)
  · exact Dat.toRRel_leaves (dat := dats m 0 c) (w := 6) rfl hl

/-- What the body leaves in the first result's block, -/
theorem left_6 (c : Dev nD) (t : Fin cfg0.N) (Y : S1024x1024.Idx → Elt F .f32) (h : (rdat m c).Finds 6 t Y) :
    (if (grid0.coords t 0).val < 16 then tileAt m c t else Y) = tileAt m c (promptOf t) := by
  rw [coords_val]
  by_cases ht : t.val < 16
  · rw [if_pos ht]; congr 1; apply Fin.ext; exact (min_eq_left (by omega)).symm
  · rw [if_neg ht]; exact finds_6 m c t ht Y h

/-- and in the second's. -/
theorem left_7 (c : Dev nD) (t : Fin cfg0.N) (Y : S1024x1024.Idx → Elt F .f32) (h16 : t.val = 16) :
    (if (grid0.coords t 0).val < 16 then Y else tileAt m c t) = tileAt m c t := by
  rw [coords_val, if_neg (by omega)]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜leaves m c 6 t X⌝ ∗ owns (c : Thread nD τ) (st0_6 t) fullShare X)
    ∗ (∃ X, ⌜leaves m c 7 t X⌝ ∗ owns (c : Thread nD τ) (st0_7 t) fullShare X))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩, ⟨%d6, %h6, H6⟩, ⟨%d7, %h7, H7⟩⟩
  iapply (body_run c (grid0.coords t) _ _ _ _ _ _ _ _ _ _ _ _ _ _ _ _ (iblk m c 0 t) (iblk m c 1 t) (iblk m c 2 t) (iblk m c 3 t) (iblk m c 4 t) (iblk m c 5 t) d6 d7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    · ipureintro; exact left_6 m c t d6 h6
    iexact H6
  · iexists _; isplitr
    · ipureintro; exact fun h16 => left_7 m c t d7 h16
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ isOut (leaves m c) := fun t => by
  rw [bigSep_W0, bigSep_W0, defs₀_row]
  exact triple_restated (sound_body m c t) rfl .rfl fun _ => .rfl

set_option backward.isDefEq.respectTransparency.types false in
/-- The launch, with every counter back at zero. -/
theorem run_main : θ_run defs (onTc (τ := τ) (main (F := F))) (s₀ m ρ)
    (fun r => RDat.FramePost (cfgs 0) (rdat m) (V m) r ∧ r.2.sem = fun _ => 0) :=
  RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)
    (hQ' := fun _ h => h)

/-- The first result: row `r` is row `r % 1024` of tile `r / 1024`. -/
def out0 (c : Dev nD) : Vec F S16384x1024 .f32 := fun j =>
  tileAt m c ⟨(j 0).val / 1024, by have := (j 0).isLt; change (j 0).val < 16384 at this; exact lt_of_lt_of_eq (b := 17) (by omega) N_0.symm⟩
    (ValueIdx.ix2 ⟨(j 0).val % 1024, Nat.mod_lt _ (by decide)⟩ (j 1))

/-- The second result: the tile of sample tokens. -/
def out1 (c : Dev nD) : Vec F S1024x1024 .f32 := tileAt m c ⟨16, by decide⟩

theorem index_6 : ∀ t : Fin grid0.N, win0_6.index t = ![min t.val 15, 0] := by decide +kernel

theorem result0 {r : PUnit × MemSt nD τ sig (Elt F)} (h : RDat.FramePost (cfgs 0) (rdat m) (V m) r) (c : Dev nD) :
    r.2.mem ((c.tc : Thread nD τ).loc main_v11_0) = out0 m c := by
  obtain ⟨after, hL, hM⟩ := RDat.FramePost.exists_exact h c
  refine (hM 6).trans ?_
  refine Pipeline.Dat.arrAt_eq_of_covers (cfg := cfg0) _ 6 (out0 m c) (by decide +kernel) fun t hf y => ?_
  have hX : after 6 t = tileAt m c (promptOf t) := Dat.toRRel_leaves (dat := dats m 0 c) (w := 6) rfl (hL 6 t hf)
  have hy : (y 0).val < 1024 := (y 0).isLt
  have e : ((cfg0.win 6).blk t).view.emb y = ValueIdx.ix2 (n0 := 16384) (n1 := 1024) ⟨min t.val 15 * 1024 + (y 0).val, by omega⟩ (y 1) := by
    funext a; apply Fin.ext; fin_cases a
    · blk_simp [index_6 t]; rfl
    · blk_simp [index_6 t]; rfl
  refine (congrFun hX y).trans (Eq.trans ?_ (congrArg (out0 m c) e).symm)
  unfold out0 promptOf
  have hq : (min t.val 15 * 1024 + (y 0).val) / 1024 = min t.val 15 := by omega
  have hr : (min t.val 15 * 1024 + (y 0).val) % 1024 = (y 0).val := by omega
  refine congr (congrArg (tileAt m c) (Fin.ext hq.symm)) ?_
  funext a; apply Fin.ext; fin_cases a
  · exact hr.symm
  · rfl

theorem result1 {r : PUnit × MemSt nD τ sig (Elt F)} (h : RDat.FramePost (cfgs 0) (rdat m) (V m) r) (c : Dev nD) :
    r.2.mem ((c.tc : Thread nD τ).loc main_v11_1) = out1 m c := by
  obtain ⟨after, hL, hM⟩ := RDat.FramePost.exists_exact h c
  refine (hM 7).trans ?_
  have hf : (cfg0.win 7).flush ⟨16, by decide⟩ = true := (flush0_7 _).mpr rfl
  have hX : after 7 ⟨16, by decide⟩ = tileAt m c ⟨16, by decide⟩ := Dat.toRRel_leaves (dat := dats m 0 c) (w := 7) rfl (hL 7 _ hf) rfl
  refine Pipeline.Dat.arrAt_eq_of_after_last (cfg := cfg0) _ 7 ⟨16, by decide⟩ (by decide +kernel) (out1 m c) fun j => ?_
  exact congrFun hX _

/-- The arguments end as they were. -/
theorem unchanged {r : PUnit × MemSt nD τ sig (Elt F)} (h : RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(RDat.FramePost.arr_in h c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

end Cert.FfnFinal

end
-- ==== Proof.KernelOut.lean ====
/-
  The kernel's two results, read row by row off its arguments.
-/
module

public import proofs.«01_k».proof.Proof.KernelValue
public import proofs.«01_k».proof.Proof.Run

@[expose] public section

set_option maxRecDepth 16384

noncomputable section

namespace Cert.FfnFinal

open Idealize.ShloMosaic Idealize.ShloMosaic.TcCoe Idealize.ShloMosaic.Tactic Idealize.SL.Sem
open Cert.KernelIdeal Cert.KernelIdeal.Gen

/-- A row of the first half of a tile, and of the second. -/
theorem read_top (x : Vec Ideal S1024x1024 .f32) (r : Fin 512) (k : Fin 1024) : View.ld x rTop (ix2 r k) = x (ix2 ⟨r.val, by omega⟩ k) := by
  pointwise [rTop]

theorem read_bot (x : Vec Ideal S1024x1024 .f32) (r : Fin 512) (k : Fin 1024) : View.ld x rBot (ix2 r k) = x (ix2 ⟨512 + r.val, by omega⟩ k) := by
  pointwise [rBot]

/-- A row of a tile's output. -/
theorem tileOut_apply (x : Vec Ideal S1024x1024 .f32) (g : Vec Ideal S1x1x1024 .f32) (wg wu : Vec Ideal S1024x2816 .bf16)
    (wd : Vec Ideal S2816x1024 .bf16) (fg : Vec Ideal S1x1024 .f32) (r : Fin 1024) (c : Fin 1024) :
    tileOut x g wg wu wd fg (ix2 r c)
      = finalRow (fun k => x (ix2 r k)) (fun k => g (ix3 0 0 k)) (fun k j => wg (ix2 k j)) (fun k j => wu (ix2 k j))
          (fun j c => wd (ix2 j c)) (fun k => fg (ix2 0 k)) c := by
  unfold tileOut stackRows
  by_cases h : r.val < 512
  · refine (dif_pos h).trans ?_
    refine (congrArg _ (ix2_eq_valueIdx ..).symm).trans ((rowsOut_apply _ _ _ _ _ _ ⟨r.val, h⟩ c).trans ?_)
    simp only [read_top x]
  · refine (dif_neg h).trans ?_
    refine (congrArg _ (ix2_eq_valueIdx ..).symm).trans ((rowsOut_apply _ _ _ _ _ _ ⟨r.val - 512, by omega⟩ c).trans ?_)
    have e : (⟨512 + (r.val - 512), by omega⟩ : Fin 1024) = r := Fin.ext (by show 512 + (r.val - 512) = r.val; omega)
    simp only [read_bot x, e]

variable (m : (ℓ : Loc nD τ sig) → Buf (Elt Ideal) ℓ) (c : Dev nD)

/-! The arrays that the call is given, in terms of the arguments. -/

theorem gain_at (k : Fin 1024) : (V m c main_v9 : Vec Ideal S6x1x1024 .f32) (ix3 5 0 k) = (m ((c : Thread nD τ).loc main_arg1) : Vec Ideal S2x3x1024 .f32) (ix3 1 2 k) := by
  unfold V
  after_results
  pointwise []

theorem gate_at (k : Fin 1024) (j : Fin 2816) : (V m c main_v2 : Vec Ideal S1024x2816 .bf16) (ix2 k j) = (m ((c : Thread nD τ).loc main_arg2) : Vec Ideal S2x2x1024x2816 .f32) (ix4 1 1 k j) := by
  unfold V
  after_results
  pointwise []

theorem up_at (k : Fin 1024) (j : Fin 2816) : (V m c main_v5 : Vec Ideal S1024x2816 .bf16) (ix2 k j) = (m ((c : Thread nD τ).loc main_arg3) : Vec Ideal S2x2x1024x2816 .f32) (ix4 1 1 k j) := by
  unfold V
  after_results
  pointwise []

theorem down_at (j : Fin 2816) (k : Fin 1024) : (V m c main_v8 : Vec Ideal S2816x1024 .bf16) (ix2 j k) = (m ((c : Thread nD τ).loc main_arg4) : Vec Ideal S2x2x2816x1024 .f32) (ix4 1 1 j k) := by
  unfold V
  after_results
  pointwise []

theorem last_at (k : Fin 1024) : (V m c main_v10 : Vec Ideal S1x1024 .f32) (ix2 0 k) = (m ((c : Thread nD τ).loc main_arg5) : Vec Ideal S1024 .f32) (ix1 k) := by
  unfold V
  after_results
  pointwise []

theorem index_1 : ∀ t : Fin grid0.N, win0_1.index t = ![5, 0, 0] := by decide +kernel
theorem index_2 : ∀ t : Fin grid0.N, win0_2.index t = ![0, 0] := by decide +kernel
theorem index_3 : ∀ t : Fin grid0.N, win0_3.index t = ![0, 0] := by decide +kernel
theorem index_4 : ∀ t : Fin grid0.N, win0_4.index t = ![0, 0] := by decide +kernel
theorem index_5 : ∀ t : Fin grid0.N, win0_5.index t = ![0, 0] := by decide +kernel
theorem index_0 : ∀ t : Fin grid0.N, win0_0.index t = ![t.val, 0] := by decide +kernel

/-! The blocks at a point. -/

theorem block0_at (t : Fin cfg0.N) (r k : Fin 1024) :
    (iblk m c 0 t : Vec Ideal S1024x1024 .f32) (ix2 r k)
      = (m ((c : Thread nD τ).loc main_arg0) : Vec Ideal S17408x1024 .f32) (ix2 ⟨t.val * 1024 + r.val, by have := t.isLt; have := N_0; have := lt_of_lt_of_eq t.isLt N_0; omega⟩ k) := by
  refine Eq.trans ?_ (congrFun (V_main_arg0 m c) _)
  refine congrArg (V m c main_arg0) ?_
  funext a; apply Fin.ext; fin_cases a
  · blk_simp [index_0 t]; rfl
  · blk_simp [index_0 t]; rfl

theorem block1_at (t : Fin cfg0.N) (k : Fin 1024) : (iblk m c 1 t : Vec Ideal S1x1x1024 .f32) (ix3 0 0 k) = (V m c main_v9 : Vec Ideal S6x1x1024 .f32) (ix3 5 0 k) := by
  refine congrArg (V m c main_v9) ?_
  funext a; apply Fin.ext; fin_cases a
  · blk_simp [index_1 t]; rfl
  · blk_simp [index_1 t]
  · blk_simp [index_1 t]; rfl

theorem block2_at (t : Fin cfg0.N) (k : Fin 1024) (j : Fin 2816) : (iblk m c 2 t : Vec Ideal S1024x2816 .bf16) (ix2 k j) = (V m c main_v2 : Vec Ideal S1024x2816 .bf16) (ix2 k j) := by
  refine congrArg (V m c main_v2) ?_
  funext a; apply Fin.ext; fin_cases a
  · blk_simp [index_2 t]
  · blk_simp [index_2 t]

theorem block3_at (t : Fin cfg0.N) (k : Fin 1024) (j : Fin 2816) : (iblk m c 3 t : Vec Ideal S1024x2816 .bf16) (ix2 k j) = (V m c main_v5 : Vec Ideal S1024x2816 .bf16) (ix2 k j) := by
  refine congrArg (V m c main_v5) ?_
  funext a; apply Fin.ext; fin_cases a
  · blk_simp [index_3 t]
  · blk_simp [index_3 t]

theorem block4_at (t : Fin cfg0.N) (j : Fin 2816) (k : Fin 1024) : (iblk m c 4 t : Vec Ideal S2816x1024 .bf16) (ix2 j k) = (V m c main_v8 : Vec Ideal S2816x1024 .bf16) (ix2 j k) := by
  refine congrArg (V m c main_v8) ?_
  funext a; apply Fin.ext; fin_cases a
  · blk_simp [index_4 t]
  · blk_simp [index_4 t]

theorem block5_at (t : Fin cfg0.N) (k : Fin 1024) : (iblk m c 5 t : Vec Ideal S1x1024 .f32) (ix2 0 k) = (V m c main_v10 : Vec Ideal S1x1024 .f32) (ix2 0 k) := by
  refine congrArg (V m c main_v10) ?_
  funext a; apply Fin.ext; fin_cases a
  · blk_simp [index_5 t]
  · blk_simp [index_5 t]

/-- Row `r` of tile `t`, as a row of the layer's result. -/
theorem tileAt_apply (t : Fin cfg0.N) (r k : Fin 1024) :
    tileAt m c t (ix2 r k)
      = finalRow (fun k => (m ((c : Thread nD τ).loc main_arg0) : Vec Ideal S17408x1024 .f32) (ix2 ⟨t.val * 1024 + r.val, by have := lt_of_lt_of_eq t.isLt N_0; omega⟩ k))
          (fun k => (m ((c : Thread nD τ).loc main_arg1) : Vec Ideal S2x3x1024 .f32) (ix3 1 2 k))
          (fun k j => (m ((c : Thread nD τ).loc main_arg2) : Vec Ideal S2x2x1024x2816 .f32) (ix4 1 1 k j))
          (fun k j => (m ((c : Thread nD τ).loc main_arg3) : Vec Ideal S2x2x1024x2816 .f32) (ix4 1 1 k j))
          (fun j k => (m ((c : Thread nD τ).loc main_arg4) : Vec Ideal S2x2x2816x1024 .f32) (ix4 1 1 j k))
          (fun k => (m ((c : Thread nD τ).loc main_arg5) : Vec Ideal S1024 .f32) (ix1 k)) k := by
  unfold tileAt
  refine (tileOut_apply _ _ _ _ _ _ r k).trans ?_
  simp only [block0_at, block1_at, block2_at, block3_at, block4_at, block5_at, gain_at m c, gate_at m c, up_at m c, down_at m c, last_at m c]

end Cert.FfnFinal

end
-- ==== Proof.RefValue.lean ====
/-
  The reference's results, read row by row.
-/
module

public import proofs.«01_k».proof.Proof.Math
public import proofs.«01_k».proof.Proof.Gen.ReferenceIdeal.Run
public import proofs.«01_k».proof.Proof.Gen.ReferenceIdeal.Read
public import Idealize.ShloMosaic.Lib.Pointwise

@[expose] public section

set_option maxRecDepth 16384

noncomputable section

namespace Cert.FfnFinal.Ref

open Idealize.ShloMosaic Idealize.ShloMosaic.Tactic
open Cert.ReferenceIdeal Cert.ReferenceIdeal.Gen Cert.ReferenceIdeal.Read

variable (x0 : (⟨S17408x1024, .f32⟩ : BufTy).Contents (Elt Ideal)) (x1 : (⟨S2x3x1024, .f32⟩ : BufTy).Contents (Elt Ideal))
  (x2 x3 : (⟨S2x2x1024x2816, .f32⟩ : BufTy).Contents (Elt Ideal)) (x4 : (⟨S2x2x2816x1024, .f32⟩ : BufTy).Contents (Elt Ideal))
  (x5 : (⟨S1024, .f32⟩ : BufTy).Contents (Elt Ideal))

/-- The norm of a row of tokens. -/
theorem normed (r : Fin 17408) (k : Fin 1024) :
    val_main_v14 x0 x1 (ix2 r k) = normRow (fun k => x0 (ix2 r k)) (fun k => x1 (ix3 1 2 k)) k := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, normRow, rootMean]

theorem weight2 (k : Fin 1024) (j : Fin 2816) : val_main_v16 x2 (ix2 k j) = x2 (ix4 1 1 k j) := by
  pointwise [val_main_v16, val_main_v15]

theorem weight3 (k : Fin 1024) (j : Fin 2816) : val_main_v18 x3 (ix2 k j) = x3 (ix4 1 1 k j) := by
  pointwise [val_main_v18, val_main_v17]

theorem weight4 (k : Fin 2816) (j : Fin 1024) : val_main_v20 x4 (ix2 k j) = x4 (ix4 1 1 k j) := by
  pointwise [val_main_v20, val_main_v19]

/-- One hidden unit of a row. -/
theorem hiddenAt (r : Fin 17408) (j : Fin 2816) :
    val_main_v24 x0 x1 x2 x3 (ix2 r j)
      = hidden (fun k => val_main_v14 x0 x1 (ix2 r k)) (fun k => val_main_v16 x2 (ix2 k j)) (fun k => val_main_v18 x3 (ix2 k j)) := by
  pointwise [val_main_v24, val_main_v23, val_main_v22, val_main_call0_v5, val_main_call0_v4, val_main_call0_v3, val_main_call0_v2,
    val_main_call0_v1, val_main_call0_v0, val_main_call0_cst, val_main_call0_cst_0, val_main_v21, hidden]
  rfl

/-- A row after the layer. -/
theorem layerAt (r : Fin 17408) (c : Fin 1024) :
    val_main_v28 x0 x1 x2 x3 x4 (ix2 r c)
      = x0 (ix2 r c) + Ideal.ofBits .f32 0x3F000000#32 * ∑ j : Fin 2816, val_main_v24 x0 x1 x2 x3 (ix2 r j) * val_main_v20 x4 (ix2 j c) := by
  pointwise [val_main_v28, val_main_v27, val_main_v26, val_main_v25, val_main_cst_2]

/-- The last norm of a row. -/
theorem lastAt (r : Fin 17408) (c : Fin 1024) :
    val_main_v41 x0 x1 x2 x3 x4 x5 (ix2 r c)
      = normRow (fun k => val_main_v28 x0 x1 x2 x3 x4 (ix2 r k)) (fun k => x5 (ix1 k)) c := by
  pointwise [val_main_v41, val_main_v40, val_main_v39, val_main_v38, val_main_v37, val_main_v36, val_main_v35, val_main_v34, val_main_v33,
    val_main_v32, val_main_v31, val_main_v30, val_main_v29, val_main_cst_3, val_main_cst_4, val_main_cst_5, normRow, rootMean]

/-- A row of the reference's result. -/
theorem rowAt (r : Fin 17408) (c : Fin 1024) :
    val_main_v41 x0 x1 x2 x3 x4 x5 (ix2 r c)
      = finalRow (fun k => x0 (ix2 r k)) (fun k => x1 (ix3 1 2 k)) (fun k j => x2 (ix4 1 1 k j)) (fun k j => x3 (ix4 1 1 k j))
          (fun j c => x4 (ix4 1 1 j c)) (fun k => x5 (ix1 k)) c := by
  simp only [lastAt, layerAt, hiddenAt, normed, weight2, weight3, weight4]
  rfl

theorem promptAt (r : Fin 16384) (c : Fin 1024) :
    val_main_v42 x0 x1 x2 x3 x4 x5 (ix2 r c) = val_main_v41 x0 x1 x2 x3 x4 x5 (ix2 ⟨r.val, by omega⟩ c) := by
  pointwise [val_main_v42]

theorem sampleAt (r : Fin 1024) (c : Fin 1024) :
    val_main_v43 x0 x1 x2 x3 x4 x5 (ix2 r c) = val_main_v41 x0 x1 x2 x3 x4 x5 (ix2 ⟨16384 + r.val, by omega⟩ c) := by
  pointwise [val_main_v43]

end Cert.FfnFinal.Ref

end
-- ==== Proof.Equation.lean ====
/-
  The kernel's two results are the reference's, as functions of the arguments.
-/
module

public import proofs.«01_k».proof.Proof.KernelOut
public import proofs.«01_k».proof.Proof.RefValue

@[expose] public section

set_option maxRecDepth 16384

noncomputable section

namespace Cert.FfnFinal

open Idealize.ShloMosaic Idealize.ShloMosaic.TcCoe Idealize.SL.Sem
open Cert.KernelIdeal Cert.KernelIdeal.Gen

variable (m : (ℓ : Loc nD τ sig) → Buf (Elt Ideal) ℓ) (c : Dev nD)

theorem out0_eq :
    out0 m c = Cert.ReferenceIdeal.Read.val_main_v42 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  funext j
  have hj : (j 0).val < 16384 := (j 0).isLt
  rw [pair_eq (n0 := 16384) (n1 := 1024) j]
  refine Eq.trans ?_ ((Ref.promptAt _ _ _ _ _ _ (j 0) (j 1)).trans (Ref.rowAt _ _ _ _ _ _ _ _)).symm
  unfold out0
  refine (congrArg _ (ix2_eq_valueIdx ..).symm).trans ((tileAt_apply m c _ _ _).trans ?_)
  have e : (⟨(j 0).val / 1024 * 1024 + (j 0).val % 1024, by omega⟩ : Fin 17408) = ⟨(j 0).val, by omega⟩ := Fin.ext (Nat.div_add_mod' _ _)
  exact congrArg (fun r => finalRow (fun k => (m ((c : Thread nD τ).loc main_arg0) : Vec Ideal S17408x1024 .f32) (ix2 r k)) _ _ _ _ _ _) e

theorem out1_eq :
    out1 m c = Cert.ReferenceIdeal.Read.val_main_v43 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  funext j
  rw [pair_eq (n0 := 1024) (n1 := 1024) j]
  refine Eq.trans ?_ ((Ref.sampleAt _ _ _ _ _ _ (j 0) (j 1)).trans (Ref.rowAt _ _ _ _ _ _ _ _)).symm
  exact tileAt_apply m c _ _ _

end Cert.FfnFinal

end
-- ==== Proof.FfnValue.lean ====
/-
  The middle feed-forward call: what its body computes, read row by row.
-/
module

public import proofs.«01_k».proof.Proof.Math
public import proofs.«01_k».proof.Proof.Gen.FfnIdeal.Value
public import Idealize.ShloMosaic.Lib.Pointwise

@[expose] public section

set_option maxRecDepth 16384

noncomputable section

namespace Cert.FfnMid

open Idealize.ShloMosaic Idealize.ShloMosaic.Tactic Cert.FfnFinal
open Cert.FfnIdeal Cert.FfnIdeal.Gen

/-- The layer's product in two blocks of hidden units. -/
def inBlocks (h : Fin 1024 → EReal) (a b : Vec Ideal S1024x1536 .bf16) (w : Vec Ideal S1536x1024 .bf16)
    (a' b' : Vec Ideal S1024x1280 .bf16) (w' : Vec Ideal S1280x1024 .bf16) (c : Fin 1024) : EReal :=
  (∑ j : Fin 1536, hidden h (fun k => a (ix2 k j)) (fun k => b (ix2 k j)) * w (ix2 j c))
    + ∑ j : Fin 1280, hidden h (fun k => a' (ix2 k j)) (fun k => b' (ix2 k j)) * w' (ix2 j c)

variable (x : Vec Ideal S512x1024 .f32) (g : Vec Ideal S1x1x1024 .f32) (a b : Vec Ideal S1024x1536 .bf16)
  (w : Vec Ideal S1536x1024 .bf16) (a' b' : Vec Ideal S1024x1280 .bf16) (w' : Vec Ideal S1280x1024 .bf16)

/-- The norm of a row of the first half of the tile. -/
theorem norm_top (r : Fin 512) (k : Fin 1024) :
    k0_pay5 x g (ix2 r k) = normRow (fun k => x (ix2 r k)) (fun k => g (ix3 0 0 k)) k := by
  pointwise [k0_pay5, normRow, rootMean]

theorem layer_top (h : Vec Ideal S512x1024 .bf16) (r : Fin 512) (c : Fin 1024) :
    k0_pay6 x h a b w a' b' w' (ix2 r c)
      = x (ix2 r c) + Ideal.ofBits .f32 0x3F000000#32 * inBlocks (fun k => h (ix2 r k)) a b w a' b' w' c := by
  pointwise [k0_pay6, inBlocks, FfnFinal.hidden]

set_option maxHeartbeats 1600000 in
/-- The product of a row of the second half. -/
theorem layer_bot (r : Fin 512) (c : Fin 1024) :
    k0_pay1 x (k0_pay9 x (k0_pay7 g) (k0_pay8 x) a b w a' b' w') (ix2 r c)
      = x (ix2 r c) + Ideal.ofBits .f32 0x3F000000#32
          * inBlocks (normRow (fun k => x (ix2 r k)) (fun k => g (ix3 0 0 k))) a b w a' b' w' c := by
  pointwise [k0_pay1, k0_pay9, k0_pay7, k0_pay8, inBlocks, FfnFinal.hidden, normRow, rootMean]

/-- The two blocks, read out of the whole weights, are the layer. -/
theorem inBlocks_eq (h : Fin 1024 → EReal) (wg wu : Vec Ideal S1024x2816 .bf16) (wd : Vec Ideal S2816x1024 .bf16) (c : Fin 1024) :
    inBlocks h (View.ld wg r0_6) (View.ld wu r0_6) (View.ld wd r0_7) (View.ld wg r0_8) (View.ld wu r0_8) (View.ld wd r0_9) c
      = ffn h (fun k j => wg (ix2 k j)) (fun k j => wu (ix2 k j)) fun j => wd (ix2 j c) := by
  have hl (w : Vec Ideal S1024x2816 .bf16) (k : Fin 1024) (j : Fin 1536) : View.ld w r0_6 (ix2 k j) = w (ix2 k ⟨j.val, by omega⟩) := by
    pointwise [r0_6]
  have hr (w : Vec Ideal S1024x2816 .bf16) (k : Fin 1024) (j : Fin 1280) : View.ld w r0_8 (ix2 k j) = w (ix2 k ⟨1536 + j.val, by omega⟩) := by
    pointwise [r0_8]
  have dl (k : Fin 1024) (j : Fin 1536) : View.ld wd r0_7 (ix2 j k) = wd (ix2 ⟨j.val, by omega⟩ k) := by
    pointwise [r0_7]
  have dr (k : Fin 1024) (j : Fin 1280) : View.ld wd r0_9 (ix2 j k) = wd (ix2 ⟨1536 + j.val, by omega⟩ k) := by
    pointwise [r0_9]
  unfold inBlocks
  simp only [hl wg, hl wu, hr wg, hr wu, dl, dr]
  exact ffn_split h (fun k j => wg (ix2 k j)) (fun k j => wu (ix2 k j)) fun j => wd (ix2 j c)

theorem gain_ld (g : Vec Ideal S1x1x1024 .f32) (k : Fin 1024) : View.ld g r0_5 (ix3 0 0 k) = g (ix3 0 0 k) := by pointwise [r0_5]

/-- A row of the first half of a tile, and of the second. -/
theorem top_emb (r : Fin 512) (k : Fin 1024) : (r0_4.emb (ix2 r k) : S1024x1024.Idx) = ix2 ⟨r.val, by omega⟩ k := by
  funext a; apply Fin.ext; fin_cases a
  · show 0 + 1 * r.val = r.val; omega
  · show 0 + 1 * k.val = k.val; omega

theorem bot_emb (r : Fin 512) (k : Fin 1024) : (r0_10.emb (ix2 r k) : S1024x1024.Idx) = ix2 ⟨512 + r.val, by omega⟩ k := by
  funext a; apply Fin.ext; fin_cases a
  · show 512 + 1 * r.val = 512 + r.val; omega
  · show 0 + 1 * k.val = k.val; omega

theorem top_ld (x : Vec Ideal S1024x1024 .f32) (r : Fin 512) (k : Fin 1024) : View.ld x r0_4 (ix2 r k) = x (ix2 ⟨r.val, by omega⟩ k) :=
  congrArg x (top_emb r k)

theorem bot_ld (x : Vec Ideal S1024x1024 .f32) (r : Fin 512) (k : Fin 1024) : View.ld x r0_10 (ix2 r k) = x (ix2 ⟨512 + r.val, by omega⟩ k) :=
  congrArg x (bot_emb r k)

variable (X : Vec Ideal S1024x1024 .f32) (G : Vec Ideal S1x1x1024 .f32) (wg wu : Vec Ideal S1024x2816 .bf16) (wd : Vec Ideal S2816x1024 .bf16)
  (s t : Vec Ideal S1x1x64x2816 .f32) (u : Vec Ideal S1x1x176x1024 .f32)

/-- A row of a tile's output. -/
theorem tile_apply (r c : Fin 1024) :
    out0_8 X G wg wu wd s t u (ix2 r c)
      = layerRow (fun k => X (ix2 r k)) (fun k => G (ix3 0 0 k)) (fun k j => wg (ix2 k j)) (fun k j => wu (ix2 k j)) (fun j c => wd (ix2 j c)) c := by
  let G0 : S1024x1024.Idx → EReal := fun y => layerRow (fun k => X (ix2 (y 0) k)) (fun k => G (ix3 0 0 k))
    (fun k j => wg (ix2 k j)) (fun k j => wu (ix2 k j)) (fun j c => wd (ix2 j c)) (y 1)
  have hb (r : Fin 512) (c : Fin 1024) : k0_pay1 (View.ld X r0_10) (k0_pay9 (View.ld X r0_10) (k0_pay7 (View.ld G r0_5)) (k0_pay8 (View.ld X r0_10))
      (View.ld wg r0_6) (View.ld wu r0_6) (View.ld wd r0_7) (View.ld wg r0_8) (View.ld wu r0_8) (View.ld wd r0_9)) (ix2 r c) = G0 (r0_10.emb (ix2 r c)) := by
    refine (layer_bot ..).trans ?_
    rw [bot_emb]
    simp only [inBlocks_eq, gain_ld G, bot_ld X]
    rfl
  have ht (r : Fin 512) (c : Fin 1024) : k0_pay6 (View.ld X r0_4) (k0_pay5 (View.ld X r0_4) (View.ld G r0_5)) (View.ld wg r0_6) (View.ld wu r0_6)
      (View.ld wd r0_7) (View.ld wg r0_8) (View.ld wu r0_8) (View.ld wd r0_9) (ix2 r c) = G0 (r0_4.emb (ix2 r c)) := by
    refine (layer_top ..).trans ?_
    rw [top_emb]
    simp only [inBlocks_eq, norm_top, gain_ld G, top_ld X]
    rfl
  refine View.canon_apply_of_pieces (Val := Elt Ideal) (e := .f32) G0 _ ?_ (ix2 r c) (cover0_8 _ _ _)
  intro pc hpc
  rcases List.mem_cons.mp hpc with rfl | hpc
  · intro z
    rw [pair_eq (n0 := 512) (n1 := 1024) z]
    exact hb _ _
  rcases List.mem_cons.mp hpc with rfl | hpc
  · intro z
    rw [pair_eq (n0 := 512) (n1 := 1024) z]
    exact ht _ _
  nomatch hpc

end Cert.FfnMid

end
-- ==== Proof.FfnRef.lean ====
/-
  The middle layer's reference, read row by row.
-/
module

public import proofs.«01_k».proof.Proof.Math
public import proofs.«01_k».proof.Proof.Gen.FfnReferenceIdeal.Run
public import proofs.«01_k».proof.Proof.Gen.FfnReferenceIdeal.Read
public import Idealize.ShloMosaic.Lib.Pointwise

@[expose] public section

set_option maxRecDepth 16384

noncomputable section

namespace Cert.FfnMid.Ref

open Idealize.ShloMosaic Idealize.ShloMosaic.Tactic
open Cert.FfnFinal Cert.FfnReferenceIdeal Cert.FfnReferenceIdeal.Gen Cert.FfnReferenceIdeal.Read

variable (x0 : (⟨S17408x1024, .f32⟩ : BufTy).Contents (Elt Ideal)) (x1 : (⟨S2x3x1024, .f32⟩ : BufTy).Contents (Elt Ideal))
  (x2 x3 : (⟨S2x2x1024x2816, .f32⟩ : BufTy).Contents (Elt Ideal)) (x4 : (⟨S2x2x2816x1024, .f32⟩ : BufTy).Contents (Elt Ideal))

/-- The norm of a row of tokens. -/
theorem normed (r : Fin 17408) (k : Fin 1024) :
    val_main_v14 x0 x1 (ix2 r k) = normRow (fun k => x0 (ix2 r k)) (fun k => x1 (ix3 1 0 k)) k := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, normRow, rootMean]

theorem weight2 (k : Fin 1024) (j : Fin 2816) : val_main_v16 x2 (ix2 k j) = x2 (ix4 1 0 k j) := by
  pointwise [val_main_v16, val_main_v15]

theorem weight3 (k : Fin 1024) (j : Fin 2816) : val_main_v18 x3 (ix2 k j) = x3 (ix4 1 0 k j) := by
  pointwise [val_main_v18, val_main_v17]

theorem weight4 (k : Fin 2816) (j : Fin 1024) : val_main_v20 x4 (ix2 k j) = x4 (ix4 1 0 k j) := by
  pointwise [val_main_v20, val_main_v19]

/-- One hidden unit of a row. -/
theorem hiddenAt (r : Fin 17408) (j : Fin 2816) :
    val_main_v24 x0 x1 x2 x3 (ix2 r j)
      = FfnFinal.hidden (fun k => val_main_v14 x0 x1 (ix2 r k)) (fun k => val_main_v16 x2 (ix2 k j)) (fun k => val_main_v18 x3 (ix2 k j)) := by
  pointwise [val_main_v24, val_main_v23, val_main_v22, val_main_call0_v5, val_main_call0_v4, val_main_call0_v3, val_main_call0_v2,
    val_main_call0_v1, val_main_call0_v0, val_main_call0_cst, val_main_call0_cst_0, val_main_v21, FfnFinal.hidden]
  rfl

/-- A row after the layer. -/
theorem layerAt (r : Fin 17408) (c : Fin 1024) :
    val_main_v28 x0 x1 x2 x3 x4 (ix2 r c)
      = x0 (ix2 r c) + Ideal.ofBits .f32 0x3F000000#32 * ∑ j : Fin 2816, val_main_v24 x0 x1 x2 x3 (ix2 r j) * val_main_v20 x4 (ix2 j c) := by
  pointwise [val_main_v28, val_main_v27, val_main_v26, val_main_v25, val_main_cst_2]

/-- A row of the reference's first result. -/
theorem rowAt (r : Fin 17408) (c : Fin 1024) :
    val_main_v28 x0 x1 x2 x3 x4 (ix2 r c)
      = layerRow (fun k => x0 (ix2 r k)) (fun k => x1 (ix3 1 0 k)) (fun k j => x2 (ix4 1 0 k j)) (fun k j => x3 (ix4 1 0 k j))
          (fun j c => x4 (ix4 1 0 j c)) c := by
  simp only [layerAt, hiddenAt, normed, weight2, weight3, weight4]
  rfl

/-! The next layer's weights. -/

theorem next2 (k : Fin 1024) (j : Fin 2816) : val_main_v31 x2 (ix2 k j) = x2 (ix4 1 1 k j) := by
  pointwise [val_main_v31, val_main_v30, val_main_v29]

theorem next3 (k : Fin 1024) (j : Fin 2816) : val_main_v34 x3 (ix2 k j) = x3 (ix4 1 1 k j) := by
  pointwise [val_main_v34, val_main_v33, val_main_v32]

theorem next4 (k : Fin 2816) (j : Fin 1024) : val_main_v37 x4 (ix2 k j) = x4 (ix4 1 1 k j) := by
  pointwise [val_main_v37, val_main_v36, val_main_v35]

end Cert.FfnMid.Ref

end
-- ==== Proof.FfnOut.lean ====
/-
  The middle feed-forward call: its four results are the reference's.
-/
module

public import proofs.«01_k».proof.Proof.FfnValue
public import proofs.«01_k».proof.Proof.FfnRef
public import Idealize.ShloMosaic.Lib.Pipeline.ValueKit

@[expose] public section

set_option maxRecDepth 16384

noncomputable section

namespace Cert.FfnMid

open Idealize.ShloMosaic Idealize.ShloMosaic.TcCoe Idealize.ShloMosaic.Tactic Idealize.SL.Sem Cert.FfnFinal
open Cert.FfnIdeal Cert.FfnIdeal.Gen
open Idealize.ShloMosaic.Pipeline (Dat)

variable (m : (ℓ : Loc nD τ sig) → Buf (Elt Ideal) ℓ) (c : Dev nD)

/-! The arrays that the call is given, in terms of the arguments. -/

theorem gain_at (k : Fin 1024) : (V m c main_v9 : Vec Ideal S6x1x1024 .f32) (ix3 3 0 k) = (m ((c : Thread nD τ).loc main_arg1) : Vec Ideal S2x3x1024 .f32) (ix3 1 0 k) := by
  unfold V
  after_results
  pointwise []

theorem gate_at (k : Fin 1024) (j : Fin 2816) : (V m c main_v2 : Vec Ideal S1024x2816 .bf16) (ix2 k j) = (m ((c : Thread nD τ).loc main_arg2) : Vec Ideal S2x2x1024x2816 .f32) (ix4 1 0 k j) := by
  unfold V
  after_results
  pointwise []

theorem up_at (k : Fin 1024) (j : Fin 2816) : (V m c main_v5 : Vec Ideal S1024x2816 .bf16) (ix2 k j) = (m ((c : Thread nD τ).loc main_arg3) : Vec Ideal S2x2x1024x2816 .f32) (ix4 1 0 k j) := by
  unfold V
  after_results
  pointwise []

theorem down_at (j : Fin 2816) (k : Fin 1024) : (V m c main_v8 : Vec Ideal S2816x1024 .bf16) (ix2 j k) = (m ((c : Thread nD τ).loc main_arg4) : Vec Ideal S2x2x2816x1024 .f32) (ix4 1 0 j k) := by
  unfold V
  after_results
  pointwise []

theorem index_0 : ∀ t : Fin grid0.N, win0_0.index t = ![t.val, 0] := by decide +kernel
theorem index_1 : ∀ t : Fin grid0.N, win0_1.index t = ![3, 0, 0] := by decide +kernel
theorem index_2 : ∀ t : Fin grid0.N, win0_2.index t = ![0, 0] := by decide +kernel
theorem index_3 : ∀ t : Fin grid0.N, win0_3.index t = ![0, 0] := by decide +kernel
theorem index_4 : ∀ t : Fin grid0.N, win0_4.index t = ![0, 0] := by decide +kernel
theorem index_5 : ∀ t : Fin grid0.N, win0_5.index t = ![1, 1, min t.val 15, 0] := by decide +kernel
theorem index_6 : ∀ t : Fin grid0.N, win0_6.index t = ![1, 1, min t.val 15, 0] := by decide +kernel
theorem index_7 : ∀ t : Fin grid0.N, win0_7.index t = ![1, 1, min t.val 15, 0] := by decide +kernel
theorem index_8 : ∀ t : Fin grid0.N, win0_8.index t = ![t.val, 0] := by decide +kernel
theorem index_9 : ∀ t : Fin grid0.N, win0_9.index t = ![min t.val 15, 0] := by decide +kernel
theorem index_10 : ∀ t : Fin grid0.N, win0_10.index t = ![min t.val 15, 0] := by decide +kernel
theorem index_11 : ∀ t : Fin grid0.N, win0_11.index t = ![min t.val 15, 0] := by decide +kernel

/-! The blocks at a point. -/

theorem block0_at (t : Fin cfg0.N) (r k : Fin 1024) :
    (iblk m c 0 t : Vec Ideal S1024x1024 .f32) (ix2 r k)
      = (m ((c : Thread nD τ).loc main_arg0) : Vec Ideal S17408x1024 .f32) (ix2 ⟨t.val * 1024 + r.val, by have := lt_of_lt_of_eq t.isLt N_0; omega⟩ k) := by
  refine Eq.trans ?_ (congrFun (V_main_arg0 m c) _)
  refine congrArg (V m c main_arg0) ?_
  funext a; apply Fin.ext; fin_cases a
  · blk_simp [index_0 t]; rfl
  · blk_simp [index_0 t]; rfl

theorem block1_at (t : Fin cfg0.N) (k : Fin 1024) : (iblk m c 1 t : Vec Ideal S1x1x1024 .f32) (ix3 0 0 k) = (V m c main_v9 : Vec Ideal S6x1x1024 .f32) (ix3 3 0 k) := by
  refine congrArg (V m c main_v9) ?_
  funext a; apply Fin.ext; fin_cases a
  · blk_simp [index_1 t]; rfl
  · blk_simp [index_1 t]
  · blk_simp [index_1 t]; rfl

theorem block2_at (t : Fin cfg0.N) (k : Fin 1024) (j : Fin 2816) : (iblk m c 2 t : Vec Ideal S1024x2816 .bf16) (ix2 k j) = (V m c main_v2 : Vec Ideal S1024x2816 .bf16) (ix2 k j) := by
  refine congrArg (V m c main_v2) ?_
  funext a; apply Fin.ext; fin_cases a
  · blk_simp [index_2 t]
  · blk_simp [index_2 t]

theorem block3_at (t : Fin cfg0.N) (k : Fin 1024) (j : Fin 2816) : (iblk m c 3 t : Vec Ideal S1024x2816 .bf16) (ix2 k j) = (V m c main_v5 : Vec Ideal S1024x2816 .bf16) (ix2 k j) := by
  refine congrArg (V m c main_v5) ?_
  funext a; apply Fin.ext; fin_cases a
  · blk_simp [index_3 t]
  · blk_simp [index_3 t]

theorem block4_at (t : Fin cfg0.N) (j : Fin 2816) (k : Fin 1024) : (iblk m c 4 t : Vec Ideal S2816x1024 .bf16) (ix2 j k) = (V m c main_v8 : Vec Ideal S2816x1024 .bf16) (ix2 j k) := by
  refine congrArg (V m c main_v8) ?_
  funext a; apply Fin.ext; fin_cases a
  · blk_simp [index_4 t]
  · blk_simp [index_4 t]

theorem block5_at (t : Fin cfg0.N) (k : Fin 64) (j : Fin 2816) : (iblk m c 5 t : Vec Ideal S1x1x64x2816 .f32) (ix4 0 0 k j)
    = (m ((c : Thread nD τ).loc main_arg2) : Vec Ideal S2x2x1024x2816 .f32) (ix4 1 1 ⟨min t.val 15 * 64 + k.val, by omega⟩ j) := by
  refine Eq.trans ?_ (congrFun (V_main_arg2 m c) _)
  refine congrArg (V m c main_arg2) ?_
  funext a; apply Fin.ext; fin_cases a
  · blk_simp [index_5 t]; rfl
  · blk_simp [index_5 t]; rfl
  · blk_simp [index_5 t]; rfl
  · blk_simp [index_5 t]; rfl

theorem block6_at (t : Fin cfg0.N) (k : Fin 64) (j : Fin 2816) : (iblk m c 6 t : Vec Ideal S1x1x64x2816 .f32) (ix4 0 0 k j)
    = (m ((c : Thread nD τ).loc main_arg3) : Vec Ideal S2x2x1024x2816 .f32) (ix4 1 1 ⟨min t.val 15 * 64 + k.val, by omega⟩ j) := by
  refine Eq.trans ?_ (congrFun (V_main_arg3 m c) _)
  refine congrArg (V m c main_arg3) ?_
  funext a; apply Fin.ext; fin_cases a
  · blk_simp [index_6 t]; rfl
  · blk_simp [index_6 t]; rfl
  · blk_simp [index_6 t]; rfl
  · blk_simp [index_6 t]; rfl

theorem block7_at (t : Fin cfg0.N) (k : Fin 176) (j : Fin 1024) : (iblk m c 7 t : Vec Ideal S1x1x176x1024 .f32) (ix4 0 0 k j)
    = (m ((c : Thread nD τ).loc main_arg4) : Vec Ideal S2x2x2816x1024 .f32) (ix4 1 1 ⟨min t.val 15 * 176 + k.val, by omega⟩ j) := by
  refine Eq.trans ?_ (congrFun (V_main_arg4 m c) _)
  refine congrArg (V m c main_arg4) ?_
  funext a; apply Fin.ext; fin_cases a
  · blk_simp [index_7 t]; rfl
  · blk_simp [index_7 t]; rfl
  · blk_simp [index_7 t]; rfl
  · blk_simp [index_7 t]; rfl

/-! The next layer's weights, block by block. -/

theorem cast9_at (x0 : Vec Ideal S1x1x64x2816 .f32) (k : Fin 64) (j : Fin 2816) : k0_pay2 x0 (ix2 k j) = x0 (ix4 0 0 k j) := by
  pointwise [k0_pay2]
theorem cast10_at (x0 : Vec Ideal S1x1x64x2816 .f32) (k : Fin 64) (j : Fin 2816) : k0_pay3 x0 (ix2 k j) = x0 (ix4 0 0 k j) := by
  pointwise [k0_pay3]
theorem cast11_at (x0 : Vec Ideal S1x1x176x1024 .f32) (k : Fin 176) (j : Fin 1024) : k0_pay4 x0 (ix2 k j) = x0 (ix4 0 0 k j) := by
  pointwise [k0_pay4]

/-- The first result. -/
theorem first_eq :
    (dats m 0 c).arrAt 8 cfg0.N = Cert.FfnReferenceIdeal.Read.val_main_v28 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine Pipeline.Dat.arrAt_eq_of_covers (cfg := cfg0) _ 8 _ (by decide +kernel) fun t hf y => ?_
  blk_simp
  rw [after0_8]
  rw [pair_eq (n0 := 1024) (n1 := 1024) y]
  refine (tile_apply ..).trans ?_
  have e : ((win0_8.blk t).view.emb (ix2 (y 0) (y 1)) : S17408x1024.Idx)
      = ix2 ⟨t.val * 1024 + (y 0).val, by have := lt_of_lt_of_eq t.isLt N_0; have : (y 0).val < 1024 := (y 0).isLt; omega⟩ (y 1) := by
    funext a; apply Fin.ext; fin_cases a
    · blk_simp [index_8 t]; rfl
    · blk_simp [index_8 t]; rfl
  refine Eq.trans ?_ (congrArg (Cert.FfnReferenceIdeal.Read.val_main_v28 (F := Ideal) _ _ _ _ _) e).symm
  refine Eq.trans ?_ (Ref.rowAt _ _ _ _ _ _ _).symm
  simp only [block1_at, block2_at, block3_at, block4_at, gain_at m c, gate_at m c, up_at m c, down_at m c]
  exact congrArg (fun f => layerRow f _ _ _ _ _) (funext fun k => block0_at m c t _ k)

/-- The cast of the next layer's weights, argument 2. -/
theorem next2_eq :
    (dats m 0 c).arrAt 9 cfg0.N = Cert.FfnReferenceIdeal.Read.val_main_v31 (F := Ideal) (m ((c : Thread nD τ).loc main_arg2)) := by
  refine Pipeline.Dat.arrAt_eq_of_covers (cfg := cfg0) _ 9 _ (by decide +kernel) fun t hf y => ?_
  blk_simp
  rw [after0_9]
  rw [pair_eq (n0 := 64) (n1 := 2816) y]
  have e : ((win0_9.blk t).view.emb (ix2 (y 0) (y 1)) : Shape.Idx ⟨2, ![1024, 2816]⟩)
      = ix2 ⟨min t.val 15 * 64 + (y 0).val, by have : (y 0).val < 64 := (y 0).isLt; omega⟩ (y 1) := by
    funext a; apply Fin.ext; fin_cases a
    · blk_simp [index_9 t]; rfl
    · blk_simp [index_9 t]; rfl
  refine Eq.trans ?_ (congrArg (Cert.FfnReferenceIdeal.Read.val_main_v31 (F := Ideal) _) e).symm
  refine Eq.trans ?_ (Ref.next2 _ _ _).symm
  refine Eq.trans ?_ (block5_at m c t (y 0) (y 1))
  unfold out0_9
  rw [View.ld_unit_zero (by funext a; fin_cases a <;> rfl)]
  rw [View.canon_unit_zero (by funext a; fin_cases a <;> rfl)]
  exact cast9_at _ _ _

/-- The cast of the next layer's weights, argument 3. -/
theorem next3_eq :
    (dats m 0 c).arrAt 10 cfg0.N = Cert.FfnReferenceIdeal.Read.val_main_v34 (F := Ideal) (m ((c : Thread nD τ).loc main_arg3)) := by
  refine Pipeline.Dat.arrAt_eq_of_covers (cfg := cfg0) _ 10 _ (by decide +kernel) fun t hf y => ?_
  blk_simp
  rw [after0_10]
  rw [pair_eq (n0 := 64) (n1 := 2816) y]
  have e : ((win0_10.blk t).view.emb (ix2 (y 0) (y 1)) : Shape.Idx ⟨2, ![1024, 2816]⟩)
      = ix2 ⟨min t.val 15 * 64 + (y 0).val, by have : (y 0).val < 64 := (y 0).isLt; omega⟩ (y 1) := by
    funext a; apply Fin.ext; fin_cases a
    · blk_simp [index_10 t]; rfl
    · blk_simp [index_10 t]; rfl
  refine Eq.trans ?_ (congrArg (Cert.FfnReferenceIdeal.Read.val_main_v34 (F := Ideal) _) e).symm
  refine Eq.trans ?_ (Ref.next3 _ _ _).symm
  refine Eq.trans ?_ (block6_at m c t (y 0) (y 1))
  unfold out0_10
  rw [View.ld_unit_zero (by funext a; fin_cases a <;> rfl)]
  rw [View.canon_unit_zero (by funext a; fin_cases a <;> rfl)]
  exact cast10_at _ _ _

/-- The cast of the next layer's weights, argument 4. -/
theorem next4_eq :
    (dats m 0 c).arrAt 11 cfg0.N = Cert.FfnReferenceIdeal.Read.val_main_v37 (F := Ideal) (m ((c : Thread nD τ).loc main_arg4)) := by
  refine Pipeline.Dat.arrAt_eq_of_covers (cfg := cfg0) _ 11 _ (by decide +kernel) fun t hf y => ?_
  blk_simp
  rw [after0_11]
  rw [pair_eq (n0 := 176) (n1 := 1024) y]
  have e : ((win0_11.blk t).view.emb (ix2 (y 0) (y 1)) : Shape.Idx ⟨2, ![2816, 1024]⟩)
      = ix2 ⟨min t.val 15 * 176 + (y 0).val, by have : (y 0).val < 176 := (y 0).isLt; omega⟩ (y 1) := by
    funext a; apply Fin.ext; fin_cases a
    · blk_simp [index_11 t]; rfl
    · blk_simp [index_11 t]; rfl
  refine Eq.trans ?_ (congrArg (Cert.FfnReferenceIdeal.Read.val_main_v37 (F := Ideal) _) e).symm
  refine Eq.trans ?_ (Ref.next4 _ _ _).symm
  refine Eq.trans ?_ (block7_at m c t (y 0) (y 1))
  unfold out0_11
  rw [View.ld_unit_zero (by funext a; fin_cases a <;> rfl)]
  rw [View.canon_unit_zero (by funext a; fin_cases a <;> rfl)]
  exact cast11_at _ _ _

end Cert.FfnMid

end
-- ==== Proof.EvenDefs.lean ====
/-
  What one run of the even layer's body computes, value by value: each definition names one value of the body as a
  function of the blocks it was read from. A tile of prompts takes the rows `cr` carried from the tile before; the tile of
  samples reads back a scratch block `q` it stored itself.
-/
module

public import proofs.«01_k».proof.Proof.Gen.EvenIdeal.Frame
public import proofs.«01_k».proof.Proof.Gen.EvenIdeal.Skeleton

@[expose] public section

set_option maxRecDepth 16384

noncomputable section

namespace Cert.Even

open Idealize.ShloMosaic Idealize.ShloMosaic.TcCoe
open Cert.EvenIdeal Cert.EvenIdeal.Gen

variable {F : FTy → Type} [FloatOps F]

/-! ## A tile of prompts -/

def pV20  : IVec S128x128 32 :=
  iota .tc S128x128 32 [1] iota_S128x128_d1_w32

def pV21  : IVec S128x128 1 :=
  k0_pay5

def pV45  : IVec S128x128 32 :=
  k0_pay6

def pC128_i32_14  : BitVec 32 :=
  128#32

def pV47  : IVec S128x128 32 :=
  k0_pay7

def pC0_i32_15  : BitVec 32 :=
  0#32

def pV71  : IVec S128x128 1 :=
  k0_pay8 pV20 pV21 pV45 pC128_i32_14 pV47 pC0_i32_15

def pC128_i32_65  : BitVec 32 :=
  128#32

def pV176 (x6 : Vec F S4x128x128 .f32) : Vec F S1x128x128 .f32 :=
  View.ld x6 (Rect.unit (s := S4x128x128) ![3, 0, 0] S1x128x128.size inb_S4x128x128_S1x128x128_3_0_0)

def pV182 (x6 : Vec F S4x128x128 .f32) : FVec F S128x128 .bf16 :=
  k0_pay20 pV20 pV71 pC128_i32_65 (pV176 x6)

def pV19  : IVec S128x128 32 :=
  iota .tc S128x128 32 [0] iota_S128x128_d0_w32

def pV200 (x7 : Vec F S4x128 .f32) : Vec F S1x128 .f32 :=
  View.ld x7 (Rect.unit (s := S4x128) ![3, 0] S1x128.size inb_S4x128_S1x128_3_0)

def pV207 (x7 : Vec F S4x128 .f32) : FVec F S128x1 .f32 :=
  k0_pay21 pV19 pV20 (pV200 x7)

def pV211 (x1 : Vec F S1024x1024 .f32) : Vec F S512x1024 .f32 :=
  View.ld x1 (Rect.unit (s := S1024x1024) ![0, 0] S512x1024.size inb_S1024x1024_S512x1024_0_0)

def pV212 (x2 : Vec F S1x1x1024 .f32) : Vec F S1x1x1024 .f32 :=
  View.ld x2 (Rect.unit (s := S1x1x1024) ![0, 0, 0] S1x1x1024.size inb_S1x1x1024_S1x1x1024_0_0_0)

def pV227 (x3 : Vec F S1024x2560 .bf16) : Vec F S1024x512 .bf16 :=
  View.ld x3 (Rect.unit (s := S1024x2560) ![0, 0] S1024x512.size inb_S1024x2560_S1024x512_0_0)

def pV237 (x1 : Vec F S1024x1024 .f32) (x2 : Vec F S1x1x1024 .f32) (x3 : Vec F S1024x2560 .bf16) : FVec F S512x512 .f32 :=
  k0_pay24 (pV211 x1) (pV212 x2) (pV227 x3)

def pV238 (x3 : Vec F S1024x2560 .bf16) : Vec F S1024x512 .bf16 :=
  View.ld x3 (Rect.unit (s := S1024x2560) ![0, 512] S1024x512.size inb_S1024x2560_S1024x512_0_512)

def pV248 (x1 : Vec F S1024x1024 .f32) (x2 : Vec F S1x1x1024 .f32) (x3 : Vec F S1024x2560 .bf16) : FVec F S512x512 .f32 :=
  k0_pay25 (pV211 x1) (pV212 x2) (pV238 x3)

def pV252 (x1 : Vec F S1024x1024 .f32) (x2 : Vec F S1x1x1024 .f32) (x3 : Vec F S1024x2560 .bf16) : FVec F S512x1 .f32 :=
  k0_pay26 (pV211 x1) (pV212 x2) (pV238 x3)

def pV265 (x4 : Vec F S1x512 .f32) : Vec F S1x512 .f32 :=
  View.ld x4 (Rect.unit (s := S1x512) ![0, 0] S1x512.size inb_S1x512_S1x512_0_0)

def pV269 (x5 : Vec F S1x512 .f32) : Vec F S1x512 .f32 :=
  View.ld x5 (Rect.unit (s := S1x512) ![0, 0] S1x512.size inb_S1x512_S1x512_0_0)

def pV272 (x1 : Vec F S1024x1024 .f32) (x2 : Vec F S1x1x1024 .f32) (x3 : Vec F S1024x2560 .bf16) (x4 : Vec F S1x512 .f32) (x5 : Vec F S1x512 .f32) : FVec F S512x512 .f32 :=
  k0_pay27 (pV248 x1 x2 x3) (pV252 x1 x2 x3) (pV265 x4) (pV269 x5)

def pV300 (x1 : Vec F S1024x1024 .f32) (x2 : Vec F S1x1x1024 .f32) (x3 : Vec F S1024x2560 .bf16) (x4 : Vec F S1x512 .f32) (x5 : Vec F S1x512 .f32) : FVec F S512x512 .bf16 :=
  k0_pay34 (pV272 x1 x2 x3 x4 x5)

def pV208 (x8 : Vec F S3x512 .f32) : Vec F S3x512 .f32 :=
  View.ld x8 (Rect.unit (s := S3x512) ![0, 0] S3x512.size inb_S3x512_S3x512_0_0)

def pV209 (x8 : Vec F S3x512 .f32) : FVec F S3x512 .f32 :=
  k0_pay22 (pV208 x8)

def pV226 (x1 : Vec F S1024x1024 .f32) (x2 : Vec F S1x1x1024 .f32) : FVec F S512x1024 .bf16 :=
  k0_pay23 (pV211 x1) (pV212 x2)

def pV279 (x3 : Vec F S1024x2560 .bf16) : Vec F S1024x512 .bf16 :=
  View.ld x3 (Rect.unit (s := S1024x2560) ![0, 1024] S1024x512.size inb_S1024x2560_S1024x512_0_1024)

def pV281 (x1 : Vec F S1024x1024 .f32) (x2 : Vec F S1x1x1024 .f32) (x3 : Vec F S1024x2560 .bf16) : FVec F S512x512 .f32 :=
  k0_pay28 (pV226 x1 x2) (pV279 x3)

def pV273 (x3 : Vec F S1024x2560 .bf16) : Vec F S1024x512 .bf16 :=
  View.ld x3 (Rect.unit (s := S1024x2560) ![0, 1536] S1024x512.size inb_S1024x2560_S1024x512_0_1536)

def pV276 (x3 : Vec F S1024x2560 .bf16) : Vec F S1024x512 .bf16 :=
  View.ld x3 (Rect.unit (s := S1024x2560) ![0, 2048] S1024x512.size inb_S1024x2560_S1024x512_0_2048)

def pV282 (x1 : Vec F S1024x1024 .f32) (x2 : Vec F S1x1x1024 .f32) (x3 : Vec F S1024x2560 .bf16) : FVec F S512x512 .f32 :=
  k0_pay29 (pV226 x1 x2) (pV273 x3) (pV276 x3)

def pV291 (x1 : Vec F S1024x1024 .f32) (x2 : Vec F S1x1x1024 .f32) (x3 : Vec F S1024x2560 .bf16) (x8 : Vec F S3x512 .f32) (cr : Vec F S8x512 .f32) : FVec F S512x512 .f32 :=
  k0_pay32 (pV209 x8) cr (pV226 x1 x2) (pV273 x3) (pV276 x3)

def pV294 (x1 : Vec F S1024x1024 .f32) (x2 : Vec F S1x1x1024 .f32) (x3 : Vec F S1024x2560 .bf16) (x8 : Vec F S3x512 .f32) (cr : Vec F S8x512 .f32) : FVec F S512x512 .f32 :=
  k0_pay33 (pV209 x8) cr (pV226 x1 x2) (pV273 x3) (pV276 x3)

def pV302 (x1 : Vec F S1024x1024 .f32) (x2 : Vec F S1x1x1024 .f32) (x3 : Vec F S1024x2560 .bf16) (x8 : Vec F S3x512 .f32) (cr : Vec F S8x512 .f32) : FVec F S512x512 .bf16 :=
  k0_pay35 (pV209 x8) (pV281 x1 x2 x3) (pV282 x1 x2 x3) (pV291 x1 x2 x3 x8 cr) (pV294 x1 x2 x3 x8 cr)

def pV74 (x6 : Vec F S4x128x128 .f32) : Vec F S1x128x128 .f32 :=
  View.ld x6 (Rect.unit (s := S4x128x128) ![0, 0, 0] S1x128x128.size inb_S4x128x128_S1x128x128_0_0_0)

def pV80 (x6 : Vec F S4x128x128 .f32) : FVec F S128x128 .bf16 :=
  k0_pay9 pV20 pV21 pV45 pC128_i32_14 pV47 pC0_i32_15 (pV74 x6)

def pV81  : BitVec 1 :=
  Scalar.cmpi .eq 128#32 0#32

def pV82  : BitVec 32 :=
  Scalar.select pV81 1#32 128#32

def pV84  : IVec S128x128 32 :=
  k0_pay10 pV19

def pV86  : IVec S128x128 1 :=
  k0_pay11 pV19

def pV88  : IVec S128x128 1 :=
  k0_pay12 pV19

def pV90  : IVec S128x128 1 :=
  k0_pay13

def pV98 (x7 : Vec F S4x128 .f32) : Vec F S1x128 .f32 :=
  View.ld x7 (Rect.unit (s := S4x128) ![0, 0] S1x128.size inb_S4x128_S1x128_0_0)

def pV105 (x7 : Vec F S4x128 .f32) : FVec F S128x1 .f32 :=
  k0_pay14 pV20 pV82 pV84 pV86 pV88 pV90 (pV98 x7)

def pV423 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S512x128 .bf16 :=
  k0_pay48 (pV80 x6) (pV105 x7) (pV237 x1 x2 x3) (pV300 x1 x2 x3 x4 x5)

def pV108 (x6 : Vec F S4x128x128 .f32) : Vec F S1x128x128 .f32 :=
  View.ld x6 (Rect.unit (s := S4x128x128) ![1, 0, 0] S1x128x128.size inb_S4x128x128_S1x128x128_1_0_0)

def pV114 (x6 : Vec F S4x128x128 .f32) : FVec F S128x128 .bf16 :=
  k0_pay15 pV20 pV71 (pV108 x6)

def pV131  : IVec S128x128 1 :=
  k0_pay16 pV19 pV20

def pV132 (x7 : Vec F S4x128 .f32) : Vec F S1x128 .f32 :=
  View.ld x7 (Rect.unit (s := S4x128) ![1, 0] S1x128.size inb_S4x128_S1x128_1_0)

def pV139 (x7 : Vec F S4x128 .f32) : FVec F S128x1 .f32 :=
  k0_pay17 pV131 (pV132 x7)

def pV429 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S128x128 .f32 :=
  k0_pay49 (pV114 x6) (pV139 x7) (pV237 x1 x2 x3) (pV300 x1 x2 x3 x4 x5)

def pV452 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S512x128 .bf16 :=
  k0_pay50 (pV114 x6) (pV139 x7) (pV237 x1 x2 x3) (pV300 x1 x2 x3 x4 x5) (pV429 x1 x2 x3 x4 x5 x6 x7)

def pV142 (x6 : Vec F S4x128x128 .f32) : Vec F S1x128x128 .f32 :=
  View.ld x6 (Rect.unit (s := S4x128x128) ![2, 0, 0] S1x128x128.size inb_S4x128x128_S1x128x128_2_0_0)

def pV148 (x6 : Vec F S4x128x128 .f32) : FVec F S128x128 .bf16 :=
  k0_pay18 pV20 pV71 (pV142 x6)

def pV166 (x7 : Vec F S4x128 .f32) : Vec F S1x128 .f32 :=
  View.ld x7 (Rect.unit (s := S4x128) ![2, 0] S1x128.size inb_S4x128_S1x128_2_0)

def pV173 (x7 : Vec F S4x128 .f32) : FVec F S128x1 .f32 :=
  k0_pay19 pV19 pV20 (pV166 x7)

def pV481 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S512x128 .bf16 :=
  k0_pay51 (pV148 x6) (pV173 x7) (pV237 x1 x2 x3) (pV300 x1 x2 x3 x4 x5)

def pV482 (x1 : Vec F S1024x1024 .f32) (x2 : Vec F S1x1x1024 .f32) (x3 : Vec F S1024x2560 .bf16) (x4 : Vec F S1x512 .f32) (x5 : Vec F S1x512 .f32) : FVec F S128x128 .bf16 :=
  k0_pay52 (pV300 x1 x2 x3 x4 x5)

def pV512 (x9 : Vec F S1024x1024 .bf16) : Vec F S1024x1024 .bf16 :=
  View.ld x9 (Rect.unit (s := S1024x1024) ![0, 0] S1024x1024.size inb_S1024x1024_S1024x1024_0_0)

def pV303 (x1 : Vec F S1024x1024 .f32) : Vec F S512x1024 .f32 :=
  View.ld x1 (Rect.unit (s := S1024x1024) ![512, 0] S512x1024.size inb_S1024x1024_S512x1024_512_0)

def pV304 (x2 : Vec F S1x1x1024 .f32) : Vec F S1x1x1024 .f32 :=
  View.ld x2 (Rect.unit (s := S1x1x1024) ![0, 0, 0] S1x1x1024.size inb_S1x1x1024_S1x1x1024_0_0_0)

def pV319 (x3 : Vec F S1024x2560 .bf16) : Vec F S1024x512 .bf16 :=
  View.ld x3 (Rect.unit (s := S1024x2560) ![0, 0] S1024x512.size inb_S1024x2560_S1024x512_0_0)

def pV329 (x1 : Vec F S1024x1024 .f32) (x2 : Vec F S1x1x1024 .f32) (x3 : Vec F S1024x2560 .bf16) : FVec F S512x512 .f32 :=
  k0_pay37 (pV303 x1) (pV304 x2) (pV319 x3)

def pV330 (x3 : Vec F S1024x2560 .bf16) : Vec F S1024x512 .bf16 :=
  View.ld x3 (Rect.unit (s := S1024x2560) ![0, 512] S1024x512.size inb_S1024x2560_S1024x512_0_512)

def pV332 (x1 : Vec F S1024x1024 .f32) (x2 : Vec F S1x1x1024 .f32) (x3 : Vec F S1024x2560 .bf16) : FVec F S512x512 .f32 :=
  k0_pay38 (pV303 x1) (pV304 x2) (pV330 x3)

def pV334 (x1 : Vec F S1024x1024 .f32) (x2 : Vec F S1x1x1024 .f32) (x3 : Vec F S1024x2560 .bf16) : FVec F S512x512 .f32 :=
  k0_pay39 (pV303 x1) (pV304 x2) (pV330 x3)

def pV335  : FVec F S512x512 .f32 :=
  k0_pay40 (F := F)

def pV357 (x4 : Vec F S1x512 .f32) : Vec F S1x512 .f32 :=
  View.ld x4 (Rect.unit (s := S1x512) ![0, 0] S1x512.size inb_S1x512_S1x512_0_0)

def pV361 (x5 : Vec F S1x512 .f32) : Vec F S1x512 .f32 :=
  View.ld x5 (Rect.unit (s := S1x512) ![0, 0] S1x512.size inb_S1x512_S1x512_0_0)

def pV364 (x1 : Vec F S1024x1024 .f32) (x2 : Vec F S1x1x1024 .f32) (x3 : Vec F S1024x2560 .bf16) (x4 : Vec F S1x512 .f32) (x5 : Vec F S1x512 .f32) : FVec F S512x512 .f32 :=
  k0_pay41 (pV332 x1 x2 x3) (pV334 x1 x2 x3) pV335 (pV357 x4) (pV361 x5)

def pV392 (x1 : Vec F S1024x1024 .f32) (x2 : Vec F S1x1x1024 .f32) (x3 : Vec F S1024x2560 .bf16) (x4 : Vec F S1x512 .f32) (x5 : Vec F S1x512 .f32) : FVec F S512x512 .bf16 :=
  k0_pay46 (pV364 x1 x2 x3 x4 x5)

def pV318 (x1 : Vec F S1024x1024 .f32) (x2 : Vec F S1x1x1024 .f32) : FVec F S512x1024 .bf16 :=
  k0_pay36 (pV303 x1) (pV304 x2)

def pV371 (x3 : Vec F S1024x2560 .bf16) : Vec F S1024x512 .bf16 :=
  View.ld x3 (Rect.unit (s := S1024x2560) ![0, 1024] S1024x512.size inb_S1024x2560_S1024x512_0_1024)

def pV373 (x1 : Vec F S1024x1024 .f32) (x2 : Vec F S1x1x1024 .f32) (x3 : Vec F S1024x2560 .bf16) : FVec F S512x512 .f32 :=
  k0_pay42 (pV318 x1 x2) (pV371 x3)

def pV365 (x3 : Vec F S1024x2560 .bf16) : Vec F S1024x512 .bf16 :=
  View.ld x3 (Rect.unit (s := S1024x2560) ![0, 1536] S1024x512.size inb_S1024x2560_S1024x512_0_1536)

def pV368 (x3 : Vec F S1024x2560 .bf16) : Vec F S1024x512 .bf16 :=
  View.ld x3 (Rect.unit (s := S1024x2560) ![0, 2048] S1024x512.size inb_S1024x2560_S1024x512_0_2048)

def pV374 (x1 : Vec F S1024x1024 .f32) (x2 : Vec F S1x1x1024 .f32) (x3 : Vec F S1024x2560 .bf16) : FVec F S512x512 .f32 :=
  k0_pay43 (pV318 x1 x2) (pV365 x3) (pV368 x3)

def pV288 (x1 : Vec F S1024x1024 .f32) (x2 : Vec F S1x1x1024 .f32) (x3 : Vec F S1024x2560 .bf16) : FVec F S8x512 .f32 :=
  k0_pay31 (pV226 x1 x2) (pV273 x3) (pV276 x3)

def pV375 (x1 : Vec F S1024x1024 .f32) (x2 : Vec F S1x1x1024 .f32) (x3 : Vec F S1024x2560 .bf16) : FVec F S520x512 .f32 :=
  k0_pay44 (pV288 x1 x2 x3) (pV318 x1 x2) (pV365 x3) (pV368 x3)

def pC1_i32_158  : BitVec 32 :=
  1#32

def pV394 (x1 : Vec F S1024x1024 .f32) (x2 : Vec F S1x1x1024 .f32) (x3 : Vec F S1024x2560 .bf16) (x8 : Vec F S3x512 .f32) : FVec F S512x512 .bf16 :=
  k0_pay47 (pV209 x8) (pV373 x1 x2 x3) (pV374 x1 x2 x3) (pV375 x1 x2 x3) pC1_i32_158

def pV523 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S128x128 .bf16 :=
  k0_pay54 (pV80 x6) (pV105 x7) (pV329 x1 x2 x3) (pV392 x1 x2 x3 x4 x5)

def pV530 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S128x128 .bf16 :=
  k0_pay55 (pV80 x6) (pV105 x7) (pV329 x1 x2 x3) (pV392 x1 x2 x3 x4 x5)

def pV545 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S512x128 .bf16 :=
  k0_pay56 (pV80 x6) (pV105 x7) (pV329 x1 x2 x3) (pV392 x1 x2 x3 x4 x5) (pV523 x1 x2 x3 x4 x5 x6 x7) (pV530 x1 x2 x3 x4 x5 x6 x7)

def pV574 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S512x128 .bf16 :=
  k0_pay57 (pV114 x6) (pV139 x7) (pV329 x1 x2 x3) (pV392 x1 x2 x3 x4 x5)

def pV581 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S128x128 .bf16 :=
  k0_pay58 (pV148 x6) (pV173 x7) (pV329 x1 x2 x3) (pV392 x1 x2 x3 x4 x5)

def pV582 (x1 : Vec F S1024x1024 .f32) (x2 : Vec F S1x1x1024 .f32) (x3 : Vec F S1024x2560 .bf16) (x4 : Vec F S1x512 .f32) (x5 : Vec F S1x512 .f32) : FVec F S128x128 .bf16 :=
  k0_pay59 (pV392 x1 x2 x3 x4 x5)

def pCst_190  : FVec F S128x128 .f32 :=
  constant S128x128 .f32 0x00000000#32

def pV633 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) (x8 : Vec F S3x512 .f32) : FVec F S512x1024 .bf16 :=
  k0_pay60 (pV148 x6) (pV173 x7) (pV182 x6) (pV207 x7) (pV329 x1 x2 x3) (pV392 x1 x2 x3 x4 x5) (pV394 x1 x2 x3 x8) (pV545 x1 x2 x3 x4 x5 x6 x7) (pV574 x1 x2 x3 x4 x5 x6 x7) (pV581 x1 x2 x3 x4 x5 x6 x7) (pV582 x1 x2 x3 x4 x5) pCst_190

def pV634 (x9 : Vec F S1024x1024 .bf16) : Vec F S1024x1024 .bf16 :=
  View.ld x9 (Rect.unit (s := S1024x1024) ![0, 0] S1024x1024.size inb_S1024x1024_S1024x1024_0_0)

/-- The tokens a tile of prompts leaves, its two halves stored one after the other. -/
def pOut (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) (x8 : Vec F S3x512 .f32) (x9 : Vec F S1024x1024 .bf16) (cr : Vec F S8x512 .f32) : Vec F S1024x1024 .f32 :=
  View.canon [⟨(Rect.unit (s := S1024x1024) ![512, 0] S512x1024.size inb_S1024x1024_S512x1024_512_0), (k0_pay1 (pV303 x1) (pV633 x1 x2 x3 x4 x5 x6 x7 x8) (pV634 x9))⟩, ⟨(Rect.unit (s := S1024x1024) ![0, 0] S512x1024.size inb_S1024x1024_S512x1024_0_0), (k0_pay53 (pV182 x6) (pV207 x7) (pV211 x1) (pV237 x1 x2 x3) (pV300 x1 x2 x3 x4 x5) (pV302 x1 x2 x3 x8 cr) (pV423 x1 x2 x3 x4 x5 x6 x7) (pV452 x1 x2 x3 x4 x5 x6 x7) (pV481 x1 x2 x3 x4 x5 x6 x7) (pV482 x1 x2 x3 x4 x5) (pV512 x9))⟩]

def pV380 (x1 : Vec F S1024x1024 .f32) (x2 : Vec F S1x1x1024 .f32) (x3 : Vec F S1024x2560 .bf16) : FVec F S8x512 .f32 :=
  k0_pay45 (pV374 x1 x2 x3)

/-- The rows of the convolution that a tile of prompts shows of its end. -/
def pState (x1 : Vec F S1024x1024 .f32) (x2 : Vec F S1x1x1024 .f32) (x3 : Vec F S1024x2560 .bf16) : Vec F S1x8x512 .f32 :=
  (k0_pay3 (pV380 x1 x2 x3))

/-- The rows it hands to the next tile. -/
def pCarry (x1 : Vec F S1024x1024 .f32) (x2 : Vec F S1x1x1024 .f32) (x3 : Vec F S1024x2560 .bf16) : Vec F S8x512 .f32 :=
  (k0_pay2 (pV380 x1 x2 x3))

/-! ## The tile of samples -/

def sV7  : IVec S128x128 32 :=
  iota .tc S128x128 32 [1] iota_S128x128_d1_w32

def sV8  : IVec S128x128 1 :=
  k0_pay61

def sV32  : IVec S128x128 32 :=
  k0_pay62

def sV34  : IVec S128x128 32 :=
  k0_pay63

def sV48  : IVec S128x128 1 :=
  k0_pay64

def sV52  : IVec S128x128 1 :=
  k0_pay65

def sV58  : IVec S128x128 1 :=
  k0_pay66 sV8 sV32 sV34 sV48 sV52

def sV194 (x6 : Vec F S4x128x128 .f32) : Vec F S1x8x128 .f32 :=
  View.ld x6 (Rect.unit (s := S4x128x128) ![3, 0, 0] S1x8x128.size inb_S4x128x128_S1x8x128_3_0_0)

def sV209 (x6 : Vec F S4x128x128 .f32) : FVec F S128x128 .bf16 :=
  k0_pay81 sV7 sV58 (sV194 x6)

def sV210  : BitVec 1 :=
  Scalar.cmpi .eq 8#32 0#32

def sV211  : BitVec 32 :=
  Scalar.select sV210 1#32 8#32

def sV6  : IVec S128x128 32 :=
  iota .tc S128x128 32 [0] iota_S128x128_d0_w32

def sV213  : IVec S128x128 32 :=
  k0_pay82 sV6

def sV215  : IVec S128x128 1 :=
  k0_pay83 sV6

def sV216  : IVec S128x128 32 :=
  k0_pay84

def sV227 (x7 : Vec F S4x128 .f32) : Vec F S1x128 .f32 :=
  View.ld x7 (Rect.unit (s := S4x128) ![3, 0] S1x128.size inb_S4x128_S1x128_3_0)

def sV234 (x7 : Vec F S4x128 .f32) : FVec F S128x1 .f32 :=
  k0_pay85 sV7 sV211 sV213 sV215 sV216 (sV227 x7)

def sV237 (x1 : Vec F S1024x1024 .f32) : Vec F S512x1024 .f32 :=
  View.ld x1 (Rect.unit (s := S1024x1024) ![0, 0] S512x1024.size inb_S1024x1024_S512x1024_0_0)

def sV238 (x2 : Vec F S1x1x1024 .f32) : Vec F S1x1x1024 .f32 :=
  View.ld x2 (Rect.unit (s := S1x1x1024) ![0, 0, 0] S1x1x1024.size inb_S1x1x1024_S1x1x1024_0_0_0)

def sV253 (x3 : Vec F S1024x2560 .bf16) : Vec F S1024x512 .bf16 :=
  View.ld x3 (Rect.unit (s := S1024x2560) ![0, 0] S1024x512.size inb_S1024x2560_S1024x512_0_0)

def sV255 (x1 : Vec F S1024x1024 .f32) (x2 : Vec F S1x1x1024 .f32) (x3 : Vec F S1024x2560 .bf16) : FVec F S512x512 .f32 :=
  k0_pay88 (sV237 x1) (sV238 x2) (sV253 x3)

def sV257 (x1 : Vec F S1024x1024 .f32) (x2 : Vec F S1x1x1024 .f32) (x3 : Vec F S1024x2560 .bf16) : FVec F S512x512 .f32 :=
  k0_pay89 (sV237 x1) (sV238 x2) (sV253 x3)

def sV263 (x1 : Vec F S1024x1024 .f32) (x2 : Vec F S1x1x1024 .f32) (x3 : Vec F S1024x2560 .bf16) : FVec F S512x512 .f32 :=
  k0_pay90 (sV255 x1 x2 x3) (sV257 x1 x2 x3)

def sV235 (x8 : Vec F S3x512 .f32) : Vec F S3x512 .f32 :=
  View.ld x8 (Rect.unit (s := S3x512) ![0, 0] S3x512.size inb_S3x512_S3x512_0_0)

def sV236 (x8 : Vec F S3x512 .f32) : FVec F S3x512 .f32 :=
  k0_pay86 (sV235 x8)

def sV252 (x1 : Vec F S1024x1024 .f32) (x2 : Vec F S1x1x1024 .f32) : FVec F S512x1024 .bf16 :=
  k0_pay87 (sV237 x1) (sV238 x2)

def sV306 (x3 : Vec F S1024x2560 .bf16) : Vec F S1024x512 .bf16 :=
  View.ld x3 (Rect.unit (s := S1024x2560) ![0, 1024] S1024x512.size inb_S1024x2560_S1024x512_0_1024)

def sV308 (x1 : Vec F S1024x1024 .f32) (x2 : Vec F S1x1x1024 .f32) (x3 : Vec F S1024x2560 .bf16) : FVec F S512x512 .f32 :=
  k0_pay92 (sV252 x1 x2) (sV306 x3)

def sV300 (x3 : Vec F S1024x2560 .bf16) : Vec F S1024x512 .bf16 :=
  View.ld x3 (Rect.unit (s := S1024x2560) ![0, 1536] S1024x512.size inb_S1024x2560_S1024x512_0_1536)

def sV303 (x3 : Vec F S1024x2560 .bf16) : Vec F S1024x512 .bf16 :=
  View.ld x3 (Rect.unit (s := S1024x2560) ![0, 2048] S1024x512.size inb_S1024x2560_S1024x512_0_2048)

def sV309 (x1 : Vec F S1024x1024 .f32) (x2 : Vec F S1x1x1024 .f32) (x3 : Vec F S1024x2560 .bf16) : FVec F S512x512 .f32 :=
  k0_pay93 (sV252 x1 x2) (sV300 x3) (sV303 x3)

def sV314 (x10 : Vec F S128x2x512 .f32) : Vec F S64x1x512 .f32 :=
  View.ld x10 (Rect.unit (s := S128x2x512) ![0, 1, 0] S64x1x512.size inb_S128x2x512_S64x1x512_0_1_0)

def sV319 (x10 : Vec F S128x2x512 .f32) (q : Memref sig .tc .vmem S64x8x512 .f32) : Vec F S64x8x512 .f32 :=
  q.view.readCov [⟨(Rect.unit (s := S64x8x512) ![0, 0, 0] S64x1x512.size inb_S64x8x512_S64x1x512_0_0_0), (k0_pay95 (sV314 x10))⟩, ⟨(Rect.unit (s := S64x8x512) ![0, 0, 0] S64x8x512.size inb_S64x8x512_S64x8x512_0_0_0), (k0_pay94 (F := F))⟩] (Rect.unit (s := S64x8x512) ![0, 0, 0] S64x8x512.size inb_S64x8x512_S64x8x512_0_0_0).toLoadRect

def sV320 (x10 : Vec F S128x2x512 .f32) (q : Memref sig .tc .vmem S64x8x512 .f32) : FVec F S512x512 .f32 :=
  k0_pay96 (sV319 x10 q)

def sV355 (x1 : Vec F S1024x1024 .f32) (x2 : Vec F S1x1x1024 .f32) (x3 : Vec F S1024x2560 .bf16) (x10 : Vec F S128x2x512 .f32) (q : Memref sig .tc .vmem S64x8x512 .f32) : FVec F S512x512 .f32 :=
  k0_pay100 (sV309 x1 x2 x3) (sV320 x10 q)

def sV321 (x10 : Vec F S128x2x512 .f32) : Vec F S64x1x512 .f32 :=
  View.ld x10 (Rect.unit (s := S128x2x512) ![0, 0, 0] S64x1x512.size inb_S128x2x512_S64x1x512_0_0_0)

def sV326 (x10 : Vec F S128x2x512 .f32) : Vec F S64x1x512 .f32 :=
  View.ld x10 (Rect.unit (s := S128x2x512) ![0, 1, 0] S64x1x512.size inb_S128x2x512_S64x1x512_0_1_0)

def sV331 (x10 : Vec F S128x2x512 .f32) (q : Memref sig .tc .vmem S64x8x512 .f32) : Vec F S64x8x512 .f32 :=
  q.view.readCov [⟨(Rect.unit (s := S64x8x512) ![0, 1, 0] S64x1x512.size inb_S64x8x512_S64x1x512_0_1_0), (k0_pay98 (sV326 x10))⟩, ⟨(Rect.unit (s := S64x8x512) ![0, 0, 0] S64x1x512.size inb_S64x8x512_S64x1x512_0_0_0), (k0_pay97 (sV321 x10))⟩, ⟨(Rect.unit (s := S64x8x512) ![0, 0, 0] S64x1x512.size inb_S64x8x512_S64x1x512_0_0_0), (k0_pay95 (sV314 x10))⟩, ⟨(Rect.unit (s := S64x8x512) ![0, 0, 0] S64x8x512.size inb_S64x8x512_S64x8x512_0_0_0), (k0_pay94 (F := F))⟩] (Rect.unit (s := S64x8x512) ![0, 0, 0] S64x8x512.size inb_S64x8x512_S64x8x512_0_0_0).toLoadRect

def sV361 (x1 : Vec F S1024x1024 .f32) (x2 : Vec F S1x1x1024 .f32) (x3 : Vec F S1024x2560 .bf16) (x10 : Vec F S128x2x512 .f32) (q : Memref sig .tc .vmem S64x8x512 .f32) : FVec F S512x512 .f32 :=
  k0_pay101 (sV309 x1 x2 x3) (sV331 x10 q)

def sV389 (x1 : Vec F S1024x1024 .f32) (x2 : Vec F S1x1x1024 .f32) (x3 : Vec F S1024x2560 .bf16) (x8 : Vec F S3x512 .f32) (x10 : Vec F S128x2x512 .f32) (q : Memref sig .tc .vmem S64x8x512 .f32) : FVec F S512x512 .bf16 :=
  k0_pay107 (sV236 x8) (sV308 x1 x2 x3) (sV309 x1 x2 x3) (sV355 x1 x2 x3 x10 q) (sV361 x1 x2 x3 x10 q)

def sV62 (x6 : Vec F S4x128x128 .f32) : Vec F S1x8x128 .f32 :=
  View.ld x6 (Rect.unit (s := S4x128x128) ![0, 0, 0] S1x8x128.size inb_S4x128x128_S1x8x128_0_0_0)

def sV77 (x6 : Vec F S4x128x128 .f32) : FVec F S128x128 .bf16 :=
  k0_pay67 sV7 sV8 sV32 sV34 sV48 sV52 (sV62 x6)

def sV94  : IVec S128x128 1 :=
  k0_pay68 sV6 sV7

def sV95 (x7 : Vec F S4x128 .f32) : Vec F S1x128 .f32 :=
  View.ld x7 (Rect.unit (s := S4x128) ![0, 0] S1x128.size inb_S4x128_S1x128_0_0)

def sV102 (x7 : Vec F S4x128 .f32) : FVec F S128x1 .f32 :=
  k0_pay69 sV94 (sV95 x7)

def sV264 (x3 : Vec F S1024x2560 .bf16) : Vec F S1024x512 .bf16 :=
  View.ld x3 (Rect.unit (s := S1024x2560) ![0, 512] S1024x512.size inb_S1024x2560_S1024x512_0_512)

def sV291 (x4 : Vec F S1x512 .f32) : Vec F S1x512 .f32 :=
  View.ld x4 (Rect.unit (s := S1x512) ![0, 0] S1x512.size inb_S1x512_S1x512_0_0)

def sV295 (x5 : Vec F S1x512 .f32) : Vec F S1x512 .f32 :=
  View.ld x5 (Rect.unit (s := S1x512) ![0, 0] S1x512.size inb_S1x512_S1x512_0_0)

def sV298 (x1 : Vec F S1024x1024 .f32) (x2 : Vec F S1x1x1024 .f32) (x3 : Vec F S1024x2560 .bf16) (x4 : Vec F S1x512 .f32) (x5 : Vec F S1x512 .f32) : FVec F S512x512 .f32 :=
  k0_pay91 (sV252 x1 x2) (sV264 x3) (sV291 x4) (sV295 x5)

def sV387 (x1 : Vec F S1024x1024 .f32) (x2 : Vec F S1x1x1024 .f32) (x3 : Vec F S1024x2560 .bf16) (x4 : Vec F S1x512 .f32) (x5 : Vec F S1x512 .f32) : FVec F S512x512 .bf16 :=
  k0_pay106 (sV298 x1 x2 x3 x4 x5)

def sV546 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S128x128 .f32 :=
  k0_pay130 (sV77 x6) (sV102 x7) (sV387 x1 x2 x3 x4 x5)

def sV571 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S512x128 .bf16 :=
  k0_pay131 (sV77 x6) (sV102 x7) (sV263 x1 x2 x3) (sV387 x1 x2 x3 x4 x5) (sV546 x1 x2 x3 x4 x5 x6 x7)

def sV106 (x6 : Vec F S4x128x128 .f32) : Vec F S1x8x128 .f32 :=
  View.ld x6 (Rect.unit (s := S4x128x128) ![1, 0, 0] S1x8x128.size inb_S4x128x128_S1x8x128_1_0_0)

def sV121 (x6 : Vec F S4x128x128 .f32) : FVec F S128x128 .bf16 :=
  k0_pay70 sV7 sV58 (sV106 x6)

def sV125  : IVec S128x128 32 :=
  k0_pay71 sV6

def sV134  : IVec S128x128 1 :=
  k0_pay72 sV6

def sV135  : IVec S128x128 32 :=
  k0_pay73

def sV139 (x7 : Vec F S4x128 .f32) : Vec F S1x128 .f32 :=
  View.ld x7 (Rect.unit (s := S4x128) ![1, 0] S1x128.size inb_S4x128_S1x128_1_0)

def sV146 (x7 : Vec F S4x128 .f32) : FVec F S128x1 .f32 :=
  k0_pay74 sV7 sV125 sV134 sV135 (sV139 x7)

def sV578 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S128x128 .bf16 :=
  k0_pay132 (sV121 x6) (sV146 x7) (sV263 x1 x2 x3) (sV387 x1 x2 x3 x4 x5)

def sV585 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S128x128 .bf16 :=
  k0_pay133 (sV121 x6) (sV146 x7) (sV263 x1 x2 x3) (sV387 x1 x2 x3 x4 x5)

def sV592 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S128x128 .bf16 :=
  k0_pay134 (sV121 x6) (sV146 x7) (sV263 x1 x2 x3) (sV387 x1 x2 x3 x4 x5)

def sV599 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S128x128 .bf16 :=
  k0_pay135 (sV121 x6) (sV146 x7) (sV263 x1 x2 x3) (sV387 x1 x2 x3 x4 x5)

def sV600 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S512x128 .bf16 :=
  k0_pay136 (sV578 x1 x2 x3 x4 x5 x6 x7) (sV585 x1 x2 x3 x4 x5 x6 x7) (sV592 x1 x2 x3 x4 x5 x6 x7) (sV599 x1 x2 x3 x4 x5 x6 x7)

def sV150 (x6 : Vec F S4x128x128 .f32) : Vec F S1x8x128 .f32 :=
  View.ld x6 (Rect.unit (s := S4x128x128) ![2, 0, 0] S1x8x128.size inb_S4x128x128_S1x8x128_2_0_0)

def sV165 (x6 : Vec F S4x128x128 .f32) : FVec F S128x128 .bf16 :=
  k0_pay75 sV7 sV58 (sV150 x6)

def sV166  : BitVec 1 :=
  Scalar.cmpi .eq 8#32 0#32

def sV167  : BitVec 32 :=
  Scalar.select sV166 1#32 8#32

def sV169  : IVec S128x128 32 :=
  k0_pay76 sV6

def sV171  : IVec S128x128 1 :=
  k0_pay77 sV6

def sV173  : IVec S128x128 1 :=
  k0_pay78 sV6

def sV175  : IVec S128x128 1 :=
  k0_pay79

def sV183 (x7 : Vec F S4x128 .f32) : Vec F S1x128 .f32 :=
  View.ld x7 (Rect.unit (s := S4x128) ![2, 0] S1x128.size inb_S4x128_S1x128_2_0)

def sV190 (x7 : Vec F S4x128 .f32) : FVec F S128x1 .f32 :=
  k0_pay80 sV7 sV167 sV169 sV171 sV173 sV175 (sV183 x7)

def sV629 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S512x128 .bf16 :=
  k0_pay137 (sV165 x6) (sV190 x7) (sV263 x1 x2 x3) (sV387 x1 x2 x3 x4 x5)

def sV636 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S128x128 .bf16 :=
  k0_pay138 (sV209 x6) (sV234 x7) (sV263 x1 x2 x3) (sV387 x1 x2 x3 x4 x5)

def sV643 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S128x128 .bf16 :=
  k0_pay139 (sV209 x6) (sV234 x7) (sV263 x1 x2 x3) (sV387 x1 x2 x3 x4 x5)

def sV650 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S128x128 .bf16 :=
  k0_pay140 (sV209 x6) (sV234 x7) (sV263 x1 x2 x3) (sV387 x1 x2 x3 x4 x5)

def sV651 (x1 : Vec F S1024x1024 .f32) (x2 : Vec F S1x1x1024 .f32) (x3 : Vec F S1024x2560 .bf16) (x4 : Vec F S1x512 .f32) (x5 : Vec F S1x512 .f32) : FVec F S128x128 .bf16 :=
  k0_pay141 (sV387 x1 x2 x3 x4 x5)

def sCst_282  : FVec F S128x128 .f32 :=
  constant S128x128 .f32 0x00000000#32

def sV660 (x9 : Vec F S1024x1024 .bf16) : Vec F S1024x1024 .bf16 :=
  View.ld x9 (Rect.unit (s := S1024x1024) ![0, 0] S1024x1024.size inb_S1024x1024_S1024x1024_0_0)

def sV390 (x1 : Vec F S1024x1024 .f32) : Vec F S512x1024 .f32 :=
  View.ld x1 (Rect.unit (s := S1024x1024) ![512, 0] S512x1024.size inb_S1024x1024_S512x1024_512_0)

def sV391 (x2 : Vec F S1x1x1024 .f32) : Vec F S1x1x1024 .f32 :=
  View.ld x2 (Rect.unit (s := S1x1x1024) ![0, 0, 0] S1x1x1024.size inb_S1x1x1024_S1x1x1024_0_0_0)

def sV392 (x2 : Vec F S1x1x1024 .f32) : FVec F S1x1024 .f32 :=
  k0_pay108 (sV391 x2)

def sV400 (x1 : Vec F S1024x1024 .f32) : FVec F S512x1 .f32 :=
  k0_pay109 (sV390 x1)

def sV406 (x3 : Vec F S1024x2560 .bf16) : Vec F S1024x512 .bf16 :=
  View.ld x3 (Rect.unit (s := S1024x2560) ![0, 0] S1024x512.size inb_S1024x2560_S1024x512_0_0)

def sV416 (x1 : Vec F S1024x1024 .f32) (x2 : Vec F S1x1x1024 .f32) (x3 : Vec F S1024x2560 .bf16) : FVec F S512x512 .f32 :=
  k0_pay111 (sV390 x1) (sV392 x2) (sV400 x1) (sV406 x3)

def sV417 (x3 : Vec F S1024x2560 .bf16) : Vec F S1024x512 .bf16 :=
  View.ld x3 (Rect.unit (s := S1024x2560) ![0, 512] S1024x512.size inb_S1024x2560_S1024x512_0_512)

def sV443 (x1 : Vec F S1024x1024 .f32) (x2 : Vec F S1x1x1024 .f32) (x3 : Vec F S1024x2560 .bf16) : FVec F S512x512 .f32 :=
  k0_pay112 (sV390 x1) (sV392 x2) (sV400 x1) (sV417 x3)

def sV444 (x4 : Vec F S1x512 .f32) : Vec F S1x512 .f32 :=
  View.ld x4 (Rect.unit (s := S1x512) ![0, 0] S1x512.size inb_S1x512_S1x512_0_0)

def sV448 (x5 : Vec F S1x512 .f32) : Vec F S1x512 .f32 :=
  View.ld x5 (Rect.unit (s := S1x512) ![0, 0] S1x512.size inb_S1x512_S1x512_0_0)

def sV451 (x1 : Vec F S1024x1024 .f32) (x2 : Vec F S1x1x1024 .f32) (x3 : Vec F S1024x2560 .bf16) (x4 : Vec F S1x512 .f32) (x5 : Vec F S1x512 .f32) : FVec F S512x512 .f32 :=
  k0_pay113 (sV443 x1 x2 x3) (sV444 x4) (sV448 x5)

def sV540 (x1 : Vec F S1024x1024 .f32) (x2 : Vec F S1x1x1024 .f32) (x3 : Vec F S1024x2560 .bf16) (x4 : Vec F S1x512 .f32) (x5 : Vec F S1x512 .f32) : FVec F S512x512 .bf16 :=
  k0_pay128 (sV451 x1 x2 x3 x4 x5)

def sV405 (x1 : Vec F S1024x1024 .f32) (x2 : Vec F S1x1x1024 .f32) : FVec F S512x1024 .bf16 :=
  k0_pay110 (sV390 x1) (sV392 x2) (sV400 x1)

def sV459 (x3 : Vec F S1024x2560 .bf16) : Vec F S1024x512 .bf16 :=
  View.ld x3 (Rect.unit (s := S1024x2560) ![0, 1024] S1024x512.size inb_S1024x2560_S1024x512_0_1024)

def sV461 (x1 : Vec F S1024x1024 .f32) (x2 : Vec F S1x1x1024 .f32) (x3 : Vec F S1024x2560 .bf16) : FVec F S512x512 .f32 :=
  k0_pay114 (sV405 x1 x2) (sV459 x3)

def sV453 (x3 : Vec F S1024x2560 .bf16) : Vec F S1024x512 .bf16 :=
  View.ld x3 (Rect.unit (s := S1024x2560) ![0, 1536] S1024x512.size inb_S1024x2560_S1024x512_0_1536)

def sV456 (x3 : Vec F S1024x2560 .bf16) : Vec F S1024x512 .bf16 :=
  View.ld x3 (Rect.unit (s := S1024x2560) ![0, 2048] S1024x512.size inb_S1024x2560_S1024x512_0_2048)

def sV462 (x1 : Vec F S1024x1024 .f32) (x2 : Vec F S1x1x1024 .f32) (x3 : Vec F S1024x2560 .bf16) : FVec F S512x512 .f32 :=
  k0_pay115 (sV405 x1 x2) (sV453 x3) (sV456 x3)

def sV362 (x1 : Vec F S1024x1024 .f32) (x2 : Vec F S1x1x1024 .f32) (x3 : Vec F S1024x2560 .bf16) : FVec F S64x8x512 .f32 :=
  k0_pay102 (sV309 x1 x2 x3)

def sV467 (x10 : Vec F S128x2x512 .f32) : Vec F S64x1x512 .f32 :=
  View.ld x10 (Rect.unit (s := S128x2x512) ![64, 1, 0] S64x1x512.size inb_S128x2x512_S64x1x512_64_1_0)

def sV472 (x1 : Vec F S1024x1024 .f32) (x2 : Vec F S1x1x1024 .f32) (x3 : Vec F S1024x2560 .bf16) (x10 : Vec F S128x2x512 .f32) (q : Memref sig .tc .vmem S64x8x512 .f32) : Vec F S64x8x512 .f32 :=
  q.view.readCov [⟨(Rect.unit (s := S64x8x512) ![0, 0, 0] S64x1x512.size inb_S64x8x512_S64x1x512_0_0_0), (k0_pay117 (sV467 x10))⟩, ⟨(Rect.unit (s := S64x8x512) ![0, 0, 0] S64x8x512.size inb_S64x8x512_S64x8x512_0_0_0), (k0_pay116 (F := F))⟩, ⟨(Rect.unit (s := S64x8x512) ![0, 0, 0] S64x8x512.size inb_S64x8x512_S64x8x512_0_0_0), (k0_pay103 (sV362 x1 x2 x3))⟩, ⟨(Rect.unit (s := S64x8x512) ![0, 1, 0] S64x1x512.size inb_S64x8x512_S64x1x512_0_1_0), (k0_pay98 (sV326 x10))⟩, ⟨(Rect.unit (s := S64x8x512) ![0, 0, 0] S64x1x512.size inb_S64x8x512_S64x1x512_0_0_0), (k0_pay97 (sV321 x10))⟩, ⟨(Rect.unit (s := S64x8x512) ![0, 0, 0] S64x1x512.size inb_S64x8x512_S64x1x512_0_0_0), (k0_pay95 (sV314 x10))⟩, ⟨(Rect.unit (s := S64x8x512) ![0, 0, 0] S64x8x512.size inb_S64x8x512_S64x8x512_0_0_0), (k0_pay94 (F := F))⟩] (Rect.unit (s := S64x8x512) ![0, 0, 0] S64x8x512.size inb_S64x8x512_S64x8x512_0_0_0).toLoadRect

def sV473 (x1 : Vec F S1024x1024 .f32) (x2 : Vec F S1x1x1024 .f32) (x3 : Vec F S1024x2560 .bf16) (x10 : Vec F S128x2x512 .f32) (q : Memref sig .tc .vmem S64x8x512 .f32) : FVec F S512x512 .f32 :=
  k0_pay118 (sV472 x1 x2 x3 x10 q)

def sV474 (x10 : Vec F S128x2x512 .f32) : Vec F S64x1x512 .f32 :=
  View.ld x10 (Rect.unit (s := S128x2x512) ![64, 0, 0] S64x1x512.size inb_S128x2x512_S64x1x512_64_0_0)

def sV479 (x10 : Vec F S128x2x512 .f32) : Vec F S64x1x512 .f32 :=
  View.ld x10 (Rect.unit (s := S128x2x512) ![64, 1, 0] S64x1x512.size inb_S128x2x512_S64x1x512_64_1_0)

def sV484 (x1 : Vec F S1024x1024 .f32) (x2 : Vec F S1x1x1024 .f32) (x3 : Vec F S1024x2560 .bf16) (x10 : Vec F S128x2x512 .f32) (q : Memref sig .tc .vmem S64x8x512 .f32) : Vec F S64x8x512 .f32 :=
  q.view.readCov [⟨(Rect.unit (s := S64x8x512) ![0, 1, 0] S64x1x512.size inb_S64x8x512_S64x1x512_0_1_0), (k0_pay120 (sV479 x10))⟩, ⟨(Rect.unit (s := S64x8x512) ![0, 0, 0] S64x1x512.size inb_S64x8x512_S64x1x512_0_0_0), (k0_pay119 (sV474 x10))⟩, ⟨(Rect.unit (s := S64x8x512) ![0, 0, 0] S64x1x512.size inb_S64x8x512_S64x1x512_0_0_0), (k0_pay117 (sV467 x10))⟩, ⟨(Rect.unit (s := S64x8x512) ![0, 0, 0] S64x8x512.size inb_S64x8x512_S64x8x512_0_0_0), (k0_pay116 (F := F))⟩, ⟨(Rect.unit (s := S64x8x512) ![0, 0, 0] S64x8x512.size inb_S64x8x512_S64x8x512_0_0_0), (k0_pay103 (sV362 x1 x2 x3))⟩, ⟨(Rect.unit (s := S64x8x512) ![0, 1, 0] S64x1x512.size inb_S64x8x512_S64x1x512_0_1_0), (k0_pay98 (sV326 x10))⟩, ⟨(Rect.unit (s := S64x8x512) ![0, 0, 0] S64x1x512.size inb_S64x8x512_S64x1x512_0_0_0), (k0_pay97 (sV321 x10))⟩, ⟨(Rect.unit (s := S64x8x512) ![0, 0, 0] S64x1x512.size inb_S64x8x512_S64x1x512_0_0_0), (k0_pay95 (sV314 x10))⟩, ⟨(Rect.unit (s := S64x8x512) ![0, 0, 0] S64x8x512.size inb_S64x8x512_S64x8x512_0_0_0), (k0_pay94 (F := F))⟩] (Rect.unit (s := S64x8x512) ![0, 0, 0] S64x8x512.size inb_S64x8x512_S64x8x512_0_0_0).toLoadRect

def sV485 (x1 : Vec F S1024x1024 .f32) (x2 : Vec F S1x1x1024 .f32) (x3 : Vec F S1024x2560 .bf16) (x10 : Vec F S128x2x512 .f32) (q : Memref sig .tc .vmem S64x8x512 .f32) : FVec F S512x512 .f32 :=
  k0_pay121 (sV484 x1 x2 x3 x10 q)

def sV502  : IVec S512x1 32 :=
  k0_pay122

def sV505 (x1 : Vec F S1024x1024 .f32) (x2 : Vec F S1x1x1024 .f32) (x3 : Vec F S1024x2560 .bf16) : FVec F S512x512 .f32 :=
  k0_pay123 (sV462 x1 x2 x3)

def sV507  : IVec S512x512 1 :=
  k0_pay124

def sV542 (x1 : Vec F S1024x1024 .f32) (x2 : Vec F S1x1x1024 .f32) (x3 : Vec F S1024x2560 .bf16) (x8 : Vec F S3x512 .f32) (x10 : Vec F S128x2x512 .f32) (q : Memref sig .tc .vmem S64x8x512 .f32) : FVec F S512x512 .bf16 :=
  k0_pay129 (sV236 x8) (sV461 x1 x2 x3) (sV462 x1 x2 x3) (sV473 x1 x2 x3 x10 q) (sV485 x1 x2 x3 x10 q) sV502 (sV505 x1 x2 x3) sV507

def sV693 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S512x128 .bf16 :=
  k0_pay143 (sV77 x6) (sV102 x7) (sV416 x1 x2 x3) (sV540 x1 x2 x3 x4 x5)

def sV700 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S128x128 .bf16 :=
  k0_pay144 (sV121 x6) (sV146 x7) (sV416 x1 x2 x3) (sV540 x1 x2 x3 x4 x5)

def sV722 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S512x128 .bf16 :=
  k0_pay145 (sV121 x6) (sV146 x7) (sV416 x1 x2 x3) (sV540 x1 x2 x3 x4 x5) (sV700 x1 x2 x3 x4 x5 x6 x7)

def sV751 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) : FVec F S512x128 .bf16 :=
  k0_pay146 (sV165 x6) (sV190 x7) (sV416 x1 x2 x3) (sV540 x1 x2 x3 x4 x5)

def sV752 (x1 : Vec F S1024x1024 .f32) (x2 : Vec F S1x1x1024 .f32) (x3 : Vec F S1024x2560 .bf16) (x4 : Vec F S1x512 .f32) (x5 : Vec F S1x512 .f32) : FVec F S128x128 .bf16 :=
  k0_pay147 (sV540 x1 x2 x3 x4 x5)

def sCst_300  : FVec F S128x128 .f32 :=
  constant S128x128 .f32 0x00000000#32

def sV782 (x9 : Vec F S1024x1024 .bf16) : Vec F S1024x1024 .bf16 :=
  View.ld x9 (Rect.unit (s := S1024x1024) ![0, 0] S1024x1024.size inb_S1024x1024_S1024x1024_0_0)

def sV785 (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) (x8 : Vec F S3x512 .f32) (x9 : Vec F S1024x1024 .bf16) (x10 : Vec F S128x2x512 .f32) (q : Memref sig .tc .vmem S64x8x512 .f32) : FVec F S512x1024 .f32 :=
  k0_pay148 (sV209 x6) (sV234 x7) (sV390 x1) (sV416 x1 x2 x3) (sV540 x1 x2 x3 x4 x5) (sV542 x1 x2 x3 x8 x10 q) (sV693 x1 x2 x3 x4 x5 x6 x7) (sV722 x1 x2 x3 x4 x5 x6 x7) (sV751 x1 x2 x3 x4 x5 x6 x7) (sV752 x1 x2 x3 x4 x5) sCst_300 (sV782 x9)

/-- The tokens the tile of samples leaves. -/
def sOut (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) (x8 : Vec F S3x512 .f32) (x9 : Vec F S1024x1024 .bf16) (x10 : Vec F S128x2x512 .f32) (q : Memref sig .tc .vmem S64x8x512 .f32) : Vec F S1024x1024 .f32 :=
  View.canon [⟨(Rect.unit (s := S1024x1024) ![512, 0] S512x1024.size inb_S1024x1024_S512x1024_512_0), (sV785 x1 x2 x3 x4 x5 x6 x7 x8 x9 x10 q)⟩, ⟨(Rect.unit (s := S1024x1024) ![0, 0] S512x1024.size inb_S1024x1024_S512x1024_0_0), (k0_pay142 (sV209 x6) (sV234 x7) (sV237 x1) (sV263 x1 x2 x3) (sV389 x1 x2 x3 x8 x10 q) (sV571 x1 x2 x3 x4 x5 x6 x7) (sV600 x1 x2 x3 x4 x5 x6 x7) (sV629 x1 x2 x3 x4 x5 x6 x7) (sV636 x1 x2 x3 x4 x5 x6 x7) (sV643 x1 x2 x3 x4 x5 x6 x7) (sV650 x1 x2 x3 x4 x5 x6 x7) (sV651 x1 x2 x3 x4 x5) sCst_282 (sV660 x9))⟩]

def sV366 (x1 : Vec F S1024x1024 .f32) (x2 : Vec F S1x1x1024 .f32) (x3 : Vec F S1024x2560 .bf16) (x10 : Vec F S128x2x512 .f32) (q : Memref sig .tc .vmem S64x8x512 .f32) : Vec F S64x1x512 .f32 :=
  q.view.readCov [⟨(Rect.unit (s := S64x8x512) ![0, 0, 0] S64x8x512.size inb_S64x8x512_S64x8x512_0_0_0), (k0_pay103 (sV362 x1 x2 x3))⟩, ⟨(Rect.unit (s := S64x8x512) ![0, 1, 0] S64x1x512.size inb_S64x8x512_S64x1x512_0_1_0), (k0_pay98 (sV326 x10))⟩, ⟨(Rect.unit (s := S64x8x512) ![0, 0, 0] S64x1x512.size inb_S64x8x512_S64x1x512_0_0_0), (k0_pay97 (sV321 x10))⟩, ⟨(Rect.unit (s := S64x8x512) ![0, 0, 0] S64x1x512.size inb_S64x8x512_S64x1x512_0_0_0), (k0_pay95 (sV314 x10))⟩, ⟨(Rect.unit (s := S64x8x512) ![0, 0, 0] S64x8x512.size inb_S64x8x512_S64x8x512_0_0_0), (k0_pay94 (F := F))⟩] (Rect.unit (s := S64x8x512) ![0, 6, 0] S64x1x512.size inb_S64x8x512_S64x1x512_0_6_0).toLoadRect

def sV371 (x1 : Vec F S1024x1024 .f32) (x2 : Vec F S1x1x1024 .f32) (x3 : Vec F S1024x2560 .bf16) (x10 : Vec F S128x2x512 .f32) (q : Memref sig .tc .vmem S64x8x512 .f32) : Vec F S64x1x512 .f32 :=
  q.view.readCov [⟨(Rect.unit (s := S64x8x512) ![0, 0, 0] S64x8x512.size inb_S64x8x512_S64x8x512_0_0_0), (k0_pay103 (sV362 x1 x2 x3))⟩, ⟨(Rect.unit (s := S64x8x512) ![0, 1, 0] S64x1x512.size inb_S64x8x512_S64x1x512_0_1_0), (k0_pay98 (sV326 x10))⟩, ⟨(Rect.unit (s := S64x8x512) ![0, 0, 0] S64x1x512.size inb_S64x8x512_S64x1x512_0_0_0), (k0_pay97 (sV321 x10))⟩, ⟨(Rect.unit (s := S64x8x512) ![0, 0, 0] S64x1x512.size inb_S64x8x512_S64x1x512_0_0_0), (k0_pay95 (sV314 x10))⟩, ⟨(Rect.unit (s := S64x8x512) ![0, 0, 0] S64x8x512.size inb_S64x8x512_S64x8x512_0_0_0), (k0_pay94 (F := F))⟩] (Rect.unit (s := S64x8x512) ![0, 7, 0] S64x1x512.size inb_S64x8x512_S64x1x512_0_7_0).toLoadRect

def sV519 (x1 : Vec F S1024x1024 .f32) (x2 : Vec F S1x1x1024 .f32) (x3 : Vec F S1024x2560 .bf16) (x10 : Vec F S128x2x512 .f32) (q : Memref sig .tc .vmem S64x8x512 .f32) : Vec F S64x1x512 .f32 :=
  q.view.readCov [⟨(Rect.unit (s := S64x8x512) ![0, 0, 0] S64x8x512.size inb_S64x8x512_S64x8x512_0_0_0), (k0_pay125 (sV462 x1 x2 x3))⟩, ⟨(Rect.unit (s := S64x8x512) ![0, 1, 0] S64x1x512.size inb_S64x8x512_S64x1x512_0_1_0), (k0_pay120 (sV479 x10))⟩, ⟨(Rect.unit (s := S64x8x512) ![0, 0, 0] S64x1x512.size inb_S64x8x512_S64x1x512_0_0_0), (k0_pay119 (sV474 x10))⟩, ⟨(Rect.unit (s := S64x8x512) ![0, 0, 0] S64x1x512.size inb_S64x8x512_S64x1x512_0_0_0), (k0_pay117 (sV467 x10))⟩, ⟨(Rect.unit (s := S64x8x512) ![0, 0, 0] S64x8x512.size inb_S64x8x512_S64x8x512_0_0_0), (k0_pay116 (F := F))⟩, ⟨(Rect.unit (s := S64x8x512) ![0, 0, 0] S64x8x512.size inb_S64x8x512_S64x8x512_0_0_0), (k0_pay103 (sV362 x1 x2 x3))⟩, ⟨(Rect.unit (s := S64x8x512) ![0, 1, 0] S64x1x512.size inb_S64x8x512_S64x1x512_0_1_0), (k0_pay98 (sV326 x10))⟩, ⟨(Rect.unit (s := S64x8x512) ![0, 0, 0] S64x1x512.size inb_S64x8x512_S64x1x512_0_0_0), (k0_pay97 (sV321 x10))⟩, ⟨(Rect.unit (s := S64x8x512) ![0, 0, 0] S64x1x512.size inb_S64x8x512_S64x1x512_0_0_0), (k0_pay95 (sV314 x10))⟩, ⟨(Rect.unit (s := S64x8x512) ![0, 0, 0] S64x8x512.size inb_S64x8x512_S64x8x512_0_0_0), (k0_pay94 (F := F))⟩] (Rect.unit (s := S64x8x512) ![0, 6, 0] S64x1x512.size inb_S64x8x512_S64x1x512_0_6_0).toLoadRect

def sV524 (x1 : Vec F S1024x1024 .f32) (x2 : Vec F S1x1x1024 .f32) (x3 : Vec F S1024x2560 .bf16) (x10 : Vec F S128x2x512 .f32) (q : Memref sig .tc .vmem S64x8x512 .f32) : Vec F S64x1x512 .f32 :=
  q.view.readCov [⟨(Rect.unit (s := S64x8x512) ![0, 0, 0] S64x8x512.size inb_S64x8x512_S64x8x512_0_0_0), (k0_pay125 (sV462 x1 x2 x3))⟩, ⟨(Rect.unit (s := S64x8x512) ![0, 1, 0] S64x1x512.size inb_S64x8x512_S64x1x512_0_1_0), (k0_pay120 (sV479 x10))⟩, ⟨(Rect.unit (s := S64x8x512) ![0, 0, 0] S64x1x512.size inb_S64x8x512_S64x1x512_0_0_0), (k0_pay119 (sV474 x10))⟩, ⟨(Rect.unit (s := S64x8x512) ![0, 0, 0] S64x1x512.size inb_S64x8x512_S64x1x512_0_0_0), (k0_pay117 (sV467 x10))⟩, ⟨(Rect.unit (s := S64x8x512) ![0, 0, 0] S64x8x512.size inb_S64x8x512_S64x8x512_0_0_0), (k0_pay116 (F := F))⟩, ⟨(Rect.unit (s := S64x8x512) ![0, 0, 0] S64x8x512.size inb_S64x8x512_S64x8x512_0_0_0), (k0_pay103 (sV362 x1 x2 x3))⟩, ⟨(Rect.unit (s := S64x8x512) ![0, 1, 0] S64x1x512.size inb_S64x8x512_S64x1x512_0_1_0), (k0_pay98 (sV326 x10))⟩, ⟨(Rect.unit (s := S64x8x512) ![0, 0, 0] S64x1x512.size inb_S64x8x512_S64x1x512_0_0_0), (k0_pay97 (sV321 x10))⟩, ⟨(Rect.unit (s := S64x8x512) ![0, 0, 0] S64x1x512.size inb_S64x8x512_S64x1x512_0_0_0), (k0_pay95 (sV314 x10))⟩, ⟨(Rect.unit (s := S64x8x512) ![0, 0, 0] S64x8x512.size inb_S64x8x512_S64x8x512_0_0_0), (k0_pay94 (F := F))⟩] (Rect.unit (s := S64x8x512) ![0, 7, 0] S64x1x512.size inb_S64x8x512_S64x1x512_0_7_0).toLoadRect

/-- The rows of the convolution that the tile of samples leaves for what follows. -/
def sState (x1 : Vec F S1024x1024 .f32) (x2 : Vec F S1x1x1024 .f32) (x3 : Vec F S1024x2560 .bf16) (x10 : Vec F S128x2x512 .f32) (q : Memref sig .tc .vmem S64x8x512 .f32) : Vec F S128x2x512 .f32 :=
  View.canon [⟨(Rect.unit (s := S128x2x512) ![64, 1, 0] S64x1x512.size inb_S128x2x512_S64x1x512_64_1_0), (k0_pay127 (sV524 x1 x2 x3 x10 q))⟩, ⟨(Rect.unit (s := S128x2x512) ![64, 0, 0] S64x1x512.size inb_S128x2x512_S64x1x512_64_0_0), (k0_pay126 (sV519 x1 x2 x3 x10 q))⟩, ⟨(Rect.unit (s := S128x2x512) ![0, 1, 0] S64x1x512.size inb_S128x2x512_S64x1x512_0_1_0), (k0_pay105 (sV371 x1 x2 x3 x10 q))⟩, ⟨(Rect.unit (s := S128x2x512) ![0, 0, 0] S64x1x512.size inb_S128x2x512_S64x1x512_0_0_0), (k0_pay104 (sV366 x1 x2 x3 x10 q))⟩]

/-- The normalised gate rows of the tile of samples. -/
def sGate (x1 : Vec F S1024x1024 .f32) (x2 : Vec F S1x1x1024 .f32) (x3 : Vec F S1024x2560 .bf16) (x4 : Vec F S1x512 .f32) (x5 : Vec F S1x512 .f32) : Vec F S1024x512 .f32 :=
  View.canon [⟨(Rect.unit (s := S1024x512) ![512, 0] S512x512.size inb_S1024x512_S512x512_512_0), (k0_pay113 (sV443 x1 x2 x3) (sV444 x4) (sV448 x5))⟩, ⟨(Rect.unit (s := S1024x512) ![0, 0] S512x512.size inb_S1024x512_S512x512_0_0), (sV298 x1 x2 x3 x4 x5)⟩]

/-- The word that says the tile begins a sequence, as the body computes it. -/
abbrev isFirst (i : grid0.Coords) : BitVec 1 :=
  let arg0 : BitVec 32 := BitVec.ofNat 32 (i 0).val
  let v6 : BitVec 1 := Scalar.cmpi .eq 2#32 0#32
  let v7 : BitVec 32 := Scalar.select v6 1#32 2#32
  let v8 : BitVec 32 := Scalar.remsi arg0 v7
  let v9 : BitVec 1 := Scalar.cmpi .ne v8 0#32
  let v10 : BitVec 1 := Scalar.cmpi .slt v8 0#32
  let v11 : BitVec 1 := Scalar.cmpi .slt v7 0#32
  let v12 : BitVec 1 := Scalar.xori v10 v11
  let v13 : BitVec 1 := Scalar.andi v12 v9
  let v14 : BitVec 32 := Scalar.addi v8 v7
  let v15 : BitVec 32 := Scalar.select v13 v14 v8
  let v16 : BitVec 1 := Scalar.cmpi .eq v15 0#32
  let v17 : BitVec 32 := Scalar.extui v16
  Scalar.cmpi .ne v17 0#32

/-- The carried rows, whole. -/
abbrev rCarry : Rect S8x512 := Rect.unit ![0, 0] S8x512.size inb_S8x512_S8x512_0_0

/-- The halves of a block fill it. -/
theorem cover_tokens (a b : Vec F S512x1024 .f32) (y : S1024x1024.Idx) :
    ∃ p ∈ ([⟨Rect.unit (s := S1024x1024) ![512, 0] S512x1024.size inb_S1024x1024_S512x1024_512_0, a⟩,
      ⟨Rect.unit (s := S1024x1024) ![0, 0] S512x1024.size inb_S1024x1024_S512x1024_0_0, b⟩] : List (View.Piece (Elt F) S1024x1024 .f32)), y ∈ p.1.set :=
  View.cover_of_tiled ([⟨Rect.unit (s := S1024x1024) ![512, 0] S512x1024.size inb_S1024x1024_S512x1024_512_0, a⟩,
      ⟨Rect.unit (s := S1024x1024) ![0, 0] S512x1024.size inb_S1024x1024_S512x1024_0_0, b⟩] : List (View.Piece (Elt F) S1024x1024 .f32)) S512x1024.size (by rfl) y

theorem cover_gate (a b : Vec F S512x512 .f32) (y : S1024x512.Idx) :
    ∃ p ∈ ([⟨Rect.unit (s := S1024x512) ![512, 0] S512x512.size inb_S1024x512_S512x512_512_0, a⟩,
      ⟨Rect.unit (s := S1024x512) ![0, 0] S512x512.size inb_S1024x512_S512x512_0_0, b⟩] : List (View.Piece (Elt F) S1024x512 .f32)), y ∈ p.1.set :=
  View.cover_of_tiled ([⟨Rect.unit (s := S1024x512) ![512, 0] S512x512.size inb_S1024x512_S512x512_512_0, a⟩,
      ⟨Rect.unit (s := S1024x512) ![0, 0] S512x512.size inb_S1024x512_S512x512_0_0, b⟩] : List (View.Piece (Elt F) S1024x512 .f32)) S512x512.size (by rfl) y

/-- The four stores of the samples' rows fill their block. -/
theorem cover_state (a b a' b' : Vec F S64x1x512 .f32) (y : S128x2x512.Idx) :
    ∃ p ∈ ([⟨Rect.unit (s := S128x2x512) ![64, 1, 0] S64x1x512.size inb_S128x2x512_S64x1x512_64_1_0, a⟩,
      ⟨Rect.unit (s := S128x2x512) ![64, 0, 0] S64x1x512.size inb_S128x2x512_S64x1x512_64_0_0, b⟩,
      ⟨Rect.unit (s := S128x2x512) ![0, 1, 0] S64x1x512.size inb_S128x2x512_S64x1x512_0_1_0, a'⟩,
      ⟨Rect.unit (s := S128x2x512) ![0, 0, 0] S64x1x512.size inb_S128x2x512_S64x1x512_0_0_0, b'⟩] : List (View.Piece (Elt F) S128x2x512 .f32)), y ∈ p.1.set :=
  View.cover_of_tiled ([⟨Rect.unit (s := S128x2x512) ![64, 1, 0] S64x1x512.size inb_S128x2x512_S64x1x512_64_1_0, a⟩,
      ⟨Rect.unit (s := S128x2x512) ![64, 0, 0] S64x1x512.size inb_S128x2x512_S64x1x512_64_0_0, b⟩,
      ⟨Rect.unit (s := S128x2x512) ![0, 1, 0] S64x1x512.size inb_S128x2x512_S64x1x512_0_1_0, a'⟩,
      ⟨Rect.unit (s := S128x2x512) ![0, 0, 0] S64x1x512.size inb_S128x2x512_S64x1x512_0_0_0, b'⟩] : List (View.Piece (Elt F) S128x2x512 .f32)) S64x1x512.size (by rfl) y

end Cert.Even

end
-- ==== Proof.EvenMath.lean ====
/-
  One row of the even layer, in plain mathematics: the projections of a normed row, the gated unit with its layer
  norm, and the two factors of the convolution.
-/
module

public import proofs.«01_k».proof.Proof.Math

@[expose] public section

noncomputable section

namespace Cert.Even

open Idealize.ShloMosaic
open Cert.FfnFinal (normRow rootMean)

/-- A projection of a normed row. -/
def proj (h w : Fin 1024 → EReal) : EReal := ∑ k : Fin 1024, h k * w k

/-- The unit `x/2 · (1 + erf (x/√2))`. -/
def gelu (x : EReal) : EReal :=
  Ideal.ofBits .f32 0x3F000000#32 * x * (1 + Ideal.erf (x * Ideal.ofBits .f32 0x3F3504F3#32))

/-- The mean of 512 numbers. -/
def mean512 (a : Fin 512 → EReal) : EReal := Ideal.div (∑ d : Fin 512, a d) (Ideal.ofBits .f32 0x44000000#32)

/-- 512 numbers, centred and scaled to unit variance. -/
def centred (a : Fin 512 → EReal) (d : Fin 512) : EReal :=
  (a d - mean512 a) * Ideal.rsqrt (mean512 (fun e => (a e - mean512 a) * (a e - mean512 a)) + Ideal.ofBits .f32 0x358637BD#32)

/-- The layer norm of 512 numbers. -/
def layerNorm (a lg lb : Fin 512 → EReal) (d : Fin 512) : EReal := centred a d * lg d + lb d

variable (h : Fin 1024 → EReal) (w : Fin 1024 → Fin 2560 → EReal) (lg lb : Fin 512 → EReal)

/-- The first part of a projected row, through its unit, -/
def unitRow (d : Fin 512) : EReal := gelu (proj h fun k => w k ⟨d.val, by omega⟩)

/-- the second, normed, -/
def gateRow (d : Fin 512) : EReal := layerNorm (fun d => gelu (proj h fun k => w k ⟨512 + d.val, by omega⟩)) lg lb d

/-- the third, -/
def scaleRow (d : Fin 512) : EReal := proj h fun k => w k ⟨1024 + d.val, by omega⟩

/-- and the product of the last two. -/
def crossRow (d : Fin 512) : EReal := (proj h fun k => w k ⟨1536 + d.val, by omega⟩) * proj h fun k => w k ⟨2048 + d.val, by omega⟩

/-- A gate mixed over the rows `v s` of its chunk: the entry of row `t`, with its bias. -/
def mixed {n : Nat} (a : Fin n → Fin n → EReal) (b : Fin n → EReal) (v : Fin n → EReal) (t : Fin n) : EReal :=
  (∑ s : Fin n, (if s ≤ t then a t s else 0) * v s) + b t

/-- A row after the layer: the mixed half and the convolved half of a row, projected and added to it. -/
def outRow (x ya : Fin 1024 → EReal) (wo : Fin 1024 → Fin 1024 → EReal) (n : Fin 1024) : EReal := x n + ∑ k : Fin 1024, ya k * wo k n

end Cert.Even

end
-- ==== Proof.EvenPieces.lean ====
/-
  The pieces of a tile of the even layer, row by row.
-/
module

public import proofs.«01_k».proof.Proof.EvenDefs
public import proofs.«01_k».proof.Proof.EvenMath
public import Idealize.ShloMosaic.Lib.Pointwise

@[expose] public section

set_option maxRecDepth 16384

noncomputable section

namespace Cert.Even

open Idealize.ShloMosaic Idealize.ShloMosaic.Tactic
open Cert.EvenIdeal Cert.EvenIdeal.Gen
open Cert.FfnFinal (normRow rootMean)

variable (x : Vec Ideal S512x1024 .f32) (g : Vec Ideal S1x1x1024 .f32) (w w' : Vec Ideal S1024x512 .bf16)
  (lg lb : Vec Ideal S1x512 .f32) (h : FVec Ideal S512x1024 .bf16)

/-- The norm of a row. -/
abbrev normed (r : Fin 512) (k : Fin 1024) : EReal := normRow (fun k => x (ix2 r k)) (fun k => g (ix3 0 0 k)) k

theorem p_norm (r : Fin 512) (k : Fin 1024) : k0_pay23 x g (ix2 r k) = normed x g r k := by
  pointwise [k0_pay23, normRow, rootMean] <;> rfl

theorem p_unit (r d : Fin 512) :
    k0_pay24 x g w (ix2 r d) = gelu (proj (normed x g r) fun k => w (ix2 k d)) := by
  pointwise [k0_pay24, k0_pay23, normRow, rootMean, gelu, proj] <;> rfl

theorem p_gate (r d : Fin 512) :
    k0_pay27 (k0_pay25 x g w) (k0_pay26 x g w) lg lb (ix2 r d)
      = layerNorm (fun d => gelu (proj (normed x g r) fun k => w (ix2 k d))) (fun d => lg (ix2 0 d)) (fun d => lb (ix2 0 d)) d := by
  pointwise [k0_pay27, k0_pay23, k0_pay25, k0_pay26, normRow, rootMean, gelu, proj, layerNorm, centred, mean512] <;> rfl

theorem p_b (r d : Fin 512) : k0_pay28 h w (ix2 r d) = proj (fun k => h (ix2 r k)) fun k => w (ix2 k d) := by
  pointwise [k0_pay28, proj] <;> rfl

theorem p_xg (r d : Fin 512) : k0_pay29 h w w' (ix2 r d)
    = (proj (fun k => h (ix2 r k)) fun k => w (ix2 k d)) * proj (fun k => h (ix2 r k)) fun k => w' (ix2 k d) := by
  pointwise [k0_pay29, proj] <;> rfl

/-! The last rows of each half, and the second half of a tile of prompts. -/

theorem p_tail (r : Fin 8) (d : Fin 512) : k0_pay31 h w w' (ix2 r d)
    = (proj (fun k => h (ix2 ⟨504 + r.val, by omega⟩ k)) fun k => w (ix2 k d)) * proj (fun k => h (ix2 ⟨504 + r.val, by omega⟩ k)) fun k => w' (ix2 k d) := by
  pointwise [k0_pay31, k0_pay29, proj] <;> rfl

theorem p_norm' (r : Fin 512) (k : Fin 1024) : k0_pay36 x g (ix2 r k) = normed x g r k := by
  pointwise [k0_pay36, normRow, rootMean] <;> rfl

theorem p_unit' (r d : Fin 512) :
    k0_pay37 x g w (ix2 r d) = gelu (proj (normed x g r) fun k => w (ix2 k d)) := by
  pointwise [k0_pay37, k0_pay36, normRow, rootMean, gelu, proj] <;> rfl

theorem p_gate' (r d : Fin 512) :
    k0_pay41 (k0_pay38 x g w) (k0_pay39 x g w) (k0_pay40 (F := Ideal)) lg lb (ix2 r d)
      = layerNorm (fun d => gelu (proj (normed x g r) fun k => w (ix2 k d))) (fun d => lg (ix2 0 d)) (fun d => lb (ix2 0 d)) d := by
  pointwise [k0_pay41, k0_pay36, k0_pay38, k0_pay39, k0_pay40, normRow, rootMean, gelu, proj, layerNorm, centred, mean512] <;> rfl

theorem p_b' (r d : Fin 512) : k0_pay42 h w (ix2 r d) = proj (fun k => h (ix2 r k)) fun k => w (ix2 k d) := by
  pointwise [k0_pay42, proj] <;> rfl

theorem p_xg' (r d : Fin 512) : k0_pay43 h w w' (ix2 r d)
    = (proj (fun k => h (ix2 r k)) fun k => w (ix2 k d)) * proj (fun k => h (ix2 r k)) fun k => w' (ix2 k d) := by
  pointwise [k0_pay43, proj] <;> rfl

theorem p_tail' (a : FVec Ideal S512x512 .f32) (r : Fin 8) (d : Fin 512) : k0_pay45 a (ix2 r d) = a (ix2 ⟨504 + r.val, by omega⟩ d) := by
  pointwise [k0_pay45] <;> rfl

theorem p_state (a : FVec Ideal S8x512 .f32) (r : Fin 8) (d : Fin 512) : k0_pay3 a (ix3 0 r d) = a (ix2 r d) := by
  pointwise [k0_pay3] <;> rfl

theorem p_carry (a : FVec Ideal S8x512 .f32) (r : Fin 8) (d : Fin 512) : k0_pay2 a (ix2 r d) = a (ix2 r d) := by
  pointwise [k0_pay2] <;> rfl

/-! The tile of samples. -/

theorem s_norm (r : Fin 512) (k : Fin 1024) : k0_pay87 x g (ix2 r k) = normed x g r k := by
  pointwise [k0_pay87, normRow, rootMean] <;> rfl

theorem s_unit (r d : Fin 512) :
    k0_pay90 (k0_pay88 x g w) (k0_pay89 x g w) (ix2 r d) = gelu (proj (normed x g r) fun k => w (ix2 k d)) := by
  pointwise [k0_pay87, k0_pay88, k0_pay89, k0_pay90, normRow, rootMean, gelu, proj] <;> rfl

theorem s_gate (r d : Fin 512) :
    k0_pay91 h w lg lb (ix2 r d)
      = layerNorm (fun d => gelu (proj (fun k => h (ix2 r k)) fun k => w (ix2 k d))) (fun d => lg (ix2 0 d)) (fun d => lb (ix2 0 d)) d := by
  pointwise [k0_pay91, gelu, proj, layerNorm, centred, mean512] <;> rfl

theorem s_b (r d : Fin 512) : k0_pay92 h w (ix2 r d) = proj (fun k => h (ix2 r k)) fun k => w (ix2 k d) := by
  pointwise [k0_pay92, proj] <;> rfl

theorem s_xg (r d : Fin 512) : k0_pay93 h w w' (ix2 r d)
    = (proj (fun k => h (ix2 r k)) fun k => w (ix2 k d)) * proj (fun k => h (ix2 r k)) fun k => w' (ix2 k d) := by
  pointwise [k0_pay93, proj] <;> rfl

theorem s_norm' (r : Fin 512) (k : Fin 1024) : k0_pay110 x (k0_pay108 g) (k0_pay109 x) (ix2 r k) = normed x g r k := by
  pointwise [k0_pay110, k0_pay108, k0_pay109, normRow, rootMean] <;> rfl

theorem s_unit' (r d : Fin 512) :
    k0_pay111 x (k0_pay108 g) (k0_pay109 x) w (ix2 r d) = gelu (proj (normed x g r) fun k => w (ix2 k d)) := by
  pointwise [k0_pay111, k0_pay110, k0_pay108, k0_pay109, normRow, rootMean, gelu, proj] <;> rfl

theorem s_scaled' (r d : Fin 512) :
    k0_pay112 x (k0_pay108 g) (k0_pay109 x) w (ix2 r d)
      = centred (fun d => gelu (proj (normed x g r) fun k => w (ix2 k d))) d := by
  have e : k0_pay112 x (k0_pay108 g) (k0_pay109 x) w (ix2 r d)
      = centred (fun d => k0_pay111 x (k0_pay108 g) (k0_pay109 x) w (ix2 r d)) d := by
    generalize k0_pay108 g = a
    generalize k0_pay109 x = b
    pointwise [k0_pay112, k0_pay111, mean512, centred] <;> rfl
  rw [e]
  exact congrArg (fun f => centred f d) (funext fun d => s_unit' x g w r d)

theorem s_affine (a : FVec Ideal S512x512 .f32) (r d : Fin 512) :
    k0_pay113 a lg lb (ix2 r d) = a (ix2 r d) * lg (ix2 0 d) + lb (ix2 0 d) := by
  pointwise [k0_pay113] <;> rfl

theorem s_gate' (r d : Fin 512) :
    k0_pay113 (k0_pay112 x (k0_pay108 g) (k0_pay109 x) w) lg lb (ix2 r d)
      = layerNorm (fun d => gelu (proj (normed x g r) fun k => w (ix2 k d))) (fun d => lg (ix2 0 d)) (fun d => lb (ix2 0 d)) d := by
  rw [s_affine, s_scaled']
  rfl

theorem s_b' (r d : Fin 512) : k0_pay114 h w (ix2 r d) = proj (fun k => h (ix2 r k)) fun k => w (ix2 k d) := by
  pointwise [k0_pay114, proj] <;> rfl

theorem s_xg' (r d : Fin 512) : k0_pay115 h w w' (ix2 r d)
    = (proj (fun k => h (ix2 r k)) fun k => w (ix2 k d)) * proj (fun k => h (ix2 r k)) fun k => w' (ix2 k d) := by
  pointwise [k0_pay115, proj] <;> rfl

end Cert.Even

end
-- ==== Proof.EvenTile.lean ====
/-
  What a tile of the even layer computes of each of its rows: the parts of the projected row.
-/
module

public import proofs.«01_k».proof.Proof.EvenPieces
public import Idealize.ShloMosaic.Lib.Pointwise

@[expose] public section

set_option maxRecDepth 16384

noncomputable section

namespace Cert.Even

open Idealize.ShloMosaic Idealize.ShloMosaic.Tactic
open Cert.EvenIdeal Cert.EvenIdeal.Gen
open Cert.FfnFinal (normRow rootMean)

variable (x1 : Vec Ideal S1024x1024 .f32) (x2 : Vec Ideal S1x1x1024 .f32) (x3 : Vec Ideal S1024x2560 .bf16) (x4 x5 : Vec Ideal S1x512 .f32)

/-- A row of the tile, normed. -/
abbrev tileRow (r : Fin 1024) : Fin 1024 → EReal := normRow (fun k => x1 (ix2 r k)) fun k => x2 (ix3 0 0 k)

/-- The projection's weights. -/
abbrev weights (k : Fin 1024) (j : Fin 2560) : EReal := x3 (ix2 k j)

/-- A layer norm's row. -/
abbrev lane (x : Vec Ideal S1x512 .f32) (d : Fin 512) : EReal := x (ix2 0 d)

/-! ## The loads -/

theorem pV211_at (r : Fin 512) (k : Fin 1024) : pV211 x1 (ix2 r k) = x1 (ix2 ⟨r.val, by omega⟩ k) := by
  pointwise [pV211]

theorem sV237_at (r : Fin 512) (k : Fin 1024) : sV237 x1 (ix2 r k) = x1 (ix2 ⟨r.val, by omega⟩ k) := by
  pointwise [sV237]

theorem pV303_at (r : Fin 512) (k : Fin 1024) : pV303 x1 (ix2 r k) = x1 (ix2 ⟨512 + r.val, by omega⟩ k) := by
  pointwise [pV303]

theorem sV390_at (r : Fin 512) (k : Fin 1024) : sV390 x1 (ix2 r k) = x1 (ix2 ⟨512 + r.val, by omega⟩ k) := by
  pointwise [sV390]

theorem pV212_at (k : Fin 1024) : pV212 x2 (ix3 0 0 k) = x2 (ix3 0 0 k) := by
  pointwise [pV212]

theorem pV304_at (k : Fin 1024) : pV304 x2 (ix3 0 0 k) = x2 (ix3 0 0 k) := by
  pointwise [pV304]

theorem sV238_at (k : Fin 1024) : sV238 x2 (ix3 0 0 k) = x2 (ix3 0 0 k) := by
  pointwise [sV238]

theorem sV391_at (k : Fin 1024) : sV391 x2 (ix3 0 0 k) = x2 (ix3 0 0 k) := by
  pointwise [sV391]

theorem pV227_at (k : Fin 1024) (d : Fin 512) : pV227 x3 (ix2 k d) = x3 (ix2 k ⟨d.val, by omega⟩) := by
  pointwise [pV227]

theorem pV319_at (k : Fin 1024) (d : Fin 512) : pV319 x3 (ix2 k d) = x3 (ix2 k ⟨d.val, by omega⟩) := by
  pointwise [pV319]

theorem sV253_at (k : Fin 1024) (d : Fin 512) : sV253 x3 (ix2 k d) = x3 (ix2 k ⟨d.val, by omega⟩) := by
  pointwise [sV253]

theorem sV406_at (k : Fin 1024) (d : Fin 512) : sV406 x3 (ix2 k d) = x3 (ix2 k ⟨d.val, by omega⟩) := by
  pointwise [sV406]

theorem pV238_at (k : Fin 1024) (d : Fin 512) : pV238 x3 (ix2 k d) = x3 (ix2 k ⟨512 + d.val, by omega⟩) := by
  pointwise [pV238]

theorem pV330_at (k : Fin 1024) (d : Fin 512) : pV330 x3 (ix2 k d) = x3 (ix2 k ⟨512 + d.val, by omega⟩) := by
  pointwise [pV330]

theorem sV264_at (k : Fin 1024) (d : Fin 512) : sV264 x3 (ix2 k d) = x3 (ix2 k ⟨512 + d.val, by omega⟩) := by
  pointwise [sV264]

theorem sV417_at (k : Fin 1024) (d : Fin 512) : sV417 x3 (ix2 k d) = x3 (ix2 k ⟨512 + d.val, by omega⟩) := by
  pointwise [sV417]

theorem pV279_at (k : Fin 1024) (d : Fin 512) : pV279 x3 (ix2 k d) = x3 (ix2 k ⟨1024 + d.val, by omega⟩) := by
  pointwise [pV279]

theorem pV371_at (k : Fin 1024) (d : Fin 512) : pV371 x3 (ix2 k d) = x3 (ix2 k ⟨1024 + d.val, by omega⟩) := by
  pointwise [pV371]

theorem sV306_at (k : Fin 1024) (d : Fin 512) : sV306 x3 (ix2 k d) = x3 (ix2 k ⟨1024 + d.val, by omega⟩) := by
  pointwise [sV306]

theorem sV459_at (k : Fin 1024) (d : Fin 512) : sV459 x3 (ix2 k d) = x3 (ix2 k ⟨1024 + d.val, by omega⟩) := by
  pointwise [sV459]

theorem pV273_at (k : Fin 1024) (d : Fin 512) : pV273 x3 (ix2 k d) = x3 (ix2 k ⟨1536 + d.val, by omega⟩) := by
  pointwise [pV273]

theorem pV365_at (k : Fin 1024) (d : Fin 512) : pV365 x3 (ix2 k d) = x3 (ix2 k ⟨1536 + d.val, by omega⟩) := by
  pointwise [pV365]

theorem sV300_at (k : Fin 1024) (d : Fin 512) : sV300 x3 (ix2 k d) = x3 (ix2 k ⟨1536 + d.val, by omega⟩) := by
  pointwise [sV300]

theorem sV453_at (k : Fin 1024) (d : Fin 512) : sV453 x3 (ix2 k d) = x3 (ix2 k ⟨1536 + d.val, by omega⟩) := by
  pointwise [sV453]

theorem pV276_at (k : Fin 1024) (d : Fin 512) : pV276 x3 (ix2 k d) = x3 (ix2 k ⟨2048 + d.val, by omega⟩) := by
  pointwise [pV276]

theorem pV368_at (k : Fin 1024) (d : Fin 512) : pV368 x3 (ix2 k d) = x3 (ix2 k ⟨2048 + d.val, by omega⟩) := by
  pointwise [pV368]

theorem sV303_at (k : Fin 1024) (d : Fin 512) : sV303 x3 (ix2 k d) = x3 (ix2 k ⟨2048 + d.val, by omega⟩) := by
  pointwise [sV303]

theorem sV456_at (k : Fin 1024) (d : Fin 512) : sV456 x3 (ix2 k d) = x3 (ix2 k ⟨2048 + d.val, by omega⟩) := by
  pointwise [sV456]

theorem pV265_at (d : Fin 512) : pV265 x4 (ix2 0 d) = x4 (ix2 0 d) := by
  pointwise [pV265]

theorem pV357_at (d : Fin 512) : pV357 x4 (ix2 0 d) = x4 (ix2 0 d) := by
  pointwise [pV357]

theorem sV291_at (d : Fin 512) : sV291 x4 (ix2 0 d) = x4 (ix2 0 d) := by
  pointwise [sV291]

theorem sV444_at (d : Fin 512) : sV444 x4 (ix2 0 d) = x4 (ix2 0 d) := by
  pointwise [sV444]

theorem pV269_at (d : Fin 512) : pV269 x5 (ix2 0 d) = x5 (ix2 0 d) := by
  pointwise [pV269]

theorem pV361_at (d : Fin 512) : pV361 x5 (ix2 0 d) = x5 (ix2 0 d) := by
  pointwise [pV361]

theorem sV295_at (d : Fin 512) : sV295 x5 (ix2 0 d) = x5 (ix2 0 d) := by
  pointwise [sV295]

theorem sV448_at (d : Fin 512) : sV448 x5 (ix2 0 d) = x5 (ix2 0 d) := by
  pointwise [sV448]

/-! ## The rows -/

/-- The top half of a tile of prompts. -/
theorem pV226_row (r : Fin 512) : (fun k => pV226 x1 x2 (ix2 r k)) = tileRow x1 x2 ⟨r.val, by omega⟩ :=
  funext fun k => (p_norm _ _ r k).trans (by simp only [normed, pV211_at, pV212_at])

theorem pV237_at (r d : Fin 512) : pV237 x1 x2 x3 (ix2 r d) = unitRow (tileRow x1 x2 ⟨r.val, by omega⟩) (weights x3) d :=
  (p_unit _ _ _ r d).trans (by unfold normed; simp only [unitRow, pV211_at, pV212_at, pV227_at])

theorem pV272_at (r d : Fin 512) : pV272 x1 x2 x3 x4 x5 (ix2 r d) = gateRow (tileRow x1 x2 ⟨r.val, by omega⟩) (weights x3) (lane x4) (lane x5) d :=
  (p_gate _ _ _ _ _ r d).trans (by unfold normed; simp only [gateRow, pV211_at, pV212_at, pV238_at, pV265_at, pV269_at])

theorem pV300_at (r d : Fin 512) : pV300 x1 x2 x3 x4 x5 (ix2 r d) = gateRow (tileRow x1 x2 ⟨r.val, by omega⟩) (weights x3) (lane x4) (lane x5) d :=
  pV272_at x1 x2 x3 x4 x5 r d

theorem pV281_at (r d : Fin 512) : pV281 x1 x2 x3 (ix2 r d) = scaleRow (tileRow x1 x2 ⟨r.val, by omega⟩) (weights x3) d :=
  (p_b _ _ r d).trans (by rw [pV226_row]; simp only [scaleRow, pV279_at])

theorem pV282_at (r d : Fin 512) : pV282 x1 x2 x3 (ix2 r d) = crossRow (tileRow x1 x2 ⟨r.val, by omega⟩) (weights x3) d :=
  (p_xg _ _ _ r d).trans (by rw [pV226_row]; simp only [crossRow, pV273_at, pV276_at])

/-- The bottom half. -/
theorem pV318_row (r : Fin 512) : (fun k => pV318 x1 x2 (ix2 r k)) = tileRow x1 x2 ⟨512 + r.val, by omega⟩ :=
  funext fun k => (p_norm' _ _ r k).trans (by simp only [normed, pV303_at, pV304_at])

theorem pV329_at (r d : Fin 512) : pV329 x1 x2 x3 (ix2 r d) = unitRow (tileRow x1 x2 ⟨512 + r.val, by omega⟩) (weights x3) d :=
  (p_unit' _ _ _ r d).trans (by unfold normed; simp only [unitRow, pV303_at, pV304_at, pV319_at])

theorem pV364_at (r d : Fin 512) : pV364 x1 x2 x3 x4 x5 (ix2 r d) = gateRow (tileRow x1 x2 ⟨512 + r.val, by omega⟩) (weights x3) (lane x4) (lane x5) d :=
  (p_gate' _ _ _ _ _ r d).trans (by unfold normed; simp only [gateRow, pV303_at, pV304_at, pV330_at, pV357_at, pV361_at])

theorem pV392_at (r d : Fin 512) : pV392 x1 x2 x3 x4 x5 (ix2 r d) = gateRow (tileRow x1 x2 ⟨512 + r.val, by omega⟩) (weights x3) (lane x4) (lane x5) d :=
  pV364_at x1 x2 x3 x4 x5 r d

theorem pV373_at (r d : Fin 512) : pV373 x1 x2 x3 (ix2 r d) = scaleRow (tileRow x1 x2 ⟨512 + r.val, by omega⟩) (weights x3) d :=
  (p_b' _ _ r d).trans (by rw [pV318_row]; simp only [scaleRow, pV371_at])

theorem pV374_at (r d : Fin 512) : pV374 x1 x2 x3 (ix2 r d) = crossRow (tileRow x1 x2 ⟨512 + r.val, by omega⟩) (weights x3) d :=
  (p_xg' _ _ _ r d).trans (by rw [pV318_row]; simp only [crossRow, pV365_at, pV368_at])

/-- The top half of the tile of samples. -/
theorem sV252_row (r : Fin 512) : (fun k => sV252 x1 x2 (ix2 r k)) = tileRow x1 x2 ⟨r.val, by omega⟩ :=
  funext fun k => (s_norm _ _ r k).trans (by simp only [normed, sV237_at, sV238_at])

theorem sV263_at (r d : Fin 512) : sV263 x1 x2 x3 (ix2 r d) = unitRow (tileRow x1 x2 ⟨r.val, by omega⟩) (weights x3) d :=
  (s_unit _ _ _ r d).trans (by unfold normed; simp only [unitRow, sV237_at, sV238_at, sV253_at])

theorem sV298_at (r d : Fin 512) : sV298 x1 x2 x3 x4 x5 (ix2 r d) = gateRow (tileRow x1 x2 ⟨r.val, by omega⟩) (weights x3) (lane x4) (lane x5) d :=
  (s_gate _ _ _ _ r d).trans (by rw [sV252_row]; simp only [gateRow, sV264_at, sV291_at, sV295_at])

theorem sV387_at (r d : Fin 512) : sV387 x1 x2 x3 x4 x5 (ix2 r d) = gateRow (tileRow x1 x2 ⟨r.val, by omega⟩) (weights x3) (lane x4) (lane x5) d :=
  sV298_at x1 x2 x3 x4 x5 r d

theorem sV308_at (r d : Fin 512) : sV308 x1 x2 x3 (ix2 r d) = scaleRow (tileRow x1 x2 ⟨r.val, by omega⟩) (weights x3) d :=
  (s_b _ _ r d).trans (by rw [sV252_row]; simp only [scaleRow, sV306_at])

theorem sV309_at (r d : Fin 512) : sV309 x1 x2 x3 (ix2 r d) = crossRow (tileRow x1 x2 ⟨r.val, by omega⟩) (weights x3) d :=
  (s_xg _ _ _ r d).trans (by rw [sV252_row]; simp only [crossRow, sV300_at, sV303_at])

/-- The bottom half. -/
theorem sV405_row (r : Fin 512) : (fun k => sV405 x1 x2 (ix2 r k)) = tileRow x1 x2 ⟨512 + r.val, by omega⟩ :=
  funext fun k => (s_norm' _ _ r k).trans (by simp only [normed, sV390_at, sV391_at])

theorem sV416_at (r d : Fin 512) : sV416 x1 x2 x3 (ix2 r d) = unitRow (tileRow x1 x2 ⟨512 + r.val, by omega⟩) (weights x3) d :=
  (s_unit' _ _ _ r d).trans (by unfold normed; simp only [unitRow, sV390_at, sV391_at, sV406_at])

theorem sV451_at (r d : Fin 512) : sV451 x1 x2 x3 x4 x5 (ix2 r d) = gateRow (tileRow x1 x2 ⟨512 + r.val, by omega⟩) (weights x3) (lane x4) (lane x5) d :=
  (s_gate' _ _ _ _ _ r d).trans (by unfold normed; simp only [gateRow, sV390_at, sV391_at, sV417_at, sV444_at, sV448_at])

theorem sV540_at (r d : Fin 512) : sV540 x1 x2 x3 x4 x5 (ix2 r d) = gateRow (tileRow x1 x2 ⟨512 + r.val, by omega⟩) (weights x3) (lane x4) (lane x5) d :=
  sV451_at x1 x2 x3 x4 x5 r d

theorem sV461_at (r d : Fin 512) : sV461 x1 x2 x3 (ix2 r d) = scaleRow (tileRow x1 x2 ⟨512 + r.val, by omega⟩) (weights x3) d :=
  (s_b' _ _ r d).trans (by rw [sV405_row]; simp only [scaleRow, sV459_at])

theorem sV462_at (r d : Fin 512) : sV462 x1 x2 x3 (ix2 r d) = crossRow (tileRow x1 x2 ⟨512 + r.val, by omega⟩) (weights x3) d :=
  (s_xg' _ _ _ r d).trans (by rw [sV405_row]; simp only [crossRow, sV453_at, sV456_at])

/-- The last eight rows of the top half, -/
theorem pV288_at (r : Fin 8) (d : Fin 512) : pV288 x1 x2 x3 (ix2 r d) = crossRow (tileRow x1 x2 ⟨504 + r.val, by omega⟩) (weights x3) d :=
  (p_tail _ _ _ r d).trans (by rw [pV226_row]; simp only [crossRow, pV273_at, pV276_at])

/-- those of the tile, shown of a sequence's end, -/
theorem pState_at (r : Fin 8) (d : Fin 512) : pState x1 x2 x3 (ix3 0 r d) = crossRow (tileRow x1 x2 ⟨1016 + r.val, by omega⟩) (weights x3) d := by
  refine (p_state _ r d).trans ((p_tail' _ r d).trans ((pV374_at x1 x2 x3 _ d).trans ?_))
  exact congrArg (fun q => crossRow (tileRow x1 x2 q) (weights x3) d) (Fin.ext (by show 512 + (504 + r.val) = 1016 + r.val; omega))

/-- and handed on. -/
theorem pCarry_at (r : Fin 8) (d : Fin 512) : pCarry x1 x2 x3 (ix2 r d) = crossRow (tileRow x1 x2 ⟨1016 + r.val, by omega⟩) (weights x3) d := by
  refine (p_carry _ r d).trans ((p_tail' _ r d).trans ((pV374_at x1 x2 x3 _ d).trans ?_))
  exact congrArg (fun q => crossRow (tileRow x1 x2 q) (weights x3) d) (Fin.ext (by show 512 + (504 + r.val) = 1016 + r.val; omega))

end Cert.Even

end
-- ==== Proof.EvenConv.lean ====
/-
  The convolution of a half tile of the even layer, row by row.
-/
module

public import proofs.«01_k».proof.Proof.EvenTile
public import Idealize.ShloMosaic.Lib.Pointwise

@[expose] public section

set_option maxRecDepth 16384

noncomputable section

namespace Cert.Even

open Idealize.ShloMosaic Idealize.ShloMosaic.Tactic
open Cert.EvenIdeal Cert.EvenIdeal.Gen
open Cert.FfnFinal (normRow rootMean)

/-- The row `n` before row `r`: one of the eight rows `p` before the half, or one of its own rows `y`. -/
def back (n : Nat) (hn : n ≤ 8) (p : Fin 8 → EReal) (y : Fin 512 → EReal) (r : Fin 512) : EReal :=
  if h : r.val < n then p ⟨8 - n + r.val, by omega⟩ else y ⟨r.val - n, by omega⟩

/-- Eight rows, then 512, turned down by `n` and cut after the eighth. -/
theorem shifted (n : BitVec 32) (hn : n = 1#32 ∨ n = 2#32) (p : FVec Ideal S8x512 .f32) (y : FVec Ideal S512x512 .f32) (r d : Fin 512) :
    extractStridedSlice S512x512 ![8, 0] (dynamicRotate 0 n none
        (concatenate S520x512 0 [⟨S8x512, p⟩, ⟨S512x512, y⟩] concatenates_S8x512_S512x512_S520x512_d0) rotates_S520x512_d0)
        slices_S520x512_o8_0_S512x512 (ix2 r d)
      = back n.toNat (by rcases hn with rfl | rfl <;> decide) (fun q => p (ix2 q d)) (fun q => y (ix2 q d)) r := by
  have hr := r.isLt
  rcases hn with rfl | rfl
  · pointwise [back]
    by_cases h : r.val < 1
    · rw [dif_pos (by omega), dif_pos (by show r.val < 1; omega)]
      exact congrArg (fun q => p (ix2 q d)) (Fin.ext (by show (8 + r.val + 520 - 1) % 520 = 8 - 1 + r.val; omega))
    · rw [dif_neg (by omega), dif_neg (by show ¬ r.val < 1; omega)]
      exact congrArg (fun q => y (ix2 q d)) (Fin.ext (by show (8 + r.val + 520 - 1) % 520 - 8 = r.val - 1; omega))
  · pointwise [back]
    by_cases h : r.val < 2
    · rw [dif_pos (by omega), dif_pos (by show r.val < 2; omega)]
      exact congrArg (fun q => p (ix2 q d)) (Fin.ext (by show (8 + r.val + 520 - 2) % 520 = 8 - 2 + r.val; omega))
    · rw [dif_neg (by omega), dif_neg (by show ¬ r.val < 2; omega)]
      exact congrArg (fun q => y (ix2 q d)) (Fin.ext (by show (8 + r.val + 520 - 2) % 520 - 8 = r.val - 2; omega))

/-- The convolution of three rows, scaled. -/
def convolved (b y2 y1 y0 : EReal) (w : Fin 3 → EReal) : EReal := b * (y2 * w 0 + y1 * w 1 + y0 * w 2)

theorem taps (w : FVec Ideal S3x512 .f32) (b y2 y1 y0 : FVec Ideal S512x512 .f32) (r d : Fin 512) :
    k0_pay107 w b y0 y1 y2 (ix2 r d) = convolved (b (ix2 r d)) (y2 (ix2 r d)) (y1 (ix2 r d)) (y0 (ix2 r d)) fun n => w (ix2 n d) := by
  pointwise [k0_pay107, convolved]

theorem conv_top (w : FVec Ideal S3x512 .f32) (b : FVec Ideal S512x512 .f32) (p : Vec Ideal S8x512 .f32) (h : FVec Ideal S512x1024 .bf16)
    (wa wc : Vec Ideal S1024x512 .bf16) (r d : Fin 512) :
    k0_pay35 w b (k0_pay29 h wa wc) (k0_pay32 w p h wa wc) (k0_pay33 w p h wa wc) (ix2 r d)
      = convolved (b (ix2 r d)) (back 2 (by decide) (fun q => p (ix2 q d)) (fun q => k0_pay29 h wa wc (ix2 q d)) r)
          (back 1 (by decide) (fun q => p (ix2 q d)) (fun q => k0_pay29 h wa wc (ix2 q d)) r) (k0_pay29 h wa wc (ix2 r d)) fun n => w (ix2 n d) := by
  obtain ⟨y2, y1, e, h2, h1⟩ : ∃ y2 y1, k0_pay35 w b (k0_pay29 h wa wc) (k0_pay32 w p h wa wc) (k0_pay33 w p h wa wc) = k0_pay107 w b (k0_pay29 h wa wc) y1 y2
      ∧ y2 (ix2 r d) = back 2 (by decide) (fun q => p (ix2 q d)) (fun q => k0_pay29 h wa wc (ix2 q d)) r
      ∧ y1 (ix2 r d) = back 1 (by decide) (fun q => p (ix2 q d)) (fun q => k0_pay29 h wa wc (ix2 q d)) r :=
    ⟨_, _, rfl, shifted 2#32 (.inr rfl) p _ r d, shifted 1#32 (.inl rfl) p _ r d⟩
  rw [e, taps, h2, h1]

theorem conv_bottom (w : FVec Ideal S3x512 .f32) (b : FVec Ideal S512x512 .f32) (p : FVec Ideal S8x512 .f32) (h : FVec Ideal S512x1024 .bf16)
    (wa wc : Vec Ideal S1024x512 .bf16) (r d : Fin 512) :
    k0_pay47 w b (k0_pay43 h wa wc) (k0_pay44 p h wa wc) 1#32 (ix2 r d)
      = convolved (b (ix2 r d)) (back 2 (by decide) (fun q => p (ix2 q d)) (fun q => k0_pay43 h wa wc (ix2 q d)) r)
          (back 1 (by decide) (fun q => p (ix2 q d)) (fun q => k0_pay43 h wa wc (ix2 q d)) r) (k0_pay43 h wa wc (ix2 r d)) fun n => w (ix2 n d) := by
  obtain ⟨y2, y1, e, h2, h1⟩ : ∃ y2 y1, k0_pay47 w b (k0_pay43 h wa wc) (k0_pay44 p h wa wc) 1#32 = k0_pay107 w b (k0_pay43 h wa wc) y1 y2
      ∧ y2 (ix2 r d) = back 2 (by decide) (fun q => p (ix2 q d)) (fun q => k0_pay43 h wa wc (ix2 q d)) r
      ∧ y1 (ix2 r d) = back 1 (by decide) (fun q => p (ix2 q d)) (fun q => k0_pay43 h wa wc (ix2 q d)) r :=
    ⟨_, _, rfl, shifted 2#32 (.inr rfl) p _ r d, shifted 1#32 (.inl rfl) p _ r d⟩
  rw [e, taps, h2, h1]

variable (x1 : Vec Ideal S1024x1024 .f32) (x2 : Vec Ideal S1x1x1024 .f32) (x3 : Vec Ideal S1024x2560 .bf16) (x8 : Vec Ideal S3x512 .f32)

theorem pV209_at (n : Fin 3) (d : Fin 512) : pV209 x8 (ix2 n d) = x8 (ix2 n d) := by
  pointwise [pV209, k0_pay22, pV208]

theorem sV236_at (n : Fin 3) (d : Fin 512) : sV236 x8 (ix2 n d) = x8 (ix2 n d) := by
  pointwise [sV236, k0_pay86, sV235]

/-- The product of a row of the tile, at its row number. -/
abbrev cross (d : Fin 512) (r : Fin 1024) : EReal := crossRow (tileRow x1 x2 r) (weights x3) d

/-- The convolved half of a row of a tile of prompts, with the eight rows before the tile. -/
def convTile (p : Fin 8 → Fin 512 → EReal) (r : Fin 1024) (d : Fin 512) : EReal :=
  convolved (scaleRow (tileRow x1 x2 r) (weights x3) d)
    (if h : r.val < 2 then p ⟨6 + r.val, by omega⟩ d else cross x1 x2 x3 d ⟨r.val - 2, by omega⟩)
    (if h : r.val < 1 then p ⟨7 + r.val, by omega⟩ d else cross x1 x2 x3 d ⟨r.val - 1, by omega⟩)
    (cross x1 x2 x3 d r) fun n => x8 (ix2 n d)

theorem pV302_at (cr : Vec Ideal S8x512 .f32) (r d : Fin 512) :
    pV302 x1 x2 x3 x8 cr (ix2 r d) = convTile x1 x2 x3 x8 (fun q d => cr (ix2 q d)) ⟨r.val, by omega⟩ d := by
  refine (conv_top _ _ cr _ _ _ r d).trans ?_
  have e : ∀ q, k0_pay29 (pV226 x1 x2) (pV273 x3) (pV276 x3) (ix2 q d) = cross x1 x2 x3 d ⟨q.val, by omega⟩ := fun q => pV282_at x1 x2 x3 q d
  simp only [e, pV281_at, pV209_at]
  rfl

theorem pV394_at (p : Fin 8 → Fin 512 → EReal) (r d : Fin 512) :
    pV394 x1 x2 x3 x8 (ix2 r d) = convTile x1 x2 x3 x8 p ⟨512 + r.val, by omega⟩ d := by
  refine (conv_bottom _ _ _ _ _ _ r d).trans ?_
  have e : ∀ q, k0_pay43 (pV318 x1 x2) (pV365 x3) (pV368 x3) (ix2 q d) = cross x1 x2 x3 d ⟨512 + q.val, by omega⟩ := fun q => pV374_at x1 x2 x3 q d
  simp only [e, pV373_at, pV209_at, pV288_at]
  unfold convTile
  rw [dif_neg (show ¬ 512 + r.val < 2 by omega), dif_neg (show ¬ 512 + r.val < 1 by omega)]
  refine congrArg₂ (fun u v => convolved _ u v _ _) ?_ ?_
  · unfold back
    split
    · exact congrArg (cross x1 x2 x3 d) (Fin.ext (by show 504 + (8 - 2 + r.val) = 512 + r.val - 2; omega))
    · exact congrArg (cross x1 x2 x3 d) (Fin.ext (by show 512 + (r.val - 2) = 512 + r.val - 2; omega))
  · unfold back
    split
    · exact congrArg (cross x1 x2 x3 d) (Fin.ext (by show 504 + (8 - 1 + r.val) = 512 + r.val - 1; omega))
    · exact congrArg (cross x1 x2 x3 d) (Fin.ext (by show 512 + (r.val - 1) = 512 + r.val - 1; omega))

end Cert.Even

end
-- ==== Proof.EvenHeads.lean ====
/-
  The heads of the even layer: every chunk of a half tile is mixed head by head, the heads are set side by side, and the
  convolved half beside them.
-/
module

public import proofs.«01_k».proof.Proof.EvenDefs
public import proofs.«01_k».proof.Proof.EvenMath
public import Idealize.ShloMosaic.Lib.Pointwise

@[expose] public section

set_option maxRecDepth 16384

noncomputable section

namespace Cert.Even

open Idealize.ShloMosaic Idealize.ShloMosaic.Tactic
open Cert.EvenIdeal Cert.EvenIdeal.Gen

/-- Four chunks, one under another. -/
theorem stack4 (y0 y1 y2 y3 : FVec Ideal S128x128 .bf16) (c : Fin 4) (t e : Fin 128) :
    (concatenate S512x128 0 [⟨S128x128, y0⟩, ⟨S128x128, y1⟩, ⟨S128x128, y2⟩, ⟨S128x128, y3⟩] concatenates_S128x128_S128x128_S128x128_S128x128_S512x128_d0 : FVec Ideal S512x128 .bf16)
      (ix2 ⟨c.val * 128 + t.val, by omega⟩ e) = (![y0, y1, y2, y3] : Fin 4 → FVec Ideal S128x128 .bf16) c (ix2 t e) := by
  fin_cases c
  · pointwise []
  · pointwise []
  · pointwise []
    rw [dif_neg (by omega), dif_neg (by omega), dif_pos (by omega)]
    exact congrArg (fun r => y2 (ix2 r e)) (Fin.ext (by show 256 + t.val - 128 - 128 = t.val; omega))
  · pointwise []
    rw [dif_neg (by omega), dif_neg (by omega), dif_neg (by omega)]
    exact congrArg (fun r => y3 (ix2 r e)) (Fin.ext (by show 384 + t.val - 128 - 128 - 128 = t.val; omega))

/-- A row of a head: the rows of its chunk mixed, its bias added, the gate's unit times it. -/
def headAt (A : FVec Ideal S128x128 .bf16) (B : FVec Ideal S128x1 .f32) (U : FVec Ideal S512x512 .f32) (V : FVec Ideal S512x512 .bf16)
    (c : Fin 4) (t : Fin 128) (k : Fin 512) : EReal :=
  U (ix2 ⟨c.val * 128 + t.val, by omega⟩ k) * ((∑ s : Fin 128, A (ix2 t s) * V (ix2 ⟨c.val * 128 + s.val, by omega⟩ k)) + B (ix2 t 0))

variable (A : FVec Ideal S128x128 .bf16) (B : FVec Ideal S128x1 .f32) (U : FVec Ideal S512x512 .f32) (V : FVec Ideal S512x512 .bf16)

theorem head48 (c : Fin 4) (t e : Fin 128) :
    k0_pay48 A B U V (ix2 ⟨c.val * 128 + t.val, by omega⟩ e) = headAt A B U V c t ⟨0 + e.val, by omega⟩ := by
  refine (stack4 _ _ _ _ c t e).trans ?_
  fin_cases c <;> pointwise [headAt]

theorem head50 (c : Fin 4) (t e : Fin 128) :
    k0_pay50 A B U V (k0_pay49 A B U V) (ix2 ⟨c.val * 128 + t.val, by omega⟩ e) = headAt A B U V c t ⟨128 + e.val, by omega⟩ := by
  refine (stack4 _ _ _ _ c t e).trans ?_
  fin_cases c <;> pointwise [k0_pay49, headAt]

theorem head51 (c : Fin 4) (t e : Fin 128) :
    k0_pay51 A B U V (ix2 ⟨c.val * 128 + t.val, by omega⟩ e) = headAt A B U V c t ⟨256 + e.val, by omega⟩ := by
  refine (stack4 _ _ _ _ c t e).trans ?_
  fin_cases c <;> pointwise [headAt]

/-- Four heads side by side, and the convolved half beside them. -/
abbrev beside (y0 y1 y2 y3 : FVec Ideal S512x128 .bf16) (z : FVec Ideal S512x512 .bf16) : FVec Ideal S512x1024 .bf16 :=
  concatenate S512x1024 1 [⟨S512x128, y0⟩, ⟨S512x128, y1⟩, ⟨S512x128, y2⟩, ⟨S512x128, y3⟩, ⟨S512x512, z⟩] concatenates_S512x128_S512x128_S512x128_S512x128_S512x512_S512x1024_d1

theorem beside_head (y0 y1 y2 y3 : FVec Ideal S512x128 .bf16) (z : FVec Ideal S512x512 .bf16) (r : Fin 512) (h : Fin 4) (e : Fin 128) :
    beside y0 y1 y2 y3 z (ix2 r ⟨h.val * 128 + e.val, by omega⟩) = (![y0, y1, y2, y3] : Fin 4 → FVec Ideal S512x128 .bf16) h (ix2 r e) := by
  fin_cases h
  · pointwise []
  · pointwise []
  · pointwise []
    rw [dif_neg (by omega), dif_neg (by omega), dif_pos (by omega)]
    exact congrArg (fun e => y2 (ix2 r e)) (Fin.ext (by show 256 + e.val - 128 - 128 = e.val; omega))
  · pointwise []
    rw [dif_neg (by omega), dif_neg (by omega), dif_neg (by omega), dif_pos (by omega)]
    exact congrArg (fun e => y3 (ix2 r e)) (Fin.ext (by show 384 + e.val - 128 - 128 - 128 = e.val; omega))

theorem beside_rest (y0 y1 y2 y3 : FVec Ideal S512x128 .bf16) (z : FVec Ideal S512x512 .bf16) (r : Fin 512) (d : Fin 512) :
    beside y0 y1 y2 y3 z (ix2 r ⟨512 + d.val, by omega⟩) = z (ix2 r d) := by
  pointwise []
  rw [dif_neg (by omega), dif_neg (by omega), dif_neg (by omega), dif_neg (by omega)]
  exact congrArg (fun e => z (ix2 r e)) (Fin.ext (by show 512 + d.val - 128 - 128 - 128 - 128 = d.val; omega))

/-- A row of the mixed half: head by head. -/
def halfAt (A : Fin 4 → FVec Ideal S128x128 .bf16) (B : Fin 4 → FVec Ideal S128x1 .f32) (U : FVec Ideal S512x512 .f32) (V : FVec Ideal S512x512 .bf16)
    (c : Fin 4) (t : Fin 128) (k : Fin 512) : EReal :=
  headAt (A ⟨k.val / 128, by omega⟩) (B ⟨k.val / 128, by omega⟩) U V c t k

theorem beside_at (A : Fin 4 → FVec Ideal S128x128 .bf16) (B : Fin 4 → FVec Ideal S128x1 .f32) (y0 y1 y2 y3 : FVec Ideal S512x128 .bf16) (z : FVec Ideal S512x512 .bf16)
    (h0 : ∀ (c : Fin 4) (t e : Fin 128), y0 (ix2 ⟨c.val * 128 + t.val, by omega⟩ e) = headAt (A 0) (B 0) U V c t ⟨0 + e.val, by omega⟩)
    (h1 : ∀ (c : Fin 4) (t e : Fin 128), y1 (ix2 ⟨c.val * 128 + t.val, by omega⟩ e) = headAt (A 1) (B 1) U V c t ⟨128 + e.val, by omega⟩)
    (h2 : ∀ (c : Fin 4) (t e : Fin 128), y2 (ix2 ⟨c.val * 128 + t.val, by omega⟩ e) = headAt (A 2) (B 2) U V c t ⟨256 + e.val, by omega⟩)
    (h3 : ∀ (c : Fin 4) (t e : Fin 128), y3 (ix2 ⟨c.val * 128 + t.val, by omega⟩ e) = headAt (A 3) (B 3) U V c t ⟨384 + e.val, by omega⟩)
    (c : Fin 4) (t : Fin 128) (k : Fin 1024) :
    beside y0 y1 y2 y3 z (ix2 ⟨c.val * 128 + t.val, by omega⟩ k)
      = if h : k.val < 512 then halfAt A B U V c t ⟨k.val, h⟩ else z (ix2 ⟨c.val * 128 + t.val, by omega⟩ ⟨k.val - 512, by omega⟩) := by
  by_cases hk : k.val < 512
  · rw [dif_pos hk]
    obtain ⟨h, e, _, rfl⟩ : ∃ (h : Fin 4) (e : Fin 128) (p : h.val * 128 + e.val < 1024), k = ⟨h.val * 128 + e.val, p⟩ :=
      ⟨⟨k.val / 128, by omega⟩, ⟨k.val % 128, by omega⟩, by show k.val / 128 * 128 + k.val % 128 < 1024; omega, Fin.ext (by show k.val = k.val / 128 * 128 + k.val % 128; omega)⟩
    rw [beside_head]
    have q : (⟨(h.val * 128 + e.val) / 128, by omega⟩ : Fin 4) = h := Fin.ext (by show (h.val * 128 + e.val) / 128 = h.val; omega)
    unfold halfAt
    simp only [q]
    fin_cases h
    · exact h0 c t e
    · exact h1 c t e
    · exact h2 c t e
    · exact h3 c t e
  · rw [dif_neg hk]
    obtain ⟨d, _, rfl⟩ : ∃ (d : Fin 512) (p : 512 + d.val < 1024), k = ⟨512 + d.val, p⟩ := ⟨⟨k.val - 512, by omega⟩, by show 512 + (k.val - 512) < 1024; omega, Fin.ext (by show k.val = 512 + (k.val - 512); omega)⟩
    rw [beside_rest]
    exact congrArg (fun d => z (ix2 _ d)) (Fin.ext (by show d.val = 512 + d.val - 512; omega))

theorem added (X : Vec Ideal S512x1024 .f32) (T : FVec Ideal S512x1024 .bf16) (W : Vec Ideal S1024x1024 .bf16) (r : Fin 512) (n : Fin 1024) :
    k0_pay1 X T W (ix2 r n) = outRow (fun n => X (ix2 r n)) (fun k => T (ix2 r k)) (fun k n => W (ix2 k n)) n := by
  pointwise [k0_pay1, outRow]

/-- A row of a half tile after the layer. -/
def rowAfter (A : Fin 4 → FVec Ideal S128x128 .bf16) (B : Fin 4 → FVec Ideal S128x1 .f32) (U : FVec Ideal S512x512 .f32) (V : FVec Ideal S512x512 .bf16)
    (X : Vec Ideal S512x1024 .f32) (Z : FVec Ideal S512x512 .bf16) (W : Vec Ideal S1024x1024 .bf16) (c : Fin 4) (t : Fin 128) (n : Fin 1024) : EReal :=
  outRow (fun n => X (ix2 ⟨c.val * 128 + t.val, by omega⟩ n))
    (fun k => if h : k.val < 512 then halfAt A B U V c t ⟨k.val, h⟩ else Z (ix2 ⟨c.val * 128 + t.val, by omega⟩ ⟨k.val - 512, by omega⟩))
    (fun k n => W (ix2 k n)) n

variable (A : Fin 4 → FVec Ideal S128x128 .bf16) (B : Fin 4 → FVec Ideal S128x1 .f32)
  (X : Vec Ideal S512x1024 .f32) (Z : FVec Ideal S512x512 .bf16) (W : Vec Ideal S1024x1024 .bf16) (c : Fin 4) (t : Fin 128) (n : Fin 1024)

theorem top_prompt :
    k0_pay53 (A 3) (B 3) X U V Z (k0_pay48 (A 0) (B 0) U V) (k0_pay50 (A 1) (B 1) U V (k0_pay49 (A 1) (B 1) U V)) (k0_pay51 (A 2) (B 2) U V) (k0_pay52 V) W
      (ix2 ⟨c.val * 128 + t.val, by omega⟩ n) = rowAfter A B U V X Z W c t n := by
  obtain ⟨y, e, hy⟩ : ∃ y, k0_pay53 (A 3) (B 3) X U V Z (k0_pay48 (A 0) (B 0) U V) (k0_pay50 (A 1) (B 1) U V (k0_pay49 (A 1) (B 1) U V)) (k0_pay51 (A 2) (B 2) U V) (k0_pay52 V) W
      = k0_pay1 X (beside (k0_pay48 (A 0) (B 0) U V) (k0_pay50 (A 1) (B 1) U V (k0_pay49 (A 1) (B 1) U V)) (k0_pay51 (A 2) (B 2) U V) y Z) W
      ∧ ∀ (c : Fin 4) (t e : Fin 128), y (ix2 ⟨c.val * 128 + t.val, by omega⟩ e) = headAt (A 3) (B 3) U V c t ⟨384 + e.val, by omega⟩ := by
    refine ⟨_, rfl, fun c t e => ?_⟩
    refine (stack4 _ _ _ _ c t e).trans ?_
    generalize A 3 = A
    generalize B 3 = B
    fin_cases c <;> pointwise [headAt, k0_pay52]
  rw [e, added]
  exact congrArg (fun f => outRow _ f _ n) (funext fun k => beside_at U V A B _ _ _ _ Z (fun c t e => head48 _ _ _ _ c t e) (fun c t e => head50 _ _ _ _ c t e) (fun c t e => head51 _ _ _ _ c t e) hy c t k)

/-- A head of the second half, chunk by chunk. -/
theorem head56 (A : FVec Ideal S128x128 .bf16) (B : FVec Ideal S128x1 .f32) (c : Fin 4) (t e : Fin 128) :
    k0_pay56 A B U V (k0_pay54 A B U V) (k0_pay55 A B U V) (ix2 ⟨c.val * 128 + t.val, by omega⟩ e) = headAt A B U V c t ⟨0 + e.val, by omega⟩ := by
  refine (stack4 _ _ _ _ c t e).trans ?_
  fin_cases c <;> pointwise [k0_pay54, k0_pay55, headAt]

theorem head57 (A : FVec Ideal S128x128 .bf16) (B : FVec Ideal S128x1 .f32) (c : Fin 4) (t e : Fin 128) :
    k0_pay57 A B U V (ix2 ⟨c.val * 128 + t.val, by omega⟩ e) = headAt A B U V c t ⟨128 + e.val, by omega⟩ := by
  refine (stack4 _ _ _ _ c t e).trans ?_
  fin_cases c <;> pointwise [headAt]

theorem bottom_prompt :
    k0_pay1 X (k0_pay60 (A 2) (B 2) (A 3) (B 3) U V Z (k0_pay56 (A 0) (B 0) U V (k0_pay54 (A 0) (B 0) U V) (k0_pay55 (A 0) (B 0) U V)) (k0_pay57 (A 1) (B 1) U V)
        (k0_pay58 (A 2) (B 2) U V) (k0_pay59 V) (constant S128x128 .f32 0x00000000#32)) W
      (ix2 ⟨c.val * 128 + t.val, by omega⟩ n) = rowAfter A B U V X Z W c t n := by
  obtain ⟨y, z, e, hy, hz⟩ : ∃ y z, (k0_pay60 (A 2) (B 2) (A 3) (B 3) U V Z (k0_pay56 (A 0) (B 0) U V (k0_pay54 (A 0) (B 0) U V) (k0_pay55 (A 0) (B 0) U V)) (k0_pay57 (A 1) (B 1) U V)
        (k0_pay58 (A 2) (B 2) U V) (k0_pay59 V) (constant S128x128 .f32 0x00000000#32))
      = beside (k0_pay56 (A 0) (B 0) U V (k0_pay54 (A 0) (B 0) U V) (k0_pay55 (A 0) (B 0) U V)) (k0_pay57 (A 1) (B 1) U V) y z Z
      ∧ (∀ (c : Fin 4) (t e : Fin 128), y (ix2 ⟨c.val * 128 + t.val, by omega⟩ e) = headAt (A 2) (B 2) U V c t ⟨256 + e.val, by omega⟩)
      ∧ (∀ (c : Fin 4) (t e : Fin 128), z (ix2 ⟨c.val * 128 + t.val, by omega⟩ e) = headAt (A 3) (B 3) U V c t ⟨384 + e.val, by omega⟩) := by
    refine ⟨_, _, rfl, fun c t e => ?_, fun c t e => ?_⟩
    · refine (stack4 _ _ _ _ c t e).trans ?_
      generalize A 2 = A
      generalize B 2 = B
      fin_cases c <;> pointwise [headAt, k0_pay58, k0_pay59]
    · refine (stack4 _ _ _ _ c t e).trans ?_
      generalize A 3 = A
      generalize B 3 = B
      fin_cases c <;> pointwise [headAt]
  rw [e, added]
  exact congrArg (fun f => outRow _ f _ n) (funext fun k => beside_at U V A B _ _ _ _ Z (fun c t e => head56 _ _ _ _ c t e) (fun c t e => head57 _ _ _ _ c t e) hy hz c t k)

/-! The samples' heads. -/

theorem head131 (A : FVec Ideal S128x128 .bf16) (B : FVec Ideal S128x1 .f32) (c : Fin 4) (t e : Fin 128) :
    k0_pay131 A B U V (k0_pay130 A B V) (ix2 ⟨c.val * 128 + t.val, by omega⟩ e) = headAt A B U V c t ⟨0 + e.val, by omega⟩ := by
  refine (stack4 _ _ _ _ c t e).trans ?_
  fin_cases c <;> pointwise [k0_pay130, headAt]

theorem head136 (A : FVec Ideal S128x128 .bf16) (B : FVec Ideal S128x1 .f32) (c : Fin 4) (t e : Fin 128) :
    k0_pay136 (k0_pay132 A B U V) (k0_pay133 A B U V) (k0_pay134 A B U V) (k0_pay135 A B U V) (ix2 ⟨c.val * 128 + t.val, by omega⟩ e) = headAt A B U V c t ⟨128 + e.val, by omega⟩ := by
  refine (stack4 _ _ _ _ c t e).trans ?_
  fin_cases c <;> pointwise [k0_pay132, k0_pay133, k0_pay134, k0_pay135, headAt]

theorem head137 (A : FVec Ideal S128x128 .bf16) (B : FVec Ideal S128x1 .f32) (c : Fin 4) (t e : Fin 128) :
    k0_pay137 A B U V (ix2 ⟨c.val * 128 + t.val, by omega⟩ e) = headAt A B U V c t ⟨256 + e.val, by omega⟩ := by
  refine (stack4 _ _ _ _ c t e).trans ?_
  fin_cases c <;> pointwise [headAt]

theorem top_sample :
    k0_pay142 (A 3) (B 3) X U Z (k0_pay131 (A 0) (B 0) U V (k0_pay130 (A 0) (B 0) V))
        (k0_pay136 (k0_pay132 (A 1) (B 1) U V) (k0_pay133 (A 1) (B 1) U V) (k0_pay134 (A 1) (B 1) U V) (k0_pay135 (A 1) (B 1) U V)) (k0_pay137 (A 2) (B 2) U V)
        (k0_pay138 (A 3) (B 3) U V) (k0_pay139 (A 3) (B 3) U V) (k0_pay140 (A 3) (B 3) U V) (k0_pay141 V) (constant S128x128 .f32 0x00000000#32) W
      (ix2 ⟨c.val * 128 + t.val, by omega⟩ n) = rowAfter A B U V X Z W c t n := by
  obtain ⟨y, e, hy⟩ : ∃ y, k0_pay142 (A 3) (B 3) X U Z (k0_pay131 (A 0) (B 0) U V (k0_pay130 (A 0) (B 0) V))
        (k0_pay136 (k0_pay132 (A 1) (B 1) U V) (k0_pay133 (A 1) (B 1) U V) (k0_pay134 (A 1) (B 1) U V) (k0_pay135 (A 1) (B 1) U V)) (k0_pay137 (A 2) (B 2) U V)
        (k0_pay138 (A 3) (B 3) U V) (k0_pay139 (A 3) (B 3) U V) (k0_pay140 (A 3) (B 3) U V) (k0_pay141 V) (constant S128x128 .f32 0x00000000#32) W
      = k0_pay1 X (beside (k0_pay131 (A 0) (B 0) U V (k0_pay130 (A 0) (B 0) V))
        (k0_pay136 (k0_pay132 (A 1) (B 1) U V) (k0_pay133 (A 1) (B 1) U V) (k0_pay134 (A 1) (B 1) U V) (k0_pay135 (A 1) (B 1) U V)) (k0_pay137 (A 2) (B 2) U V) y Z) W
      ∧ ∀ (c : Fin 4) (t e : Fin 128), y (ix2 ⟨c.val * 128 + t.val, by omega⟩ e) = headAt (A 3) (B 3) U V c t ⟨384 + e.val, by omega⟩ := by
    refine ⟨_, rfl, fun c t e => ?_⟩
    refine (stack4 _ _ _ _ c t e).trans ?_
    generalize A 3 = A
    generalize B 3 = B
    fin_cases c <;> pointwise [headAt, k0_pay138, k0_pay139, k0_pay140, k0_pay141]
  rw [e, added]
  exact congrArg (fun f => outRow _ f _ n) (funext fun k => beside_at U V A B _ _ _ _ Z (fun c t e => head131 _ _ _ _ c t e) (fun c t e => head136 _ _ _ _ c t e) (fun c t e => head137 _ _ _ _ c t e) hy c t k)

theorem head143 (A : FVec Ideal S128x128 .bf16) (B : FVec Ideal S128x1 .f32) (c : Fin 4) (t e : Fin 128) :
    k0_pay143 A B U V (ix2 ⟨c.val * 128 + t.val, by omega⟩ e) = headAt A B U V c t ⟨0 + e.val, by omega⟩ := by
  refine (stack4 _ _ _ _ c t e).trans ?_
  fin_cases c <;> pointwise [headAt]

theorem head145 (A : FVec Ideal S128x128 .bf16) (B : FVec Ideal S128x1 .f32) (c : Fin 4) (t e : Fin 128) :
    k0_pay145 A B U V (k0_pay144 A B U V) (ix2 ⟨c.val * 128 + t.val, by omega⟩ e) = headAt A B U V c t ⟨128 + e.val, by omega⟩ := by
  refine (stack4 _ _ _ _ c t e).trans ?_
  fin_cases c <;> pointwise [k0_pay144, headAt]

theorem head146 (A : FVec Ideal S128x128 .bf16) (B : FVec Ideal S128x1 .f32) (c : Fin 4) (t e : Fin 128) :
    k0_pay146 A B U V (ix2 ⟨c.val * 128 + t.val, by omega⟩ e) = headAt A B U V c t ⟨256 + e.val, by omega⟩ := by
  refine (stack4 _ _ _ _ c t e).trans ?_
  fin_cases c <;> pointwise [headAt]

theorem bottom_sample :
    k0_pay148 (A 3) (B 3) X U V Z (k0_pay143 (A 0) (B 0) U V) (k0_pay145 (A 1) (B 1) U V (k0_pay144 (A 1) (B 1) U V)) (k0_pay146 (A 2) (B 2) U V)
        (k0_pay147 V) (constant S128x128 .f32 0x00000000#32) W
      (ix2 ⟨c.val * 128 + t.val, by omega⟩ n) = rowAfter A B U V X Z W c t n := by
  obtain ⟨y, e, hy⟩ : ∃ y, k0_pay148 (A 3) (B 3) X U V Z (k0_pay143 (A 0) (B 0) U V) (k0_pay145 (A 1) (B 1) U V (k0_pay144 (A 1) (B 1) U V)) (k0_pay146 (A 2) (B 2) U V)
        (k0_pay147 V) (constant S128x128 .f32 0x00000000#32) W
      = k0_pay1 X (beside (k0_pay143 (A 0) (B 0) U V) (k0_pay145 (A 1) (B 1) U V (k0_pay144 (A 1) (B 1) U V)) (k0_pay146 (A 2) (B 2) U V) y Z) W
      ∧ ∀ (c : Fin 4) (t e : Fin 128), y (ix2 ⟨c.val * 128 + t.val, by omega⟩ e) = headAt (A 3) (B 3) U V c t ⟨384 + e.val, by omega⟩ := by
    refine ⟨_, rfl, fun c t e => ?_⟩
    refine (stack4 _ _ _ _ c t e).trans ?_
    generalize A 3 = A
    generalize B 3 = B
    fin_cases c <;> pointwise [headAt, k0_pay147]
  rw [e, added]
  exact congrArg (fun f => outRow _ f _ n) (funext fun k => beside_at U V A B _ _ _ _ Z (fun c t e => head143 _ _ _ _ c t e) (fun c t e => head145 _ _ _ _ c t e) (fun c t e => head146 _ _ _ _ c t e) hy c t k)

end Cert.Even

end
-- ==== Proof.EvenWords.lean ====
/-
  The integer words behind the masks of the even layer: which entries of a chunk are kept below the diagonal, and, in a
  chunk of samples that holds sixteen sequences, which lie in the block of one of them.
-/
module

public import proofs.«01_k».proof.Proof.EvenDefs
public import proofs.«01_k».proof.Proof.EvenMath
public import Idealize.ShloMosaic.Lib.Pointwise

@[expose] public section

set_option maxRecDepth 16384

noncomputable section

namespace Cert.Even

open Idealize.ShloMosaic Idealize.ShloMosaic.Tactic
open Cert.EvenIdeal Cert.EvenIdeal.Gen

theorem le_word (t s : Fin 128) : IntOp.cmpi .sle (BitVec.ofNat 32 s.val) (BitVec.ofNat 32 t.val) = if s ≤ t then 1#1 else 0#1 := by
  revert t s
  decide +kernel

theorem eq_word (t s : Fin 128) : IntOp.cmpi .eq (BitVec.ofNat 32 s.val) (BitVec.ofNat 32 t.val) = if s = t then 1#1 else 0#1 := by
  revert t s
  decide +kernel

theorem and_word (p q : Prop) [Decidable p] [Decidable q] : IntOp.andi (if p then 1#1 else 0#1) (if q then 1#1 else 0#1) = if p ∧ q then 1#1 else 0#1 := by
  by_cases hp : p <;> by_cases hq : q <;> simp [hp, hq] <;> decide

theorem pV45_at (t s : Fin 128) : pV45 (ix2 t s) = 0#32 := by
  pointwise [pV45, k0_pay6]
  revert t
  decide +kernel

theorem pV71_at (t s : Fin 128) : pV71 (ix2 t s) = if s ≤ t then 1#1 else 0#1 := by
  have a := pV45_at t s
  pointwise [pV71, k0_pay8, k0_pay7, k0_pay5, pV20, pV21, pV47]
  rw [a, le_word]
  by_cases h : s ≤ t
  · simp only [if_pos h]
    clear h a
    revert s
    decide +kernel
  · simp only [if_neg h]
    clear h a
    revert s
    decide +kernel

theorem pV131_at (t s : Fin 128) : pV131 (ix2 t s) = if s = t then 1#1 else 0#1 := by
  pointwise [pV131, k0_pay16, pV19, pV20]
  refine Eq.trans (congrArg (fun x => IntOp.cmpi .eq _ x) (?_ : _ = BitVec.ofNat 32 t.val)) (eq_word t s)
  clear s
  revert t
  decide +kernel

theorem sV32_at (t s : Fin 128) : sV32 (ix2 t s) = BitVec.ofNat 32 (t.val / 8) := by
  pointwise [sV32, k0_pay62]
  revert t
  decide +kernel

theorem sV58_at (t s : Fin 128) : sV58 (ix2 t s) = if s ≤ t ∧ s.val / 8 = t.val / 8 then 1#1 else 0#1 := by
  have a := sV32_at t s
  pointwise [sV58, k0_pay66, k0_pay61, sV8, k0_pay63, sV34, sV48, k0_pay64, sV52, k0_pay65]
  rw [a, le_word]
  refine Eq.trans (congrArg (fun x => IntOp.andi _ (IntOp.cmpi .eq _ x)) (?_ : _ = BitVec.ofNat 32 (s.val / 8))) ?_
  · clear a
    revert s
    decide +kernel
  · rw [show IntOp.cmpi .eq (BitVec.ofNat 32 (t.val / 8)) (BitVec.ofNat 32 (s.val / 8)) = if s.val / 8 = t.val / 8 then 1#1 else 0#1 from ?_]
    · exact and_word _ _
    · refine (eq_word ⟨s.val / 8, by omega⟩ ⟨t.val / 8, by omega⟩).trans ?_
      simp only [Fin.mk.injEq, eq_comm]

theorem sV94_at (t s : Fin 128) : sV94 (ix2 t s) = if s.val = t.val % 8 then 1#1 else 0#1 := by
  pointwise [sV94, k0_pay68, sV6, sV7]
  refine Eq.trans (congrArg (fun x => IntOp.cmpi .eq _ x) (?_ : _ = BitVec.ofNat 32 (t.val % 8))) ?_
  · clear s
    revert t
    decide +kernel
  · refine (eq_word ⟨t.val % 8, by omega⟩ s).trans ?_
    simp only [Fin.ext_iff]

end Cert.Even

end
-- ==== Proof.EvenMasks.lean ====
/-
  The mixing matrices of the even layer, and the biases beside them, entry by entry: a chunk of a prompt is mixed below its
  diagonal; a chunk of samples holds sixteen sequences, each mixed below its own.
-/
module

public import proofs.«01_k».proof.Proof.EvenWords
public import proofs.«01_k».proof.Proof.EvenMath
public import Idealize.ShloMosaic.Lib.Pointwise

@[expose] public section

set_option maxRecDepth 16384

noncomputable section

namespace Cert.Even

open Idealize.ShloMosaic Idealize.ShloMosaic.Tactic
open Cert.EvenIdeal Cert.EvenIdeal.Gen

/-! ## Prompts -/

theorem narrow (s : Fin 128) : IntOp.cmpi .slt (BitVec.ofNat 32 s.val) 128#32 = 1#1 := by
  revert s
  decide +kernel

theorem mix_of (w : Vec Ideal S1x128x128 .f32) (t s : Fin 128) :
    k0_pay15 pV20 pV71 w (ix2 t s) = if s ≤ t then w (ix3 0 t s) else 0 := by
  have e := pV71_at t s
  have n := narrow s
  pointwise [k0_pay15, pV20]
  rw [e, n]
  split <;> rfl

theorem bias_of (v : Vec Ideal S1x128 .f32) (t : Fin 128) : k0_pay17 pV131 v (ix2 t 0) = v (ix2 0 t) := by
  have e := pV131_at t
  pointwise [k0_pay17]
  simp only [e]
  refine (Finset.sum_congr rfl fun s _ => (?_ : _ = if s = t then v (ix2 0 s) else 0)).trans ?_
  · split <;> rfl
  · rw [Finset.sum_ite_eq' Finset.univ t, if_pos (Finset.mem_univ t)]

/-! ## Samples -/

theorem sbias_of (v : Vec Ideal S1x128 .f32) (t : Fin 128) : k0_pay69 sV94 v (ix2 t 0) = v (ix2 0 ⟨t.val % 8, by omega⟩) := by
  have e := sV94_at t
  pointwise [k0_pay69]
  simp only [e]
  refine (Finset.sum_congr rfl fun s _ => (?_ : _ = if s = (⟨t.val % 8, by omega⟩ : Fin 128) then v (ix2 0 s) else 0)).trans ?_
  · by_cases h : s.val = t.val % 8
    · rw [if_pos h, if_pos (Fin.ext h)]
      rfl
    · rw [if_neg h, if_neg (fun q => h (congrArg Fin.val q))]
      rfl
  · rw [Finset.sum_ite_eq' Finset.univ, if_pos (Finset.mem_univ _)]

/-- One doubling of the tiled columns: those below `m` hold the pattern, those below `2 m` after the columns were added to
themselves turned by `m`. -/
theorem doubled (m : Nat) (hm : m % 8 = 0) (h2 : m + m ≤ 128) (x : Fin 128 → EReal) (f : Fin 8 → EReal)
    (hx : ∀ s, x s = if s.val < m then f ⟨s.val % 8, by omega⟩ else 0) (s : Fin 128) :
    x s + x ⟨(s.val + 128 - m) % 128, by omega⟩ = if s.val < m + m then f ⟨s.val % 8, by omega⟩ else 0 := by
  have hs := s.isLt
  by_cases h : s.val < m
  · have e : (s.val + 128 - m) % 128 = s.val + 128 - m := by omega
    rw [hx s, hx ⟨(s.val + 128 - m) % 128, by omega⟩, if_pos h, if_pos (show s.val < m + m by omega),
      if_neg (show ¬ (s.val + 128 - m) % 128 < m by omega), add_zero]
  · have e : (s.val + 128 - m) % 128 = s.val - m := by omega
    rw [hx s, hx ⟨(s.val + 128 - m) % 128, by omega⟩, if_neg h, zero_add]
    by_cases h' : s.val < m + m
    · rw [if_pos h', if_pos (show (s.val + 128 - m) % 128 < m by omega)]
      exact congrArg f (Fin.ext (by show (s.val + 128 - m) % 128 % 8 = s.val % 8; omega))
    · rw [if_neg h', if_neg (show ¬ (s.val + 128 - m) % 128 < m by omega)]

/-- A row added to itself turned by `m`. -/
def turn (m : Nat) (x : Fin 128 → EReal) (s : Fin 128) : EReal := x s + x ⟨(s.val + 128 - m) % 128, by omega⟩

/-- Eight columns repeated sixteen times, by four turns. -/
theorem filled (z : Fin 128 → EReal) (f : Fin 8 → EReal) (hz : ∀ s, z s = if s.val < 8 then f ⟨s.val % 8, by omega⟩ else 0) (s : Fin 128) :
    turn 64 (turn 32 (turn 16 (turn 8 z))) s = f ⟨s.val % 8, by omega⟩ := by
  have h3 := doubled 64 rfl (by decide) (turn 32 (turn 16 (turn 8 z))) f
    (doubled 32 rfl (by decide) (turn 16 (turn 8 z)) f (doubled 16 rfl (by decide) (turn 8 z) f (doubled 8 rfl (by decide) z f hz))) s
  exact h3.trans (if_pos (show s.val < 64 + 64 by omega))

theorem turned (m : BitVec 32) (x : FVec Ideal S8x128 .f32) (j : Fin 8) (s : Fin 128) (hm : m = 8#32 ∨ m = 16#32 ∨ m = 32#32 ∨ m = 64#32) :
    dynamicRotate 1 m none x rotates_S8x128_d1 (ix2 j s) = x (ix2 j ⟨(s.val + 128 - m.toNat) % 128, by omega⟩) := by
  rcases hm with rfl | rfl | rfl | rfl <;> pointwise []

/-- Sixteen times the same eight rows. -/
theorem repeated (y : FVec Ideal S8x128 .f32) (t s : Fin 128)
    (h : Shape.Concatenates ((List.replicate 16 (⟨S8x128, y⟩ : (s : Shape) × (s.Idx → EReal))).map (·.1)) S128x128 0) :
    (concatenate S128x128 0 (List.replicate 16 (⟨S8x128, y⟩ : (s : Shape) × (s.Idx → EReal))) h) (ix2 t s)
      = y (ix2 ⟨t.val % 8, by omega⟩ s) := by
  refine concatenate_replicate_apply 0 16 y h rfl _ _ ?_ ?_
  · rfl
  · intro b hb
    fin_cases b
    · exact absurd rfl hb
    · rfl

/-- The rows of the weights repeated, the tiles of the eight by eight corner along the diagonal. -/
theorem smix_of (w : Vec Ideal S1x8x128 .f32) (t s : Fin 128) :
    k0_pay70 sV7 sV58 w (ix2 t s) = if s ≤ t ∧ s.val / 8 = t.val / 8 then w (ix3 0 ⟨t.val % 8, by omega⟩ ⟨s.val % 8, by omega⟩) else 0 := by
  obtain ⟨z, y, hz, hy, e⟩ : ∃ z y : FVec Ideal S8x128 .f32,
      (∀ (j : Fin 8) (s : Fin 128), z (ix2 j s) = if s.val < 8 then w (ix3 0 j ⟨s.val % 8, by omega⟩) else 0)
      ∧ y = (fun v2 => addf v2 (dynamicRotate 1 64#32 none v2 rotates_S8x128_d1))
          ((fun v1 => addf v1 (dynamicRotate 1 32#32 none v1 rotates_S8x128_d1))
            ((fun v0 => addf v0 (dynamicRotate 1 16#32 none v0 rotates_S8x128_d1)) (addf z (dynamicRotate 1 8#32 none z rotates_S8x128_d1))))
      ∧ k0_pay70 sV7 sV58 w (ix2 t s) = Scalar.select (sV58 (ix2 t s))
          ((concatenate S128x128 0 (List.replicate 16 (⟨S8x128, y⟩ : (s : Shape) × (s.Idx → EReal))) concatenates_S8x128_S8x128_S8x128_S8x128_S8x128_S8x128_S8x128_S8x128_S8x128_S8x128_S8x128_S8x128_S8x128_S8x128_S8x128_S8x128_S128x128_d0) (ix2 t s)) (Ideal.ofBits .f32 0x00000000#32) := by
    refine ⟨_, _, fun j s => ?_, rfl, rfl⟩
    have e : IntOp.cmpi .slt (BitVec.ofNat 32 s.val) 8#32 = if s.val < 8 then 1#1 else 0#1 := by
      revert s
      decide +kernel
    pointwise [sV7]
    rw [e]
    split
    · exact congrArg (fun q => w (ix3 0 j q)) (Fin.ext (by show s.val = s.val % 8; omega))
    · exact if_neg (by decide)
  rw [e, repeated, hy, sV58_at]
  split
  · refine (if_pos rfl).trans (Eq.trans ?_ (filled (fun s => z (ix2 ⟨t.val % 8, by omega⟩ s)) (fun q => w (ix3 0 ⟨t.val % 8, by omega⟩ ⟨q.val, by omega⟩)) (fun s => hz _ s) s))
    pointwise [turn]
  · exact (if_neg (by decide)).trans Ideal.ofBits_zero_f32

end Cert.Even

end
-- ==== Proof.EvenRows.lean ====
/-
  What a tile of the even layer stores, row by row.
-/
module

public import proofs.«01_k».proof.Proof.EvenConv
public import proofs.«01_k».proof.Proof.EvenHeads
public import proofs.«01_k».proof.Proof.EvenMasks
public import Idealize.ShloMosaic.Lib.Pipeline.ValueKit

@[expose] public section

set_option maxRecDepth 16384

noncomputable section

namespace Cert.Even

open Idealize.ShloMosaic Idealize.ShloMosaic.Tactic
open Cert.EvenIdeal Cert.EvenIdeal.Gen

/-- The mixed half of row `r` of a tile: its chunk's rows mixed, its bias added, its unit times it. -/
def tileMixed (A : Fin 4 → Fin 128 → Fin 128 → EReal) (B : Fin 4 → Fin 128 → EReal) (U V : Fin 1024 → Fin 512 → EReal) (r : Fin 1024) (k : Fin 512) : EReal :=
  U r k * ((∑ s : Fin 128, A ⟨k.val / 128, by omega⟩ ⟨r.val % 128, by omega⟩ s * V ⟨r.val / 128 * 128 + s.val, by omega⟩ k)
    + B ⟨k.val / 128, by omega⟩ ⟨r.val % 128, by omega⟩)

/-- Row `r` of a tile after the layer. -/
def tileOut (A : Fin 4 → Fin 128 → Fin 128 → EReal) (B : Fin 4 → Fin 128 → EReal) (U V Z : Fin 1024 → Fin 512 → EReal)
    (x1 : Vec Ideal S1024x1024 .f32) (x9 : Vec Ideal S1024x1024 .bf16) (r n : Fin 1024) : EReal :=
  outRow (fun k => x1 (ix2 r k)) (fun k => if h : k.val < 512 then tileMixed A B U V r ⟨k.val, h⟩ else Z r ⟨k.val - 512, by omega⟩)
    (fun k n => x9 (ix2 k n)) n

/-- A row of a half tile is the row of the tile that starts `o` rows before the half. -/
theorem rowAfter_eq (o : Nat) (ho : o = 0 ∨ o = 512) {A : Fin 4 → Fin 128 → Fin 128 → EReal} {B : Fin 4 → Fin 128 → EReal} {U V Z : Fin 1024 → Fin 512 → EReal}
    {x1 : Vec Ideal S1024x1024 .f32} {x9 : Vec Ideal S1024x1024 .bf16} {a : Fin 4 → FVec Ideal S128x128 .bf16} {b : Fin 4 → FVec Ideal S128x1 .f32}
    {u : FVec Ideal S512x512 .f32} {v : FVec Ideal S512x512 .bf16} {x : Vec Ideal S512x1024 .f32} {z : FVec Ideal S512x512 .bf16} {w : Vec Ideal S1024x1024 .bf16}
    (ha : ∀ h t s, a h (ix2 t s) = A h t s) (hb : ∀ h t, b h (ix2 t 0) = B h t)
    (hu : ∀ r d : Fin 512, u (ix2 r d) = U ⟨o + r.val, by omega⟩ d) (hv : ∀ r d : Fin 512, v (ix2 r d) = V ⟨o + r.val, by omega⟩ d)
    (hx : ∀ (r : Fin 512) (k : Fin 1024), x (ix2 r k) = x1 (ix2 ⟨o + r.val, by omega⟩ k)) (hz : ∀ r d : Fin 512, z (ix2 r d) = Z ⟨o + r.val, by omega⟩ d)
    (hw : ∀ k n, w (ix2 k n) = x9 (ix2 k n)) (c : Fin 4) (t : Fin 128) (n : Fin 1024) :
    rowAfter a b u v x z w c t n = tileOut A B U V Z x1 x9 ⟨o + (c.val * 128 + t.val), by omega⟩ n := by
  unfold rowAfter tileOut
  simp only [hx, hw, hz]
  refine congrArg (fun f => outRow _ f _ n) (funext fun k => ?_)
  by_cases h : k.val < 512
  · rw [dif_pos h, dif_pos h]
    unfold halfAt headAt tileMixed
    have e1 : (⟨(o + (c.val * 128 + t.val)) % 128, by omega⟩ : Fin 128) = t := Fin.ext (by show (o + (c.val * 128 + t.val)) % 128 = t.val; omega)
    simp only [hu, hb, ha, hv, e1]
    refine congrArg (fun f => _ * (f + _)) (Finset.sum_congr rfl fun s _ => ?_)
    exact congrArg (fun r => _ * V r _) (Fin.ext (by show o + (c.val * 128 + s.val) = (o + (c.val * 128 + t.val)) / 128 * 128 + s.val; omega))
  · rw [dif_neg h, dif_neg h]

variable (x1 : Vec Ideal S1024x1024 .f32) (x2 : Vec Ideal S1x1x1024 .f32) (x3 : Vec Ideal S1024x2560 .bf16) (x4 x5 : Vec Ideal S1x512 .f32)
  (x6 : Vec Ideal S4x128x128 .f32) (x7 : Vec Ideal S4x128 .f32) (x8 : Vec Ideal S3x512 .f32) (x9 : Vec Ideal S1024x1024 .bf16)

/-! ## The mixing weights and biases -/

/-- A chunk's mixing weights: no row sees a later one. -/
abbrev mixW (h : Fin 4) (t s : Fin 128) : EReal := if s ≤ t then x6 (ix3 h t s) else 0

abbrev mixB (h : Fin 4) (t : Fin 128) : EReal := x7 (ix2 h t)

/-- The samples' weights: eight rows to a sample, none sees another's or a later one. -/
abbrev mixWS (h : Fin 4) (t s : Fin 128) : EReal :=
  if s ≤ t ∧ s.val / 8 = t.val / 8 then x6 (ix3 h ⟨t.val % 8, by omega⟩ ⟨s.val % 8, by omega⟩) else 0

abbrev mixBS (h : Fin 4) (t : Fin 128) : EReal := x7 (ix2 h ⟨t.val % 8, by omega⟩)

theorem mixW_at (h : Fin 4) (t s : Fin 128) : (![pV80 x6, pV114 x6, pV148 x6, pV182 x6] : Fin 4 → FVec Ideal S128x128 .bf16) h (ix2 t s) = mixW x6 h t s := by
  fin_cases h
  · refine (mix_of (pV74 x6) t s).trans ?_
    pointwise [pV74]
  · refine (mix_of (pV108 x6) t s).trans ?_
    pointwise [pV108]
  · refine (mix_of (pV142 x6) t s).trans ?_
    pointwise [pV142]
  · refine (mix_of (pV176 x6) t s).trans ?_
    pointwise [pV176]

theorem mixB_at (h : Fin 4) (t : Fin 128) : (![pV105 x7, pV139 x7, pV173 x7, pV207 x7] : Fin 4 → FVec Ideal S128x1 .f32) h (ix2 t 0) = mixB x7 h t := by
  fin_cases h
  · refine (bias_of (pV98 x7) t).trans ?_
    pointwise [pV98]
  · refine (bias_of (pV132 x7) t).trans ?_
    pointwise [pV132]
  · refine (bias_of (pV166 x7) t).trans ?_
    pointwise [pV166]
  · refine (bias_of (pV200 x7) t).trans ?_
    pointwise [pV200]

theorem mixWS_at (h : Fin 4) (t s : Fin 128) : (![sV77 x6, sV121 x6, sV165 x6, sV209 x6] : Fin 4 → FVec Ideal S128x128 .bf16) h (ix2 t s) = mixWS x6 h t s := by
  fin_cases h
  · refine (smix_of (sV62 x6) t s).trans ?_
    pointwise [sV62]
  · refine (smix_of (sV106 x6) t s).trans ?_
    pointwise [sV106]
  · refine (smix_of (sV150 x6) t s).trans ?_
    pointwise [sV150]
  · refine (smix_of (sV194 x6) t s).trans ?_
    pointwise [sV194]

theorem mixBS_at (h : Fin 4) (t : Fin 128) : (![sV102 x7, sV146 x7, sV190 x7, sV234 x7] : Fin 4 → FVec Ideal S128x1 .f32) h (ix2 t 0) = mixBS x7 h t := by
  fin_cases h
  · refine (sbias_of (sV95 x7) t).trans ?_
    pointwise [sV95]
  · refine (sbias_of (sV139 x7) t).trans ?_
    pointwise [sV139]
  · refine (sbias_of (sV183 x7) t).trans ?_
    pointwise [sV183]
  · refine (sbias_of (sV227 x7) t).trans ?_
    pointwise [sV227]

/-! ## A tile of prompts -/

/-- The unit and the gate of a row of the tile. -/
abbrev unitT (r : Fin 1024) (d : Fin 512) : EReal := unitRow (tileRow x1 x2 r) (weights x3) d

abbrev gateT (r : Fin 1024) (d : Fin 512) : EReal := gateRow (tileRow x1 x2 r) (weights x3) (lane x4) (lane x5) d

theorem pV512_at (k n : Fin 1024) : pV512 x9 (ix2 k n) = x9 (ix2 k n) := by
  pointwise [pV512]

theorem pV634_at (k n : Fin 1024) : pV634 x9 (ix2 k n) = x9 (ix2 k n) := by
  pointwise [pV634]

theorem bottom_at (cr : Vec Ideal S8x512 .f32) (c : Fin 4) (t : Fin 128) (n : Fin 1024) :
    k0_pay1 (pV303 x1) (pV633 x1 x2 x3 x4 x5 x6 x7 x8) (pV634 x9) (ix2 ⟨c.val * 128 + t.val, by omega⟩ n)
      = tileOut (mixW x6) (mixB x7) (unitT x1 x2 x3) (gateT x1 x2 x3 x4 x5) (convTile x1 x2 x3 x8 fun q d => cr (ix2 q d)) x1 x9
          ⟨512 + (c.val * 128 + t.val), by omega⟩ n :=
  (bottom_prompt (pV329 x1 x2 x3) (pV392 x1 x2 x3 x4 x5) ![pV80 x6, pV114 x6, pV148 x6, pV182 x6] ![pV105 x7, pV139 x7, pV173 x7, pV207 x7]
      (pV303 x1) (pV394 x1 x2 x3 x8) (pV634 x9) c t n).trans
    (rowAfter_eq 512 (.inr rfl) (mixW_at x6) (mixB_at x7) (pV329_at x1 x2 x3) (pV392_at x1 x2 x3 x4 x5) (pV303_at x1)
      (pV394_at x1 x2 x3 x8 fun q d => cr (ix2 q d)) (pV634_at x9) c t n)

theorem top_at (cr : Vec Ideal S8x512 .f32) (c : Fin 4) (t : Fin 128) (n : Fin 1024) :
    k0_pay53 (pV182 x6) (pV207 x7) (pV211 x1) (pV237 x1 x2 x3) (pV300 x1 x2 x3 x4 x5) (pV302 x1 x2 x3 x8 cr) (pV423 x1 x2 x3 x4 x5 x6 x7)
        (pV452 x1 x2 x3 x4 x5 x6 x7) (pV481 x1 x2 x3 x4 x5 x6 x7) (pV482 x1 x2 x3 x4 x5) (pV512 x9) (ix2 ⟨c.val * 128 + t.val, by omega⟩ n)
      = tileOut (mixW x6) (mixB x7) (unitT x1 x2 x3) (gateT x1 x2 x3 x4 x5) (convTile x1 x2 x3 x8 fun q d => cr (ix2 q d)) x1 x9
          ⟨0 + (c.val * 128 + t.val), by omega⟩ n :=
  (top_prompt (pV237 x1 x2 x3) (pV300 x1 x2 x3 x4 x5) ![pV80 x6, pV114 x6, pV148 x6, pV182 x6] ![pV105 x7, pV139 x7, pV173 x7, pV207 x7]
      (pV211 x1) (pV302 x1 x2 x3 x8 cr) (pV512 x9) c t n).trans
    (rowAfter_eq 0 (.inl rfl) (mixW_at x6) (mixB_at x7)
      (fun r d => by rw [pV237_at]; simp only [Nat.zero_add]) (fun r d => by rw [pV300_at]; simp only [Nat.zero_add])
      (fun r d => by rw [pV211_at]; simp only [Nat.zero_add]) (fun r d => by rw [pV302_at]; simp only [Nat.zero_add]) (pV512_at x9) c t n)

/-- A tile stored as its two halves, read at a row of the second half, -/
theorem canon_bottom (a b : Vec Ideal S512x1024 .f32) (r : Fin 512) (n : Fin 1024) :
    View.canon (Val := Elt Ideal) (e := .f32) [⟨(Rect.unit (s := S1024x1024) ![512, 0] S512x1024.size inb_S1024x1024_S512x1024_512_0), a⟩,
      ⟨(Rect.unit (s := S1024x1024) ![0, 0] S512x1024.size inb_S1024x1024_S512x1024_0_0), b⟩] (ix2 ⟨512 + r.val, by omega⟩ n) = a (ix2 r n) := by
  have e : (ix2 ⟨512 + r.val, by omega⟩ n : S1024x1024.Idx)
      = (Rect.unit (s := S1024x1024) ![512, 0] S512x1024.size inb_S1024x1024_S512x1024_512_0).emb (ix2 r n) := by
    funext q; apply Fin.ext; fin_cases q
    · show 512 + r.val = 512 + 1 * r.val; omega
    · show n.val = 0 + 1 * n.val; omega
  rw [e]
  exact View.canon_cons_emb _ _ _ _

/-- and of the first. -/
theorem canon_top (a b : Vec Ideal S512x1024 .f32) (r : Fin 512) (n : Fin 1024) :
    View.canon (Val := Elt Ideal) (e := .f32) [⟨(Rect.unit (s := S1024x1024) ![512, 0] S512x1024.size inb_S1024x1024_S512x1024_512_0), a⟩,
      ⟨(Rect.unit (s := S1024x1024) ![0, 0] S512x1024.size inb_S1024x1024_S512x1024_0_0), b⟩] (ix2 ⟨0 + r.val, by omega⟩ n) = b (ix2 r n) := by
  have e : (ix2 ⟨0 + r.val, by omega⟩ n : S1024x1024.Idx)
      = (Rect.unit (s := S1024x1024) ![0, 0] S512x1024.size inb_S1024x1024_S512x1024_0_0).emb (ix2 r n) := by
    funext q; apply Fin.ext; fin_cases q
    · show 0 + r.val = 0 + 1 * r.val; omega
    · show n.val = 0 + 1 * n.val; omega
  rw [View.canon_cons_of_not_mem, e]
  · exact View.canon_cons_emb _ _ _ _
  · intro h
    obtain ⟨y, hy⟩ := LoadRect.exists_idx_of_mem _ h
    have := congrArg (fun i : S1024x1024.Idx => (i 0).val) hy
    have h' : 512 + 1 * (y 0).val = 0 + r.val := this
    omega

/-- Every row of a tile is one of a chunk of a half. -/
theorem split_row (r : Fin 1024) : ∃ (o : Nat) (_ : o = 0 ∨ o = 512) (c : Fin 4) (t : Fin 128) (p : o + (c.val * 128 + t.val) < 1024), r = ⟨o + (c.val * 128 + t.val), p⟩ := by
  by_cases h : r.val < 512
  · exact ⟨0, .inl rfl, ⟨r.val / 128, by omega⟩, ⟨r.val % 128, by omega⟩, by show 0 + (r.val / 128 * 128 + r.val % 128) < 1024; omega,
      Fin.ext (by show r.val = 0 + (r.val / 128 * 128 + r.val % 128); omega)⟩
  · exact ⟨512, .inr rfl, ⟨(r.val - 512) / 128, by omega⟩, ⟨r.val % 128, by omega⟩, by show 512 + ((r.val - 512) / 128 * 128 + r.val % 128) < 1024; omega,
      Fin.ext (by show r.val = 512 + ((r.val - 512) / 128 * 128 + r.val % 128); omega)⟩

theorem pOut_at (cr : Vec Ideal S8x512 .f32) (r n : Fin 1024) :
    pOut x1 x2 x3 x4 x5 x6 x7 x8 x9 cr (ix2 r n)
      = tileOut (mixW x6) (mixB x7) (unitT x1 x2 x3) (gateT x1 x2 x3 x4 x5) (convTile x1 x2 x3 x8 fun q d => cr (ix2 q d)) x1 x9 r n := by
  obtain ⟨o, ho, c, t, p, rfl⟩ := split_row r
  rcases ho with rfl | rfl
  · exact (canon_top _ _ ⟨c.val * 128 + t.val, by omega⟩ n).trans (top_at x1 x2 x3 x4 x5 x6 x7 x8 x9 cr c t n)
  · exact (canon_bottom _ _ ⟨c.val * 128 + t.val, by omega⟩ n).trans (bottom_at x1 x2 x3 x4 x5 x6 x7 x8 x9 cr c t n)

end Cert.Even

end
-- ==== Proof.EvenSample.lean ====
/-
  The convolution of the tile of samples: each sample's eight rows come after its two rows of state.
-/
module

public import proofs.«01_k».proof.Proof.EvenConv
public import Idealize.ShloMosaic.Lib.Pointwise
public import Idealize.ShloMosaic.Lib.Pipeline.ValueKit

@[expose] public section

set_option maxRecDepth 16384

noncomputable section

namespace Cert.Even

open Idealize.ShloMosaic Idealize.ShloMosaic.Tactic
open Cert.EvenIdeal Cert.EvenIdeal.Gen

/-- A row's place in its sample: not the first, -/
theorem later1 (r : Fin 512) : IntOp.cmpi .sge (k0_pay99 (ix2 r 0)) 1#32 = if 1 ≤ r.val % 8 then 1#1 else 0#1 := by
  pointwise [k0_pay99]
  revert r
  decide +kernel

/-- not one of the first two. -/
theorem later2 (r : Fin 512) : IntOp.cmpi .sge (k0_pay99 (ix2 r 0)) 2#32 = if 2 ≤ r.val % 8 then 1#1 else 0#1 := by
  pointwise [k0_pay99]
  revert r
  decide +kernel

variable (y z : FVec Ideal S512x512 .f32) (v : Vec Ideal S64x8x512 .f32) (r d : Fin 512)

theorem one_back : k0_pay100 y z (ix2 r d) = if h : 1 ≤ r.val % 8 then y (ix2 ⟨r.val - 1, by omega⟩ d) else z (ix2 r d) := by
  have e := later1 r
  pointwise [k0_pay100]
  rw [e]
  split
  · exact congrArg (fun q => y (ix2 q d)) (Fin.ext (by show (r.val + 512 - 1) % 512 = r.val - 1; omega))
  · rfl

theorem two_back : k0_pay101 y v (ix2 r d)
    = if h : 2 ≤ r.val % 8 then y (ix2 ⟨r.val - 2, by omega⟩ d) else v (ix3 ⟨r.val / 8, by omega⟩ ⟨r.val % 8, by omega⟩ d) := by
  have e := later2 r
  pointwise [k0_pay101]
  rw [e]
  split
  · exact congrArg (fun q => y (ix2 q d)) (Fin.ext (by show (r.val + 512 - 2) % 512 = r.val - 2; omega))
  · rfl

theorem grouped : k0_pay96 v (ix2 r d) = v (ix3 ⟨r.val / 8, by omega⟩ ⟨r.val % 8, by omega⟩ d) := by
  pointwise [k0_pay96]

/-! ## The scratch: the state's rows stored over zeros, one row of every sample at a time -/

theorem row0 (a : Vec Ideal S64x1x512 .f32) (L : List (View.Piece (Elt Ideal) S64x8x512 .f32)) (j : Fin 64) (d : Fin 512) :
    View.canon (Val := Elt Ideal) (e := .f32) (⟨(Rect.unit (s := S64x8x512) ![0, 0, 0] S64x1x512.size inb_S64x8x512_S64x1x512_0_0_0), a⟩ :: L) (ix3 j 0 d) = a (ix3 j 0 d) := by
  have e : (ix3 j 0 d : S64x8x512.Idx) = (Rect.unit (s := S64x8x512) ![0, 0, 0] S64x1x512.size inb_S64x8x512_S64x1x512_0_0_0).emb (ix3 j 0 d) := by
    funext q; apply Fin.ext; fin_cases q
    · show j.val = 0 + 1 * j.val; omega
    · rfl
    · show d.val = 0 + 1 * d.val; omega
  rw [e]
  exact View.canon_cons_emb _ _ _ _

theorem row1 (a : Vec Ideal S64x1x512 .f32) (L : List (View.Piece (Elt Ideal) S64x8x512 .f32)) (j : Fin 64) (d : Fin 512) :
    View.canon (Val := Elt Ideal) (e := .f32) (⟨(Rect.unit (s := S64x8x512) ![0, 1, 0] S64x1x512.size inb_S64x8x512_S64x1x512_0_1_0), a⟩ :: L) (ix3 j 1 d) = a (ix3 j 0 d) := by
  have e : (ix3 j 1 d : S64x8x512.Idx) = (Rect.unit (s := S64x8x512) ![0, 1, 0] S64x1x512.size inb_S64x8x512_S64x1x512_0_1_0).emb (ix3 j 0 d) := by
    funext q; apply Fin.ext; fin_cases q
    · show j.val = 0 + 1 * j.val; omega
    · rfl
    · show d.val = 0 + 1 * d.val; omega
  rw [e]
  exact View.canon_cons_emb _ _ _ _

theorem row1_other (a : Vec Ideal S64x1x512 .f32) (L : List (View.Piece (Elt Ideal) S64x8x512 .f32)) (j : Fin 64) (d : Fin 512) :
    View.canon (Val := Elt Ideal) (e := .f32) (⟨(Rect.unit (s := S64x8x512) ![0, 1, 0] S64x1x512.size inb_S64x8x512_S64x1x512_0_1_0), a⟩ :: L) (ix3 j 0 d)
      = View.canon (Val := Elt Ideal) (e := .f32) L (ix3 j 0 d) := by
  refine View.canon_cons_of_not_mem _ _ fun h => ?_
  obtain ⟨y, hy⟩ := LoadRect.exists_idx_of_mem _ h
  have h' : 1 + 1 * (y 1).val = 0 := congrArg (fun i : S64x8x512.Idx => (i 1).val) hy
  omega

/-- The whole scratch read back. -/
theorem whole_read (q : Memref sig .tc .vmem S64x8x512 .f32) (L : List (View.Piece (Elt Ideal) S64x8x512 .f32)) (j : Fin 64) (i : Fin 8) (d : Fin 512) :
    q.view.readCov L (Rect.unit (s := S64x8x512) ![0, 0, 0] S64x8x512.size inb_S64x8x512_S64x8x512_0_0_0).toLoadRect (ix3 j i d)
      = View.canon (Val := Elt Ideal) (e := .f32) L (ix3 j i d) := by
  rw [View.readCov_eq_canon']
  refine congrArg (View.canon (Val := Elt Ideal) (e := .f32) L) ?_
  funext a; apply Fin.ext; fin_cases a
  · show 0 + 1 * j.val = j.val; omega
  · show 0 + 1 * i.val = i.val; omega
  · show 0 + 1 * d.val = d.val; omega

variable (x1 : Vec Ideal S1024x1024 .f32) (x2 : Vec Ideal S1x1x1024 .f32) (x3 : Vec Ideal S1024x2560 .bf16) (x8 : Vec Ideal S3x512 .f32)
  (x10 : Vec Ideal S128x2x512 .f32) (q : Memref sig .tc .vmem S64x8x512 .f32)

theorem lead95 (j : Fin 64) : k0_pay95 (sV314 x10) (ix3 j 0 d) = x10 (ix3 ⟨j.val, by omega⟩ 1 d) := by
  pointwise [k0_pay95, sV314]

theorem lead97 (j : Fin 64) : k0_pay97 (sV321 x10) (ix3 j 0 d) = x10 (ix3 ⟨j.val, by omega⟩ 0 d) := by
  pointwise [k0_pay97, sV321]

theorem lead98 (j : Fin 64) : k0_pay98 (sV326 x10) (ix3 j 0 d) = x10 (ix3 ⟨j.val, by omega⟩ 1 d) := by
  pointwise [k0_pay98, sV326]

theorem lead117 (j : Fin 64) : k0_pay117 (sV467 x10) (ix3 j 0 d) = x10 (ix3 ⟨64 + j.val, by omega⟩ 1 d) := by
  pointwise [k0_pay117, sV467]

theorem lead119 (j : Fin 64) : k0_pay119 (sV474 x10) (ix3 j 0 d) = x10 (ix3 ⟨64 + j.val, by omega⟩ 0 d) := by
  pointwise [k0_pay119, sV474]

theorem lead120 (j : Fin 64) : k0_pay120 (sV479 x10) (ix3 j 0 d) = x10 (ix3 ⟨64 + j.val, by omega⟩ 1 d) := by
  pointwise [k0_pay120, sV479]

theorem sV319_at (j : Fin 64) : sV319 x10 q (ix3 j 0 d) = x10 (ix3 ⟨j.val, by omega⟩ 1 d) :=
  (whole_read q _ j 0 d).trans ((row0 _ _ j d).trans (lead95 d x10 j))

theorem sV331_at0 (j : Fin 64) : sV331 x10 q (ix3 j 0 d) = x10 (ix3 ⟨j.val, by omega⟩ 0 d) :=
  (whole_read q _ j 0 d).trans ((row1_other _ _ j d).trans ((row0 _ _ j d).trans (lead97 d x10 j)))

theorem sV331_at1 (j : Fin 64) : sV331 x10 q (ix3 j 1 d) = x10 (ix3 ⟨j.val, by omega⟩ 1 d) :=
  (whole_read q _ j 1 d).trans ((row1 _ _ j d).trans (lead98 d x10 j))

theorem sV472_at (j : Fin 64) : sV472 x1 x2 x3 x10 q (ix3 j 0 d) = x10 (ix3 ⟨64 + j.val, by omega⟩ 1 d) :=
  (whole_read q _ j 0 d).trans ((row0 _ _ j d).trans (lead117 d x10 j))

theorem sV484_at0 (j : Fin 64) : sV484 x1 x2 x3 x10 q (ix3 j 0 d) = x10 (ix3 ⟨64 + j.val, by omega⟩ 0 d) :=
  (whole_read q _ j 0 d).trans ((row1_other _ _ j d).trans ((row0 _ _ j d).trans (lead119 d x10 j)))

theorem sV484_at1 (j : Fin 64) : sV484 x1 x2 x3 x10 q (ix3 j 1 d) = x10 (ix3 ⟨64 + j.val, by omega⟩ 1 d) :=
  (whole_read q _ j 1 d).trans ((row1 _ _ j d).trans (lead120 d x10 j))

/-- The convolved half of a row of the samples. -/
def convSample (r : Fin 1024) (d : Fin 512) : EReal :=
  convolved (scaleRow (tileRow x1 x2 r) (weights x3) d)
    (if h : 2 ≤ r.val % 8 then cross x1 x2 x3 d ⟨r.val - 2, by omega⟩ else x10 (ix3 ⟨r.val / 8, by omega⟩ ⟨r.val % 8, by omega⟩ d))
    (if h : 1 ≤ r.val % 8 then cross x1 x2 x3 d ⟨r.val - 1, by omega⟩ else x10 (ix3 ⟨r.val / 8, by omega⟩ 1 d))
    (cross x1 x2 x3 d r) fun n => x8 (ix2 n d)

theorem sV355_at : sV355 x1 x2 x3 x10 q (ix2 r d)
    = if h : 1 ≤ r.val % 8 then cross x1 x2 x3 d ⟨r.val - 1, by omega⟩ else x10 (ix3 ⟨r.val / 8, by omega⟩ 1 d) := by
  refine (one_back _ _ r d).trans ?_
  split
  · exact sV309_at x1 x2 x3 _ d
  · refine (grouped _ r d).trans ?_
    have e : (⟨r.val % 8, by omega⟩ : Fin 8) = 0 := Fin.ext (by show r.val % 8 = 0; omega)
    rw [e]
    exact sV319_at d x10 q _

theorem sV361_at : sV361 x1 x2 x3 x10 q (ix2 r d)
    = if h : 2 ≤ r.val % 8 then cross x1 x2 x3 d ⟨r.val - 2, by omega⟩ else x10 (ix3 ⟨r.val / 8, by omega⟩ ⟨r.val % 8, by omega⟩ d) := by
  refine (two_back _ _ r d).trans ?_
  split
  · exact sV309_at x1 x2 x3 _ d
  · by_cases h0 : r.val % 8 = 0
    · have e : (⟨r.val % 8, by omega⟩ : Fin 8) = 0 := Fin.ext h0
      have e' : (⟨r.val % 8, by omega⟩ : Fin 2) = 0 := Fin.ext h0
      rw [e, e']
      exact sV331_at0 d x10 q _
    · have e : (⟨r.val % 8, by omega⟩ : Fin 8) = 1 := Fin.ext (by show r.val % 8 = 1; omega)
      have e' : (⟨r.val % 8, by omega⟩ : Fin 2) = 1 := Fin.ext (by show r.val % 8 = 1; omega)
      rw [e, e']
      exact sV331_at1 d x10 q _

theorem sV389_at : sV389 x1 x2 x3 x8 x10 q (ix2 r d) = convSample x1 x2 x3 x8 x10 ⟨r.val, by omega⟩ d := by
  refine (taps _ _ _ _ _ r d).trans ?_
  rw [sV355_at, sV361_at, sV308_at, sV309_at]
  simp only [sV236_at]
  rfl

/-- The second half of the samples. -/
theorem taps' (w : FVec Ideal S3x512 .f32) (b s1 s2 : FVec Ideal S512x512 .f32) (v : Vec Ideal S64x8x512 .f32) :
    k0_pay129 w b y s1 (k0_pay121 v) k0_pay122 (k0_pay123 y) k0_pay124 = k0_pay107 w b y (k0_pay100 y s1) (k0_pay101 y v) := rfl

theorem sV542_at : sV542 x1 x2 x3 x8 x10 q (ix2 r d) = convSample x1 x2 x3 x8 x10 ⟨512 + r.val, by omega⟩ d := by
  refine (congrFun (taps' (sV462 x1 x2 x3) (sV236 x8) (sV461 x1 x2 x3) (sV473 x1 x2 x3 x10 q) (sV473 x1 x2 x3 x10 q) (sV484 x1 x2 x3 x10 q)) (ix2 r d)).trans ?_
  refine (taps _ _ _ _ _ r d).trans ?_
  rw [one_back, two_back, sV461_at, sV462_at]
  simp only [sV236_at, sV462_at]
  unfold convSample
  refine congrArg₂ (fun u v => convolved _ u v _ _) ?_ ?_
  · have m : (512 + r.val) % 8 = r.val % 8 := by omega
    have g : (⟨64 + r.val / 8, by omega⟩ : Fin 128) = ⟨(512 + r.val) / 8, by omega⟩ := Fin.ext (by show 64 + r.val / 8 = (512 + r.val) / 8; omega)
    by_cases h : 2 ≤ r.val % 8
    · rw [dif_pos h, dif_pos (by show 2 ≤ (512 + r.val) % 8; omega)]
      exact congrArg (cross x1 x2 x3 d) (Fin.ext (by show 512 + (r.val - 2) = 512 + r.val - 2; omega))
    · rw [dif_neg h, dif_neg (by show ¬ 2 ≤ (512 + r.val) % 8; omega)]
      by_cases h0 : r.val % 8 = 0
      · have e : (⟨r.val % 8, by omega⟩ : Fin 8) = 0 := Fin.ext h0
        have e' : (⟨(512 + r.val) % 8, by omega⟩ : Fin 2) = 0 := Fin.ext (by show (512 + r.val) % 8 = 0; omega)
        rw [e, e', ← g]
        exact sV484_at0 d x1 x2 x3 x10 q _
      · have e : (⟨r.val % 8, by omega⟩ : Fin 8) = 1 := Fin.ext (by show r.val % 8 = 1; omega)
        have e' : (⟨(512 + r.val) % 8, by omega⟩ : Fin 2) = 1 := Fin.ext (by show (512 + r.val) % 8 = 1; omega)
        rw [e, e', ← g]
        exact sV484_at1 d x1 x2 x3 x10 q _
  · have g : (⟨64 + r.val / 8, by omega⟩ : Fin 128) = ⟨(512 + r.val) / 8, by omega⟩ := Fin.ext (by show 64 + r.val / 8 = (512 + r.val) / 8; omega)
    by_cases h : 1 ≤ r.val % 8
    · rw [dif_pos h, dif_pos (by show 1 ≤ (512 + r.val) % 8; omega)]
      exact congrArg (cross x1 x2 x3 d) (Fin.ext (by show 512 + (r.val - 1) = 512 + r.val - 1; omega))
    · rw [dif_neg h, dif_neg (by show ¬ 1 ≤ (512 + r.val) % 8; omega)]
      refine (grouped (sV472 x1 x2 x3 x10 q) r d).trans ?_
      have e : (⟨r.val % 8, by omega⟩ : Fin 8) = 0 := Fin.ext (by show r.val % 8 = 0; omega)
      rw [e, ← g]
      exact sV472_at d x1 x2 x3 x10 q _

end Cert.Even

end
-- ==== Proof.EvenRowsS.lean ====
/-
  What the tile of samples of the even layer stores, row by row.
-/
module

public import proofs.«01_k».proof.Proof.EvenRows
public import proofs.«01_k».proof.Proof.EvenSample

@[expose] public section

set_option maxRecDepth 16384

noncomputable section

namespace Cert.Even

open Idealize.ShloMosaic Idealize.ShloMosaic.Tactic
open Cert.EvenIdeal Cert.EvenIdeal.Gen

variable (x1 : Vec Ideal S1024x1024 .f32) (x2 : Vec Ideal S1x1x1024 .f32) (x3 : Vec Ideal S1024x2560 .bf16) (x4 x5 : Vec Ideal S1x512 .f32)
  (x6 : Vec Ideal S4x128x128 .f32) (x7 : Vec Ideal S4x128 .f32) (x8 : Vec Ideal S3x512 .f32) (x9 : Vec Ideal S1024x1024 .bf16)
  (x10 : Vec Ideal S128x2x512 .f32) (q : Memref sig .tc .vmem S64x8x512 .f32)

theorem sV660_at (k n : Fin 1024) : sV660 x9 (ix2 k n) = x9 (ix2 k n) := by
  pointwise [sV660]

theorem sV782_at (k n : Fin 1024) : sV782 x9 (ix2 k n) = x9 (ix2 k n) := by
  pointwise [sV782]

theorem bottomS_at (c : Fin 4) (t : Fin 128) (n : Fin 1024) :
    sV785 x1 x2 x3 x4 x5 x6 x7 x8 x9 x10 q (ix2 ⟨c.val * 128 + t.val, by omega⟩ n)
      = tileOut (mixWS x6) (mixBS x7) (unitT x1 x2 x3) (gateT x1 x2 x3 x4 x5) (convSample x1 x2 x3 x8 x10) x1 x9
          ⟨512 + (c.val * 128 + t.val), by omega⟩ n :=
  (bottom_sample (sV416 x1 x2 x3) (sV540 x1 x2 x3 x4 x5) ![sV77 x6, sV121 x6, sV165 x6, sV209 x6] ![sV102 x7, sV146 x7, sV190 x7, sV234 x7]
      (sV390 x1) (sV542 x1 x2 x3 x8 x10 q) (sV782 x9) c t n).trans
    (rowAfter_eq 512 (.inr rfl) (mixWS_at x6) (mixBS_at x7) (sV416_at x1 x2 x3) (sV540_at x1 x2 x3 x4 x5) (sV390_at x1)
      (fun r d => sV542_at r d x1 x2 x3 x8 x10 q) (sV782_at x9) c t n)

theorem topS_at (c : Fin 4) (t : Fin 128) (n : Fin 1024) :
    k0_pay142 (sV209 x6) (sV234 x7) (sV237 x1) (sV263 x1 x2 x3) (sV389 x1 x2 x3 x8 x10 q) (sV571 x1 x2 x3 x4 x5 x6 x7) (sV600 x1 x2 x3 x4 x5 x6 x7)
        (sV629 x1 x2 x3 x4 x5 x6 x7) (sV636 x1 x2 x3 x4 x5 x6 x7) (sV643 x1 x2 x3 x4 x5 x6 x7) (sV650 x1 x2 x3 x4 x5 x6 x7) (sV651 x1 x2 x3 x4 x5) sCst_282
        (sV660 x9) (ix2 ⟨c.val * 128 + t.val, by omega⟩ n)
      = tileOut (mixWS x6) (mixBS x7) (unitT x1 x2 x3) (gateT x1 x2 x3 x4 x5) (convSample x1 x2 x3 x8 x10) x1 x9
          ⟨0 + (c.val * 128 + t.val), by omega⟩ n :=
  (top_sample (sV263 x1 x2 x3) (sV387 x1 x2 x3 x4 x5) ![sV77 x6, sV121 x6, sV165 x6, sV209 x6] ![sV102 x7, sV146 x7, sV190 x7, sV234 x7]
      (sV237 x1) (sV389 x1 x2 x3 x8 x10 q) (sV660 x9) c t n).trans
    (rowAfter_eq 0 (.inl rfl) (mixWS_at x6) (mixBS_at x7)
      (fun r d => by rw [sV263_at]; simp only [Nat.zero_add]) (fun r d => by rw [sV387_at]; simp only [Nat.zero_add])
      (fun r d => by rw [sV237_at]; simp only [Nat.zero_add]) (fun r d => by rw [sV389_at]; simp only [Nat.zero_add]) (sV660_at x9) c t n)

theorem sOut_at (r n : Fin 1024) :
    sOut x1 x2 x3 x4 x5 x6 x7 x8 x9 x10 q (ix2 r n)
      = tileOut (mixWS x6) (mixBS x7) (unitT x1 x2 x3) (gateT x1 x2 x3 x4 x5) (convSample x1 x2 x3 x8 x10) x1 x9 r n := by
  obtain ⟨o, ho, c, t, p, rfl⟩ := split_row r
  rcases ho with rfl | rfl
  · exact (canon_top _ _ ⟨c.val * 128 + t.val, by omega⟩ n).trans (topS_at x1 x2 x3 x4 x5 x6 x7 x8 x9 x10 q c t n)
  · exact (canon_bottom _ _ ⟨c.val * 128 + t.val, by omega⟩ n).trans (bottomS_at x1 x2 x3 x4 x5 x6 x7 x8 x9 x10 q c t n)

/-! ## The gates -/

theorem gate_bottom (a b : Vec Ideal S512x512 .f32) (r d : Fin 512) :
    View.canon (Val := Elt Ideal) (e := .f32) [⟨(Rect.unit (s := S1024x512) ![512, 0] S512x512.size inb_S1024x512_S512x512_512_0), a⟩,
      ⟨(Rect.unit (s := S1024x512) ![0, 0] S512x512.size inb_S1024x512_S512x512_0_0), b⟩] (ix2 ⟨512 + r.val, by omega⟩ d) = a (ix2 r d) := by
  have e : (ix2 ⟨512 + r.val, by omega⟩ d : S1024x512.Idx)
      = (Rect.unit (s := S1024x512) ![512, 0] S512x512.size inb_S1024x512_S512x512_512_0).emb (ix2 r d) := by
    funext q; apply Fin.ext; fin_cases q
    · show 512 + r.val = 512 + 1 * r.val; omega
    · show d.val = 0 + 1 * d.val; omega
  rw [e]
  exact View.canon_cons_emb _ _ _ _

theorem gate_top (a b : Vec Ideal S512x512 .f32) (r d : Fin 512) :
    View.canon (Val := Elt Ideal) (e := .f32) [⟨(Rect.unit (s := S1024x512) ![512, 0] S512x512.size inb_S1024x512_S512x512_512_0), a⟩,
      ⟨(Rect.unit (s := S1024x512) ![0, 0] S512x512.size inb_S1024x512_S512x512_0_0), b⟩] (ix2 ⟨r.val, by omega⟩ d) = b (ix2 r d) := by
  have e : (ix2 ⟨r.val, by omega⟩ d : S1024x512.Idx)
      = (Rect.unit (s := S1024x512) ![0, 0] S512x512.size inb_S1024x512_S512x512_0_0).emb (ix2 r d) := by
    funext q; apply Fin.ext; fin_cases q
    · show r.val = 0 + 1 * r.val; omega
    · show d.val = 0 + 1 * d.val; omega
  rw [View.canon_cons_of_not_mem, e]
  · exact View.canon_cons_emb _ _ _ _
  · intro h
    obtain ⟨y, hy⟩ := LoadRect.exists_idx_of_mem _ h
    have h' : 512 + 1 * (y 0).val = r.val := congrArg (fun i : S1024x512.Idx => (i 0).val) hy
    omega

theorem sGate_at (r : Fin 1024) (d : Fin 512) : sGate x1 x2 x3 x4 x5 (ix2 r d) = gateT x1 x2 x3 x4 x5 r d := by
  by_cases h : r.val < 512
  · exact (gate_top _ _ ⟨r.val, h⟩ d).trans (sV298_at x1 x2 x3 x4 x5 ⟨r.val, h⟩ d)
  · obtain ⟨s, p, rfl⟩ : ∃ (s : Fin 512) (p : 512 + s.val < 1024), r = ⟨512 + s.val, p⟩ :=
      ⟨⟨r.val - 512, by omega⟩, by show 512 + (r.val - 512) < 1024; omega, Fin.ext (by show r.val = 512 + (r.val - 512); omega)⟩
    exact (gate_bottom _ _ s d).trans (sV451_at x1 x2 x3 x4 x5 s d)

/-! ## The state: the last two rows of every sample -/

theorem last_read (L : List (View.Piece (Elt Ideal) S64x8x512 .f32)) (w : Vec Ideal S64x8x512 .f32) (j : Fin 64) (d : Fin 512) :
    q.view.readCov (⟨(Rect.unit (s := S64x8x512) ![0, 0, 0] S64x8x512.size inb_S64x8x512_S64x8x512_0_0_0), w⟩ :: L)
        (Rect.unit (s := S64x8x512) ![0, 6, 0] S64x1x512.size inb_S64x8x512_S64x1x512_0_6_0).toLoadRect (ix3 j 0 d) = w (ix3 j 6 d)
    ∧ q.view.readCov (⟨(Rect.unit (s := S64x8x512) ![0, 0, 0] S64x8x512.size inb_S64x8x512_S64x8x512_0_0_0), w⟩ :: L)
        (Rect.unit (s := S64x8x512) ![0, 7, 0] S64x1x512.size inb_S64x8x512_S64x1x512_0_7_0).toLoadRect (ix3 j 0 d) = w (ix3 j 7 d) := by
  rw [View.readCov_eq_canon', View.readCov_eq_canon']
  refine ⟨Eq.trans (congrArg (View.canon (Val := Elt Ideal) (e := .f32) _) ?_)
      (View.canon_cons_emb (Rect.unit (s := S64x8x512) ![0, 0, 0] S64x8x512.size inb_S64x8x512_S64x8x512_0_0_0) w L (ix3 j 6 d)),
    Eq.trans (congrArg (View.canon (Val := Elt Ideal) (e := .f32) _) ?_)
      (View.canon_cons_emb (Rect.unit (s := S64x8x512) ![0, 0, 0] S64x8x512.size inb_S64x8x512_S64x8x512_0_0_0) w L (ix3 j 7 d))⟩
  · funext a; apply Fin.ext; fin_cases a <;> rfl
  · funext a; apply Fin.ext; fin_cases a <;> rfl

theorem pay104_at (a : Vec Ideal S64x1x512 .f32) (j : Fin 64) (d : Fin 512) : k0_pay104 a (ix3 j 0 d) = a (ix3 j 0 d) := by
  pointwise [k0_pay104]

theorem stored_at (y : FVec Ideal S512x512 .f32) (j : Fin 64) (i : Fin 8) (d : Fin 512) :
    k0_pay103 (k0_pay102 y) (ix3 j i d) = y (ix2 ⟨j.val * 8 + i.val, by omega⟩ d) := by
  pointwise [k0_pay103, k0_pay102]

theorem stored_at' (y : FVec Ideal S512x512 .f32) (j : Fin 64) (i : Fin 8) (d : Fin 512) :
    k0_pay125 y (ix3 j i d) = y (ix2 ⟨j.val * 8 + i.val, by omega⟩ d) := by
  pointwise [k0_pay125]

variable (j : Fin 64) (d : Fin 512)

theorem first6 : k0_pay104 (sV366 x1 x2 x3 x10 q) (ix3 j 0 d) = cross x1 x2 x3 d ⟨j.val * 8 + 6, by omega⟩ :=
  (pay104_at _ j d).trans ((last_read q _ _ j d).1.trans ((stored_at _ j 6 d).trans (sV309_at x1 x2 x3 _ d)))

theorem first7 : k0_pay105 (sV371 x1 x2 x3 x10 q) (ix3 j 0 d) = cross x1 x2 x3 d ⟨j.val * 8 + 7, by omega⟩ :=
  (pay104_at _ j d).trans ((last_read q _ _ j d).2.trans ((stored_at _ j 7 d).trans (sV309_at x1 x2 x3 _ d)))

theorem second6 : k0_pay126 (sV519 x1 x2 x3 x10 q) (ix3 j 0 d) = cross x1 x2 x3 d ⟨512 + (j.val * 8 + 6), by omega⟩ :=
  (pay104_at _ j d).trans ((last_read q _ _ j d).1.trans ((stored_at' _ j 6 d).trans (sV462_at x1 x2 x3 _ d)))

theorem second7 : k0_pay127 (sV524 x1 x2 x3 x10 q) (ix3 j 0 d) = cross x1 x2 x3 d ⟨512 + (j.val * 8 + 7), by omega⟩ :=
  (pay104_at _ j d).trans ((last_read q _ _ j d).2.trans ((stored_at' _ j 7 d).trans (sV462_at x1 x2 x3 _ d)))

/-- The four pieces of the state. -/
abbrev statePieces (a b c e : Vec Ideal S64x1x512 .f32) : List (View.Piece (Elt Ideal) S128x2x512 .f32) :=
  [⟨(Rect.unit (s := S128x2x512) ![64, 1, 0] S64x1x512.size inb_S128x2x512_S64x1x512_64_1_0), a⟩,
   ⟨(Rect.unit (s := S128x2x512) ![64, 0, 0] S64x1x512.size inb_S128x2x512_S64x1x512_64_0_0), b⟩,
   ⟨(Rect.unit (s := S128x2x512) ![0, 1, 0] S64x1x512.size inb_S128x2x512_S64x1x512_0_1_0), c⟩,
   ⟨(Rect.unit (s := S128x2x512) ![0, 0, 0] S64x1x512.size inb_S128x2x512_S64x1x512_0_0_0), e⟩]

theorem pieces_at (G : S128x2x512.Idx → EReal) (a b c e : Vec Ideal S64x1x512 .f32)
    (ha : ∀ j d, a (ix3 j 0 d) = G (ix3 ⟨64 + j.val, by omega⟩ 1 d)) (hb : ∀ j d, b (ix3 j 0 d) = G (ix3 ⟨64 + j.val, by omega⟩ 0 d))
    (hc : ∀ j d, c (ix3 j 0 d) = G (ix3 ⟨j.val, by omega⟩ 1 d)) (he : ∀ j d, e (ix3 j 0 d) = G (ix3 ⟨j.val, by omega⟩ 0 d))
    (y : S128x2x512.Idx) : View.canon (Val := Elt Ideal) (e := .f32) (statePieces a b c e) y = G y := by
  refine View.canon_apply_of_pieces (Val := Elt Ideal) (e := .f32) G _ ?_ y (View.cover_of_tiled (s := S128x2x512) (statePieces a b c e) S64x1x512.size rfl y)
  have hx : ∀ x : S64x1x512.Idx, x = ix3 (x 0) 0 (x 2) := fun x => by
    funext a
    fin_cases a
    · rfl
    · exact Subsingleton.elim (α := Fin 1) _ _
    · rfl
  intro p hp
  rcases List.mem_cons.mp hp with rfl | hp
  · intro x
    rw [hx x]
    refine (ha _ _).trans (congrArg G ?_)
    funext a; apply Fin.ext; fin_cases a
    · show 64 + (x 0).val = 64 + 1 * (x 0).val; omega
    · rfl
    · show (x 2).val = 0 + 1 * (x 2).val; omega
  rcases List.mem_cons.mp hp with rfl | hp
  · intro x
    rw [hx x]
    refine (hb _ _).trans (congrArg G ?_)
    funext a; apply Fin.ext; fin_cases a
    · show 64 + (x 0).val = 64 + 1 * (x 0).val; omega
    · rfl
    · show (x 2).val = 0 + 1 * (x 2).val; omega
  rcases List.mem_cons.mp hp with rfl | hp
  · intro x
    rw [hx x]
    refine (hc _ _).trans (congrArg G ?_)
    funext a; apply Fin.ext; fin_cases a
    · show (x 0).val = 0 + 1 * (x 0).val; omega
    · rfl
    · show (x 2).val = 0 + 1 * (x 2).val; omega
  rcases List.mem_cons.mp hp with rfl | hp
  · intro x
    rw [hx x]
    refine (he _ _).trans (congrArg G ?_)
    funext a; apply Fin.ext; fin_cases a
    · show (x 0).val = 0 + 1 * (x 0).val; omega
    · rfl
    · show (x 2).val = 0 + 1 * (x 2).val; omega
  exact absurd hp List.not_mem_nil

theorem sState_at (y : S128x2x512.Idx) :
    sState x1 x2 x3 x10 q y = cross x1 x2 x3 (y 2) ⟨(y 0).val * 8 + (6 + (y 1).val), by have a : (y 0).val < 128 := (y 0).isLt; have b : (y 1).val < 2 := (y 1).isLt; omega⟩ := by
  refine pieces_at (fun y => cross x1 x2 x3 (y 2) ⟨(y 0).val * 8 + (6 + (y 1).val), by have a : (y 0).val < 128 := (y 0).isLt; have b : (y 1).val < 2 := (y 1).isLt; omega⟩) _ _ _ _
    (fun j d => ?_) (fun j d => ?_) (fun j d => ?_) (fun j d => ?_) y
  · exact (second7 x1 x2 x3 x10 q j d).trans (congrArg (cross x1 x2 x3 d) (Fin.ext (by show 512 + (j.val * 8 + 7) = (64 + j.val) * 8 + (6 + 1); omega)))
  · exact (second6 x1 x2 x3 x10 q j d).trans (congrArg (cross x1 x2 x3 d) (Fin.ext (by show 512 + (j.val * 8 + 6) = (64 + j.val) * 8 + (6 + 0); omega)))
  · exact (first7 x1 x2 x3 x10 q j d).trans (congrArg (cross x1 x2 x3 d) (Fin.ext (by show j.val * 8 + 7 = j.val * 8 + (6 + 1); omega)))
  · exact (first6 x1 x2 x3 x10 q j d).trans (congrArg (cross x1 x2 x3 d) (Fin.ext (by show j.val * 8 + 6 = j.val * 8 + (6 + 0); omega)))

end Cert.Even

end
-- ==== Proof.EvenRef.lean ====
/-
  The even layer's reference, read row by row.
-/
module

public import proofs.«01_k».proof.Proof.EvenMath
public import proofs.«01_k».proof.Proof.Gen.EvenReferenceIdeal.Run
public import proofs.«01_k».proof.Proof.Gen.EvenReferenceIdeal.Read
public import Idealize.ShloMosaic.Lib.Pointwise

@[expose] public section

set_option maxRecDepth 16384

noncomputable section

namespace Cert.Even.Ref

open Idealize.ShloMosaic Idealize.ShloMosaic.Tactic
open Cert.FfnFinal (normRow rootMean)
open Cert.EvenReferenceIdeal Cert.EvenReferenceIdeal.Gen Cert.EvenReferenceIdeal.Read

variable (x0 : (⟨S17408x1024, .f32⟩ : BufTy).Contents (Elt Ideal)) (x1 : (⟨S2x3x1024, .f32⟩ : BufTy).Contents (Elt Ideal))
  (x2 : (⟨S1x1024x2560, .f32⟩ : BufTy).Contents (Elt Ideal)) (x3 x4 : (⟨S1x512, .f32⟩ : BufTy).Contents (Elt Ideal))
  (x5 : (⟨S1x4x128x128, .f32⟩ : BufTy).Contents (Elt Ideal)) (x6 : (⟨S1x4x128, .f32⟩ : BufTy).Contents (Elt Ideal))
  (x7 : (⟨S1x3x512, .f32⟩ : BufTy).Contents (Elt Ideal)) (x8 : (⟨S1x1024x1024, .f32⟩ : BufTy).Contents (Elt Ideal))
  (x9 : (⟨S1x128x2x512, .f32⟩ : BufTy).Contents (Elt Ideal))

/-- The norm of a row of tokens. -/
theorem normed (r : Fin 17408) (k : Fin 1024) :
    val_main_v21 x0 x1 (ix2 r k) = normRow (fun k => x0 (ix2 r k)) (fun k => x1 (ix3 0 1 k)) k := by
  pointwise [val_main_v21, val_main_v20, val_main_v19, val_main_v18, val_main_v17, val_main_v16, val_main_v15, val_main_v14,
    val_main_v13, val_main_v12, val_main_v11, val_main_v10, val_main_v9, val_main_v8, val_main_v7, val_main_cst, val_main_cst_0,
    val_main_cst_1, normRow, rootMean]

/-! The prompts, eight sequences of 2048 rows. -/

/-- The projected rows. -/
theorem projP (b : Fin 8) (p : Fin 2048) (c : Fin 2560) :
    val_main_v25 x0 x1 x2 (ix3 b p c) = proj (fun k => val_main_v21 x0 x1 (ix2 ⟨b.val * 2048 + p.val, by omega⟩ k)) fun k => x2 (ix3 0 k c) := by
  pointwise [val_main_v25, val_main_v23, val_main_v22, val_main_v0, proj]

theorem unitP (b : Fin 8) (p : Fin 2048) (c : Fin 1024) :
    val_main_v34 x0 x1 x2 (ix3 b p c) = gelu (val_main_v25 x0 x1 x2 (ix3 b p ⟨c.val, by omega⟩)) := by
  pointwise [val_main_v34, val_main_v33, val_main_v32, val_main_v31, val_main_v30, val_main_v29, val_main_v28, val_main_v27,
    val_main_v26, val_main_cst_3, val_main_cst_4, val_main_cst_5, gelu] <;> rfl

theorem gateP (b : Fin 8) (p : Fin 2048) (d : Fin 512) :
    val_main_v60 x0 x1 x2 x3 x4 (ix3 b p d)
      = layerNorm (fun d => val_main_v34 x0 x1 x2 (ix3 b p ⟨512 + d.val, by omega⟩)) (fun d => x3 (ix2 0 d)) (fun d => x4 (ix2 0 d)) d := by
  pointwise [val_main_v60, val_main_v59, val_main_v58, val_main_v57, val_main_v56, val_main_v55, val_main_v54, val_main_v53,
    val_main_v52, val_main_v51, val_main_v50, val_main_v49, val_main_v48, val_main_v47, val_main_v46, val_main_v45, val_main_v44,
    val_main_v43, val_main_v42, val_main_v41, val_main_v40, val_main_v39, val_main_v38, val_main_v37, val_main_v36, val_main_v1,
    val_main_v2, val_main_cst_6, val_main_cst_7, val_main_cst_8, val_main_cst_9, val_main_cst_10, layerNorm, centred, mean512] <;> rfl

theorem crossP (b : Fin 8) (p : Fin 2048) (d : Fin 512) :
    val_main_v77 x0 x1 x2 (ix3 b p d) = val_main_v25 x0 x1 x2 (ix3 b p ⟨1536 + d.val, by omega⟩) * val_main_v25 x0 x1 x2 (ix3 b p ⟨2048 + d.val, by omega⟩) := by
  pointwise [val_main_v77, val_main_v76, val_main_v75]

/-- The last two rows of each sequence. -/
theorem stateP (b : Fin 8) (j : Fin 2) (d : Fin 512) :
    val_main_v102 x0 x1 x2 (ix3 b j d) = val_main_v77 x0 x1 x2 (ix3 b ⟨2046 + j.val, by omega⟩ d) := by
  pointwise [val_main_v102, val_main_v78]
  rw [dif_neg (by omega)]
  exact congrArg (fun p => val_main_v77 x0 x1 x2 (ix3 b p d)) (Fin.ext (by show 2048 + j.val - 2 = 2046 + j.val; omega))

/-! The samples, 128 sequences of eight rows. -/

theorem projS (b : Fin 128) (p : Fin 8) (c : Fin 2560) :
    val_main_v106 x0 x1 x2 (ix3 b p c) = proj (fun k => val_main_v21 x0 x1 (ix2 ⟨16384 + (b.val * 8 + p.val), by omega⟩ k)) fun k => x2 (ix3 0 k c) := by
  pointwise [val_main_v106, val_main_v104, val_main_v103, val_main_v0, proj]

theorem unitS (b : Fin 128) (p : Fin 8) (c : Fin 1024) :
    val_main_v115 x0 x1 x2 (ix3 b p c) = gelu (val_main_v106 x0 x1 x2 (ix3 b p ⟨c.val, by omega⟩)) := by
  pointwise [val_main_v115, val_main_v114, val_main_v113, val_main_v112, val_main_v111, val_main_v110, val_main_v109, val_main_v108,
    val_main_v107, val_main_cst_12, val_main_cst_13, val_main_cst_14, gelu] <;> rfl

theorem gateS (b : Fin 128) (p : Fin 8) (d : Fin 512) :
    val_main_v141 x0 x1 x2 x3 x4 (ix3 b p d)
      = layerNorm (fun d => val_main_v115 x0 x1 x2 (ix3 b p ⟨512 + d.val, by omega⟩)) (fun d => x3 (ix2 0 d)) (fun d => x4 (ix2 0 d)) d := by
  pointwise [val_main_v141, val_main_v140, val_main_v139, val_main_v138, val_main_v137, val_main_v136, val_main_v135, val_main_v134,
    val_main_v133, val_main_v132, val_main_v131, val_main_v130, val_main_v129, val_main_v128, val_main_v127, val_main_v126,
    val_main_v125, val_main_v124, val_main_v123, val_main_v122, val_main_v121, val_main_v120, val_main_v119, val_main_v118, val_main_v117, val_main_v1,
    val_main_v2, val_main_cst_15, val_main_cst_16, val_main_cst_17, val_main_cst_18, val_main_cst_19, layerNorm, centred, mean512] <;> rfl

theorem crossS (b : Fin 128) (p : Fin 8) (d : Fin 512) :
    val_main_v160 x0 x1 x2 (ix3 b p d) = val_main_v106 x0 x1 x2 (ix3 b p ⟨1536 + d.val, by omega⟩) * val_main_v106 x0 x1 x2 (ix3 b p ⟨2048 + d.val, by omega⟩) := by
  pointwise [val_main_v160, val_main_v159, val_main_v158]

theorem stateS (b : Fin 128) (j : Fin 2) (d : Fin 512) :
    val_main_v185 x0 x1 x2 x9 (ix3 b j d) = val_main_v160 x0 x1 x2 (ix3 b ⟨6 + j.val, by omega⟩ d) := by
  pointwise [val_main_v185, val_main_v161]
  rw [dif_neg (by omega)]
  exact congrArg (fun p => val_main_v160 x0 x1 x2 (ix3 b p d)) (Fin.ext (by show 8 + j.val - 2 = 6 + j.val; omega))

theorem gateRowsS (b : Fin 128) (p : Fin 8) (d : Fin 512) :
    val_main_v190 x0 x1 x2 x3 x4 (ix2 ⟨b.val * 8 + p.val, by omega⟩ d) = val_main_v141 x0 x1 x2 x3 x4 (ix3 b p d) := by
  pointwise [val_main_v190]

end Cert.Even.Ref

end
-- ==== Proof.EvenRefOut.lean ====
/-
  The even layer's reference: the mixed and the convolved half of each row.
-/
module

public import proofs.«01_k».proof.Proof.EvenRef

@[expose] public section

set_option maxRecDepth 16384

noncomputable section

namespace Cert.Even.Ref

open Idealize.ShloMosaic Idealize.ShloMosaic.Tactic
open Cert.EvenReferenceIdeal Cert.EvenReferenceIdeal.Gen Cert.EvenReferenceIdeal.Read

variable (x0 : (⟨S17408x1024, .f32⟩ : BufTy).Contents (Elt Ideal)) (x1 : (⟨S2x3x1024, .f32⟩ : BufTy).Contents (Elt Ideal))
  (x2 : (⟨S1x1024x2560, .f32⟩ : BufTy).Contents (Elt Ideal)) (x3 x4 : (⟨S1x512, .f32⟩ : BufTy).Contents (Elt Ideal))
  (x5 : (⟨S1x4x128x128, .f32⟩ : BufTy).Contents (Elt Ideal)) (x6 : (⟨S1x4x128, .f32⟩ : BufTy).Contents (Elt Ideal))
  (x7 : (⟨S1x3x512, .f32⟩ : BufTy).Contents (Elt Ideal)) (x8 : (⟨S1x1024x1024, .f32⟩ : BufTy).Contents (Elt Ideal))
  (x9 : (⟨S1x128x2x512, .f32⟩ : BufTy).Contents (Elt Ideal))

/-- The comparison that keeps the entries on and below the diagonal. -/
theorem below (t s : Fin 128) :
    IntOp.cmpi .sge (IntOp.addi (BitVec.ofNat 32 t.val) 0#32) (BitVec.ofNat 32 s.val) = if s ≤ t then 1#1 else 0#1 := by
  revert t s
  decide +kernel

theorem triangle (t s : Fin 128) : val_main_v62 (F := Ideal) (ix2 t s) = if s ≤ t then 1#1 else 0#1 := by
  pointwise [val_main_v62, val_main_v61, val_main_c, val_main_call0_v0, val_main_call0_v1, val_main_call0_v2, val_main_call0_v3,
    val_main_call0_v4, val_main_call0_v5, val_main_call0_c, val_main_call0_c_0]
  rw [below t s]
  split <;> rfl

theorem weightP (h : Fin 4) (t s : Fin 128) :
    val_main_v64 x5 (ix3 h t s) = if s ≤ t then x5 (ix4 0 h t s) else 0 := by
  have e := triangle t s
  pointwise [val_main_v64, val_main_v63, val_main_call1_v1, val_main_call1_v0, val_main_call1_v2, val_main_cst_11, val_main_v3]
  rw [e]
  split
  · rfl
  · exact (if_neg (by decide)).trans Ideal.ofBits_zero_f32

theorem mixedP (b : Fin 8) (c : Fin 16) (t : Fin 128) (h : Fin 4) (e : Fin 128) :
    val_main_v72 x0 x1 x2 x3 x4 x5 x6 (ix3 b ⟨c.val * 128 + t.val, by omega⟩ ⟨h.val * 128 + e.val, by omega⟩)
      = (∑ s : Fin 128, val_main_v60 x0 x1 x2 x3 x4 (ix3 b ⟨c.val * 128 + s.val, by omega⟩ ⟨h.val * 128 + e.val, by omega⟩) * val_main_v64 x5 (ix3 h t s))
        + x6 (ix3 0 h t) := by
  pointwise [val_main_v72, val_main_v71, val_main_v70, val_main_v69, val_main_v68, val_main_v67, val_main_v66, val_main_v65, val_main_v4]

theorem halfP (b : Fin 8) (p : Fin 2048) (d : Fin 512) :
    val_main_v73 x0 x1 x2 x3 x4 x5 x6 (ix3 b p d)
      = val_main_v34 x0 x1 x2 (ix3 b p ⟨d.val, by omega⟩) * val_main_v72 x0 x1 x2 x3 x4 x5 x6 (ix3 b p d) := by
  pointwise [val_main_v73, val_main_v35]

theorem extP (b : Fin 8) (p : Fin 2050) (d : Fin 512) :
    val_main_v78 x0 x1 x2 (ix3 b p d) = if h : p.val < 2 then 0 else val_main_v77 x0 x1 x2 (ix3 b ⟨p.val - 2, by omega⟩ d) := by
  pointwise [val_main_v78, val_main_v24, val_main_cst_2]

theorem convP (b : Fin 8) (p : Fin 2048) (d : Fin 512) :
    val_main_v99 x0 x1 x2 x7 (ix3 b p d)
      = val_main_v25 x0 x1 x2 (ix3 b p ⟨1024 + d.val, by omega⟩)
        * (val_main_v78 x0 x1 x2 (ix3 b ⟨p.val, by omega⟩ d) * x7 (ix3 0 0 d) + val_main_v78 x0 x1 x2 (ix3 b ⟨1 + p.val, by omega⟩ d) * x7 (ix3 0 1 d)
          + val_main_v78 x0 x1 x2 (ix3 b ⟨2 + p.val, by omega⟩ d) * x7 (ix3 0 2 d)) := by
  pointwise [val_main_v99, val_main_v98, val_main_v97, val_main_v96, val_main_v95, val_main_v94, val_main_v93, val_main_v92, val_main_v91,
    val_main_v90, val_main_v89, val_main_v88, val_main_v87, val_main_v86, val_main_v85, val_main_v84, val_main_v83, val_main_v82,
    val_main_v81, val_main_v80, val_main_v79, val_main_v74, val_main_v5]

theorem outP (b : Fin 8) (p : Fin 2048) (n : Fin 1024) :
    val_main_v101 x0 x1 x2 x3 x4 x5 x6 x7 x8 (ix3 b p n)
      = ∑ k : Fin 1024, (if h : k.val < 512 then val_main_v73 x0 x1 x2 x3 x4 x5 x6 (ix3 b p ⟨k.val, h⟩) else val_main_v99 x0 x1 x2 x7 (ix3 b p ⟨k.val - 512, by omega⟩)) * x8 (ix3 0 k n) := by
  pointwise [val_main_v101, val_main_v100, val_main_v6]

theorem triangleS (t s : Fin 8) : val_main_v143 (F := Ideal) (ix2 t s) = if s ≤ t then 1#1 else 0#1 := by
  pointwise [val_main_v143, val_main_v142, val_main_c_20, val_main_call2_v0, val_main_call2_v1, val_main_call2_v2, val_main_call2_v3,
    val_main_call2_v4, val_main_call2_v5, val_main_call2_c, val_main_call2_c_0]
  rw [show IntOp.cmpi .sge (IntOp.addi (BitVec.ofNat 32 t.val) 0#32) (BitVec.ofNat 32 s.val) = if s ≤ t then 1#1 else 0#1 from
    below ⟨t.val, by omega⟩ ⟨s.val, by omega⟩]
  split <;> rfl

theorem weightS (h : Fin 4) (t s : Fin 8) :
    val_main_v146 x5 (ix3 h t s) = if s ≤ t then x5 (ix4 0 h ⟨t.val, by omega⟩ ⟨s.val, by omega⟩) else 0 := by
  have e := triangleS t s
  pointwise [val_main_v146, val_main_v145, val_main_v144, val_main_call3_v1, val_main_call3_v0, val_main_call3_v2, val_main_cst_21, val_main_v3]
  rw [e]
  split
  · rfl
  · exact (if_neg (by decide)).trans Ideal.ofBits_zero_f32

theorem mixedS (b : Fin 128) (t : Fin 8) (h : Fin 4) (e : Fin 128) :
    val_main_v155 x0 x1 x2 x3 x4 x5 x6 (ix3 b t ⟨h.val * 128 + e.val, by omega⟩)
      = (∑ s : Fin 8, val_main_v141 x0 x1 x2 x3 x4 (ix3 b s ⟨h.val * 128 + e.val, by omega⟩) * val_main_v146 x5 (ix3 h t s))
        + x6 (ix3 0 h ⟨t.val, by omega⟩) := by
  pointwise [val_main_v155, val_main_v154, val_main_v153, val_main_v152, val_main_v151, val_main_v150, val_main_v149, val_main_v148, val_main_v147, val_main_v4]

theorem halfS (b : Fin 128) (p : Fin 8) (d : Fin 512) :
    val_main_v156 x0 x1 x2 x3 x4 x5 x6 (ix3 b p d)
      = val_main_v115 x0 x1 x2 (ix3 b p ⟨d.val, by omega⟩) * val_main_v155 x0 x1 x2 x3 x4 x5 x6 (ix3 b p d) := by
  pointwise [val_main_v156, val_main_v116]

theorem extS (b : Fin 128) (p : Fin 10) (d : Fin 512) :
    val_main_v161 x0 x1 x2 x9 (ix3 b p d)
      = if h : p.val < 2 then x9 (ix4 0 b ⟨p.val, h⟩ d) else val_main_v160 x0 x1 x2 (ix3 b ⟨p.val - 2, by omega⟩ d) := by
  pointwise [val_main_v161, val_main_v105]

theorem convS (b : Fin 128) (p : Fin 8) (d : Fin 512) :
    val_main_v182 x0 x1 x2 x7 x9 (ix3 b p d)
      = val_main_v106 x0 x1 x2 (ix3 b p ⟨1024 + d.val, by omega⟩)
        * (val_main_v161 x0 x1 x2 x9 (ix3 b ⟨p.val, by omega⟩ d) * x7 (ix3 0 0 d) + val_main_v161 x0 x1 x2 x9 (ix3 b ⟨1 + p.val, by omega⟩ d) * x7 (ix3 0 1 d)
          + val_main_v161 x0 x1 x2 x9 (ix3 b ⟨2 + p.val, by omega⟩ d) * x7 (ix3 0 2 d)) := by
  pointwise [val_main_v182, val_main_v181, val_main_v180, val_main_v179, val_main_v178, val_main_v177, val_main_v176, val_main_v175,
    val_main_v174, val_main_v173, val_main_v172, val_main_v171, val_main_v170, val_main_v169, val_main_v168, val_main_v167,
    val_main_v166, val_main_v165, val_main_v164, val_main_v163, val_main_v162, val_main_v157, val_main_v5]

theorem outS (b : Fin 128) (p : Fin 8) (n : Fin 1024) :
    val_main_v184 x0 x1 x2 x3 x4 x5 x6 x7 x8 x9 (ix3 b p n)
      = ∑ k : Fin 1024, (if h : k.val < 512 then val_main_v156 x0 x1 x2 x3 x4 x5 x6 (ix3 b p ⟨k.val, h⟩) else val_main_v182 x0 x1 x2 x7 x9 (ix3 b p ⟨k.val - 512, by omega⟩)) * x8 (ix3 0 k n) := by
  pointwise [val_main_v184, val_main_v183, val_main_v6]

theorem resultP (b : Fin 8) (p : Fin 2048) (n : Fin 1024) :
    val_main_v189 x0 x1 x2 x3 x4 x5 x6 x7 x8 x9 (ix2 ⟨b.val * 2048 + p.val, by omega⟩ n)
      = x0 (ix2 ⟨b.val * 2048 + p.val, by omega⟩ n) + val_main_v101 x0 x1 x2 x3 x4 x5 x6 x7 x8 (ix3 b p n) := by
  pointwise [val_main_v189, val_main_v188, val_main_v187, val_main_v186]
  rw [dif_pos (by omega)]

/-- The samples' rows, and their place among all rows. -/
theorem joined (y : Vec Ideal S16384x1024 .f32) (z : Vec Ideal S1024x1024 .f32) (r : Fin 1024) (n : Fin 1024) (hr : 16384 + r.val < 17408) :
    (concatenate S17408x1024 0 [⟨S16384x1024, y⟩, ⟨S1024x1024, z⟩] concatenates_S16384x1024_S1024x1024_S17408x1024_d0 : Vec Ideal S17408x1024 .f32) (ix2 ⟨16384 + r.val, hr⟩ n)
      = z (ix2 r n) := by
  pointwise []

theorem resultS (b : Fin 128) (p : Fin 8) (n : Fin 1024) :
    val_main_v189 x0 x1 x2 x3 x4 x5 x6 x7 x8 x9 (ix2 ⟨16384 + (b.val * 8 + p.val), by omega⟩ n)
      = x0 (ix2 ⟨16384 + (b.val * 8 + p.val), by omega⟩ n) + val_main_v184 x0 x1 x2 x3 x4 x5 x6 x7 x8 x9 (ix3 b p n) := by
  refine congrArg (x0 _ + ·) ?_
  refine (joined _ _ ⟨b.val * 8 + p.val, by omega⟩ n (by omega)).trans ?_
  pointwise [val_main_v187]

end Cert.Even.Ref

end
-- ==== Proof.EvenEquation.lean ====
/-
  The even layer: the rows of a tile are the reference's.
-/
module

public import proofs.«01_k».proof.Proof.EvenRowsS
public import proofs.«01_k».proof.Proof.EvenRefOut

@[expose] public section

set_option maxRecDepth 16384

noncomputable section

namespace Cert.Even

open Idealize.ShloMosaic Idealize.ShloMosaic.Tactic
open Cert.FfnFinal (normRow rootMean)
open Cert.EvenIdeal Cert.EvenIdeal.Gen
open Cert.EvenReferenceIdeal.Read

variable (a0 : Vec Ideal S17408x1024 .f32) (a1 : Vec Ideal S2x3x1024 .f32) (a2 : Vec Ideal S1x1024x2560 .f32) (a3 a4 : Vec Ideal S1x512 .f32)
  (a5 : Vec Ideal S1x4x128x128 .f32) (a6 : Vec Ideal S1x4x128 .f32) (a7 : Vec Ideal S1x3x512 .f32) (a8 : Vec Ideal S1x1024x1024 .f32)
  (a9 : Vec Ideal S1x128x2x512 .f32)
variable (x1 : Vec Ideal S1024x1024 .f32) (x2 : Vec Ideal S1x1x1024 .f32) (x3 : Vec Ideal S1024x2560 .bf16) (x4 x5 : Vec Ideal S1x512 .f32)
  (x6 : Vec Ideal S4x128x128 .f32) (x7 : Vec Ideal S4x128 .f32) (x8 : Vec Ideal S3x512 .f32) (x9 : Vec Ideal S1024x1024 .bf16)
  (x10 : Vec Ideal S128x2x512 .f32)

/-- What a tile is given beside its tokens: the arguments, laid out for the call. -/
structure Given : Prop where
  gain : ∀ k : Fin 1024, x2 (ix3 0 0 k) = a1 (ix3 0 1 k)
  win : ∀ (k : Fin 1024) (j : Fin 2560), x3 (ix2 k j) = a2 (ix3 0 k j)
  lng : ∀ d : Fin 512, x4 (ix2 0 d) = a3 (ix2 0 d)
  lnb : ∀ d : Fin 512, x5 (ix2 0 d) = a4 (ix2 0 d)
  mixw : ∀ (h : Fin 4) (t s : Fin 128), x6 (ix3 h t s) = a5 (ix4 0 h t s)
  mixb : ∀ (h : Fin 4) (t : Fin 128), x7 (ix2 h t) = a6 (ix3 0 h t)
  conv : ∀ (n : Fin 3) (d : Fin 512), x8 (ix2 n d) = a7 (ix3 0 n d)
  wout : ∀ k n : Fin 1024, x9 (ix2 k n) = a8 (ix3 0 k n)
  state : ∀ (b : Fin 128) (i : Fin 2) (d : Fin 512), x10 (ix3 b i d) = a9 (ix4 0 b i d)

variable {a0 a1 a2 a3 a4 a5 a6 a7 a8 a9 x1 x2 x3 x4 x5 x6 x7 x8 x9 x10}

theorem tileRow_eq (g : Given a1 a2 a3 a4 a5 a6 a7 a8 a9 x2 x3 x4 x5 x6 x7 x8 x9 x10) (r : Fin 1024) (q : Fin 17408)
    (h : ∀ k : Fin 1024, x1 (ix2 r k) = a0 (ix2 q k)) : tileRow x1 x2 r = fun k => val_main_v21 (F := Ideal) a0 a1 (ix2 q k) := by
  funext k
  rw [Ref.normed]
  simp only [tileRow, h, g.gain]

theorem weights_eq (g : Given a1 a2 a3 a4 a5 a6 a7 a8 a9 x2 x3 x4 x5 x6 x7 x8 x9 x10) : weights x3 = fun k j => a2 (ix3 0 k j) := by
  funext k j
  exact g.win k j

theorem lane4_eq (g : Given a1 a2 a3 a4 a5 a6 a7 a8 a9 x2 x3 x4 x5 x6 x7 x8 x9 x10) : lane x4 = fun d => a3 (ix2 0 d) := funext g.lng
theorem lane5_eq (g : Given a1 a2 a3 a4 a5 a6 a7 a8 a9 x2 x3 x4 x5 x6 x7 x8 x9 x10) : lane x5 = fun d => a4 (ix2 0 d) := funext g.lnb

/-- The rows of all the tiles. -/
theorem prompt_bound (b : Fin 8) (o : Fin 2) (r : Fin 1024) : b.val * 2048 + (o.val * 1024 + r.val) < 17408 := by omega
theorem sample_bound (r : Fin 1024) : 16384 + r.val < 17408 := by omega

/-! ## Prompts: tile `o` of sequence `b` -/

section Prompts
variable (g : Given a1 a2 a3 a4 a5 a6 a7 a8 a9 x2 x3 x4 x5 x6 x7 x8 x9 x10) (b : Fin 8) (o : Fin 2)
  (hx : ∀ r k : Fin 1024, x1 (ix2 r k) = a0 (ix2 ⟨b.val * 2048 + (o.val * 1024 + r.val), prompt_bound b o r⟩ k))
include g hx

theorem unit_prompt (r : Fin 1024) (d : Fin 512) :
    unitT x1 x2 x3 r d = val_main_v34 (F := Ideal) a0 a1 a2 (ix3 b ⟨o.val * 1024 + r.val, by omega⟩ ⟨d.val, by omega⟩) := by
  rw [Ref.unitP, Ref.projP, unitT, tileRow_eq g r _ (hx r), weights_eq g]
  rfl

theorem gate_prompt (r : Fin 1024) (d : Fin 512) :
    gateT x1 x2 x3 x4 x5 r d = val_main_v60 (F := Ideal) a0 a1 a2 a3 a4 (ix3 b ⟨o.val * 1024 + r.val, by omega⟩ d) := by
  rw [Ref.gateP, gateT, tileRow_eq g r _ (hx r), weights_eq g, lane4_eq g, lane5_eq g]
  simp only [Ref.unitP, Ref.projP]
  rfl

theorem scale_prompt (r : Fin 1024) (d : Fin 512) :
    scaleRow (tileRow x1 x2 r) (weights x3) d = val_main_v25 (F := Ideal) a0 a1 a2 (ix3 b ⟨o.val * 1024 + r.val, by omega⟩ ⟨1024 + d.val, by omega⟩) := by
  rw [Ref.projP, tileRow_eq g r _ (hx r), weights_eq g]
  rfl

theorem cross_prompt (r : Fin 1024) (d : Fin 512) :
    cross x1 x2 x3 d r = val_main_v77 (F := Ideal) a0 a1 a2 (ix3 b ⟨o.val * 1024 + r.val, by omega⟩ d) := by
  rw [Ref.crossP, Ref.projP, Ref.projP, cross, tileRow_eq g r _ (hx r), weights_eq g]
  rfl

/-- The row `n` before a row, from the tile or from the eight rows before it. -/
theorem back_prompt (p : Fin 8 → Fin 512 → EReal) (h0 : o.val = 0 → ∀ q d, p q d = 0)
    (h1 : o.val = 1 → ∀ q d, p q d = val_main_v77 (F := Ideal) a0 a1 a2 (ix3 b ⟨1016 + q.val, by omega⟩ d))
    (n : Nat) (hn : n ≤ 2) (r : Fin 1024) (d : Fin 512) :
    (if h : r.val < n then p ⟨8 - n + r.val, by omega⟩ d else cross x1 x2 x3 d ⟨r.val - n, by omega⟩)
      = val_main_v78 (F := Ideal) a0 a1 a2 (ix3 b ⟨2 - n + (o.val * 1024 + r.val), by omega⟩ d) := by
  rw [Ref.extP]
  by_cases h : r.val < n
  · rw [dif_pos h]
    by_cases ho : o.val = 0
    · rw [dif_pos (by show 2 - n + (o.val * 1024 + r.val) < 2; omega)]
      exact h0 ho _ d
    · rw [dif_neg (by show ¬ 2 - n + (o.val * 1024 + r.val) < 2; omega), h1 (by omega)]
      exact congrArg (fun q => val_main_v77 (F := Ideal) a0 a1 a2 (ix3 b q d))
        (Fin.ext (by show 1016 + (8 - n + r.val) = 2 - n + (o.val * 1024 + r.val) - 2; omega))
  · rw [dif_neg h, dif_neg (by show ¬ 2 - n + (o.val * 1024 + r.val) < 2; omega), cross_prompt g b o hx]
    exact congrArg (fun q => val_main_v77 (F := Ideal) a0 a1 a2 (ix3 b q d))
      (Fin.ext (by show o.val * 1024 + (r.val - n) = 2 - n + (o.val * 1024 + r.val) - 2; omega))

theorem conv_prompt (p : Fin 8 → Fin 512 → EReal) (h0 : o.val = 0 → ∀ q d, p q d = 0)
    (h1 : o.val = 1 → ∀ q d, p q d = val_main_v77 (F := Ideal) a0 a1 a2 (ix3 b ⟨1016 + q.val, by omega⟩ d)) (r : Fin 1024) (d : Fin 512) :
    convTile x1 x2 x3 x8 p r d = val_main_v99 (F := Ideal) a0 a1 a2 a7 (ix3 b ⟨o.val * 1024 + r.val, by omega⟩ d) := by
  have e2 := back_prompt g b o hx p h0 h1 2 (by decide) r d
  have e1 := back_prompt g b o hx p h0 h1 1 (by decide) r d
  have e0 := Ref.extP a0 a1 a2 b ⟨2 + (o.val * 1024 + r.val), by omega⟩ d
  rw [dif_neg (by show ¬ 2 + (o.val * 1024 + r.val) < 2; omega)] at e0
  have ec := (cross_prompt g b o hx r d).trans ((congrArg (fun q => val_main_v77 (F := Ideal) a0 a1 a2 (ix3 b q d))
    (Fin.ext (by show o.val * 1024 + r.val = 2 + (o.val * 1024 + r.val) - 2; omega))).trans e0.symm)
  rw [Ref.convP]
  refine (congrArg₂ (fun s c => convolved s _ _ c _) (scale_prompt g b o hx r d) ec).trans ?_
  refine (congrArg₂ (fun y2 y1 => convolved _ y2 y1 _ _) e2 e1).trans ?_
  simp only [convolved, g.conv]
  have i2 : (⟨2 - 2 + (o.val * 1024 + r.val), by omega⟩ : Fin 2050) = ⟨o.val * 1024 + r.val, by omega⟩ := Fin.ext (by show 2 - 2 + (o.val * 1024 + r.val) = o.val * 1024 + r.val; omega)
  rw [i2]

theorem mixed_prompt (r : Fin 1024) (k : Fin 512) :
    tileMixed (mixW x6) (mixB x7) (unitT x1 x2 x3) (gateT x1 x2 x3 x4 x5) r k
      = val_main_v73 (F := Ideal) a0 a1 a2 a3 a4 a5 a6 (ix3 b ⟨o.val * 1024 + r.val, by omega⟩ k) := by
  have m := Ref.mixedP a0 a1 a2 a3 a4 a5 a6 b ⟨o.val * 8 + r.val / 128, by omega⟩ ⟨r.val % 128, by omega⟩ ⟨k.val / 128, by omega⟩ ⟨k.val % 128, by omega⟩
  have e1 : (⟨(o.val * 8 + r.val / 128) * 128 + r.val % 128, by omega⟩ : Fin 2048) = ⟨o.val * 1024 + r.val, by omega⟩ :=
    Fin.ext (by show (o.val * 8 + r.val / 128) * 128 + r.val % 128 = o.val * 1024 + r.val; omega)
  have e2 : (⟨k.val / 128 * 128 + k.val % 128, by omega⟩ : Fin 512) = k := Fin.ext (by show k.val / 128 * 128 + k.val % 128 = k.val; omega)
  simp only [e1, e2] at m
  rw [Ref.halfP, m, tileMixed, unit_prompt g b o hx]
  refine congrArg₂ (fun y z : EReal => _ * (y + z)) (Finset.sum_congr rfl fun s _ => ?_) (g.mixb _ _)
  rw [Ref.weightP, gate_prompt g b o hx, mul_comm]
  refine congrArg₂ (· * ·) (congrArg (fun q => val_main_v60 (F := Ideal) a0 a1 a2 a3 a4 (ix3 b q k)) (Fin.ext ?_)) ?_
  · show o.val * 1024 + (r.val / 128 * 128 + s.val) = (o.val * 8 + r.val / 128) * 128 + s.val
    omega
  · simp only [mixW, g.mixw]

/-- A row of a tile of prompts is the reference's. -/
theorem out_prompt (p : Fin 8 → Fin 512 → EReal) (h0 : o.val = 0 → ∀ q d, p q d = 0)
    (h1 : o.val = 1 → ∀ q d, p q d = val_main_v77 (F := Ideal) a0 a1 a2 (ix3 b ⟨1016 + q.val, by omega⟩ d)) (r n : Fin 1024) :
    tileOut (mixW x6) (mixB x7) (unitT x1 x2 x3) (gateT x1 x2 x3 x4 x5) (convTile x1 x2 x3 x8 p) x1 x9 r n
      = val_main_v189 (F := Ideal) a0 a1 a2 a3 a4 a5 a6 a7 a8 a9 (ix2 ⟨b.val * 2048 + (o.val * 1024 + r.val), by omega⟩ n) := by
  refine Eq.trans ?_ (Ref.resultP a0 a1 a2 a3 a4 a5 a6 a7 a8 a9 b ⟨o.val * 1024 + r.val, by omega⟩ n).symm
  rw [Ref.outP, tileOut, outRow, hx r n]
  refine congrArg (_ + ·) (Finset.sum_congr rfl fun k _ => ?_)
  rw [g.wout]
  refine congrArg (· * _) ?_
  by_cases h : k.val < 512
  · rw [dif_pos h, dif_pos h]
    exact mixed_prompt g b o hx r ⟨k.val, h⟩
  · rw [dif_neg h, dif_neg h]
    exact conv_prompt g b o hx p h0 h1 r _

end Prompts

/-! ## Samples: row `r` is row `r % 8` of sample `r / 8` -/

section Samples
variable (g : Given a1 a2 a3 a4 a5 a6 a7 a8 a9 x2 x3 x4 x5 x6 x7 x8 x9 x10)
  (hx : ∀ r k : Fin 1024, x1 (ix2 r k) = a0 (ix2 ⟨16384 + r.val, sample_bound r⟩ k))

theorem projS' (r : Fin 1024) (j : Fin 2560) :
    val_main_v106 (F := Ideal) a0 a1 a2 (ix3 ⟨r.val / 8, by omega⟩ ⟨r.val % 8, by omega⟩ j)
      = proj (fun k => val_main_v21 (F := Ideal) a0 a1 (ix2 ⟨16384 + r.val, by omega⟩ k)) fun k => a2 (ix3 0 k j) := by
  refine (Ref.projS ..).trans (congrArg (fun q : Fin 17408 => proj (fun k => val_main_v21 (F := Ideal) a0 a1 (ix2 q k)) _) (Fin.ext ?_))
  show 16384 + (r.val / 8 * 8 + r.val % 8) = 16384 + r.val
  omega

include g hx

theorem unit_sample (r : Fin 1024) (d : Fin 512) :
    unitT x1 x2 x3 r d = val_main_v115 (F := Ideal) a0 a1 a2 (ix3 ⟨r.val / 8, by omega⟩ ⟨r.val % 8, by omega⟩ ⟨d.val, by omega⟩) := by
  rw [Ref.unitS, projS', unitT, tileRow_eq g r _ (hx r), weights_eq g]
  rfl

theorem gate_sample (r : Fin 1024) (d : Fin 512) :
    gateT x1 x2 x3 x4 x5 r d = val_main_v141 (F := Ideal) a0 a1 a2 a3 a4 (ix3 ⟨r.val / 8, by omega⟩ ⟨r.val % 8, by omega⟩ d) := by
  rw [Ref.gateS, gateT, tileRow_eq g r _ (hx r), weights_eq g, lane4_eq g, lane5_eq g]
  simp only [Ref.unitS, projS']
  rfl

theorem scale_sample (r : Fin 1024) (d : Fin 512) :
    scaleRow (tileRow x1 x2 r) (weights x3) d = val_main_v106 (F := Ideal) a0 a1 a2 (ix3 ⟨r.val / 8, by omega⟩ ⟨r.val % 8, by omega⟩ ⟨1024 + d.val, by omega⟩) := by
  rw [projS', tileRow_eq g r _ (hx r), weights_eq g]
  rfl

theorem cross_sample (r : Fin 1024) (d : Fin 512) :
    cross x1 x2 x3 d r = val_main_v160 (F := Ideal) a0 a1 a2 (ix3 ⟨r.val / 8, by omega⟩ ⟨r.val % 8, by omega⟩ d) := by
  rw [Ref.crossS, projS', projS', cross, tileRow_eq g r _ (hx r), weights_eq g]
  rfl

/-- A row `n` back within a sample. -/
theorem cross_back (n : Nat) (r : Fin 1024) (h : n ≤ r.val % 8) (d : Fin 512) :
    cross x1 x2 x3 d ⟨r.val - n, by omega⟩ = val_main_v160 (F := Ideal) a0 a1 a2 (ix3 ⟨r.val / 8, by omega⟩ ⟨r.val % 8 - n, by omega⟩ d) := by
  rw [cross_sample g hx]
  refine congrArg₂ (fun i j => val_main_v160 (F := Ideal) a0 a1 a2 (ix3 i j d)) (Fin.ext ?_) (Fin.ext ?_)
  · show (r.val - n) / 8 = r.val / 8; omega
  · show (r.val - n) % 8 = r.val % 8 - n; omega

theorem conv_sample (r : Fin 1024) (d : Fin 512) :
    convSample x1 x2 x3 x8 x10 r d = val_main_v182 (F := Ideal) a0 a1 a2 a7 a9 (ix3 ⟨r.val / 8, by omega⟩ ⟨r.val % 8, by omega⟩ d) := by
  have e2 : (if h : 2 ≤ r.val % 8 then cross x1 x2 x3 d ⟨r.val - 2, by omega⟩ else x10 (ix3 ⟨r.val / 8, by omega⟩ ⟨r.val % 8, by omega⟩ d))
      = val_main_v161 (F := Ideal) a0 a1 a2 a9 (ix3 ⟨r.val / 8, by omega⟩ ⟨r.val % 8, by omega⟩ d) := by
    rw [Ref.extS]
    by_cases h : 2 ≤ r.val % 8
    · rw [dif_pos h, dif_neg (by show ¬ r.val % 8 < 2; omega)]
      exact cross_back g hx 2 r h d
    · rw [dif_neg h, dif_pos (by show r.val % 8 < 2; omega)]
      exact g.state _ _ d
  have e1 : (if h : 1 ≤ r.val % 8 then cross x1 x2 x3 d ⟨r.val - 1, by omega⟩ else x10 (ix3 ⟨r.val / 8, by omega⟩ 1 d))
      = val_main_v161 (F := Ideal) a0 a1 a2 a9 (ix3 ⟨r.val / 8, by omega⟩ ⟨1 + r.val % 8, by omega⟩ d) := by
    rw [Ref.extS]
    by_cases h : 1 ≤ r.val % 8
    · rw [dif_pos h, dif_neg (by show ¬ 1 + r.val % 8 < 2; omega)]
      refine (cross_back g hx 1 r h d).trans (congrArg (fun j => val_main_v160 (F := Ideal) a0 a1 a2 (ix3 _ j d)) (Fin.ext ?_))
      show r.val % 8 - 1 = 1 + r.val % 8 - 2; omega
    · rw [dif_neg h, dif_pos (by show 1 + r.val % 8 < 2; omega)]
      refine (g.state _ _ d).trans (congrArg (fun j : Fin 2 => a9 (ix4 0 _ j d)) (Fin.ext ?_))
      show 1 = 1 + r.val % 8; omega
  have e0 : cross x1 x2 x3 d r = val_main_v161 (F := Ideal) a0 a1 a2 a9 (ix3 ⟨r.val / 8, by omega⟩ ⟨2 + r.val % 8, by omega⟩ d) := by
    rw [Ref.extS, dif_neg (by show ¬ 2 + r.val % 8 < 2; omega)]
    refine (cross_sample g hx r d).trans (congrArg (fun j => val_main_v160 (F := Ideal) a0 a1 a2 (ix3 _ j d)) (Fin.ext ?_))
    show r.val % 8 = 2 + r.val % 8 - 2; omega
  rw [Ref.convS]
  refine (congrArg₂ (fun s c => convolved s _ _ c _) (scale_sample g hx r d) e0).trans ?_
  refine (congrArg₂ (fun y2 y1 => convolved _ y2 y1 _ _) e2 e1).trans ?_
  simp only [convolved, g.conv]

omit g hx in
/-- A sum over 128 rows of which only one group of eight counts. -/
theorem one_group (f : Fin 128 → EReal) (c : Fin 16) (h : ∀ s : Fin 128, s.val / 8 ≠ c.val → f s = 0) :
    ∑ s : Fin 128, f s = ∑ j : Fin 8, f ⟨c.val * 8 + j.val, by omega⟩ := by
  refine (Fintype.sum_of_injective (fun j : Fin 8 => (⟨c.val * 8 + j.val, by omega⟩ : Fin 128)) (fun i j e => ?_) _ f (fun s hs => h s fun e => hs ?_)
    fun _ => rfl).symm
  · have e' : c.val * 8 + i.val = c.val * 8 + j.val := congrArg Fin.val e
    exact Fin.ext (by omega)
  · exact ⟨⟨s.val % 8, by omega⟩, Fin.ext (by show c.val * 8 + s.val % 8 = s.val; omega)⟩

theorem mixed_sample (r : Fin 1024) (k : Fin 512) :
    tileMixed (mixWS x6) (mixBS x7) (unitT x1 x2 x3) (gateT x1 x2 x3 x4 x5) r k
      = val_main_v156 (F := Ideal) a0 a1 a2 a3 a4 a5 a6 (ix3 ⟨r.val / 8, by omega⟩ ⟨r.val % 8, by omega⟩ k) := by
  have m := Ref.mixedS a0 a1 a2 a3 a4 a5 a6 ⟨r.val / 8, by omega⟩ ⟨r.val % 8, by omega⟩ ⟨k.val / 128, by omega⟩ ⟨k.val % 128, by omega⟩
  have e2 : (⟨k.val / 128 * 128 + k.val % 128, by omega⟩ : Fin 512) = k := Fin.ext (by show k.val / 128 * 128 + k.val % 128 = k.val; omega)
  simp only [e2] at m
  rw [Ref.halfS, m, tileMixed, unit_sample g hx]
  refine congrArg (HMul.hMul _) (congrArg₂ (· + ·) ?_ ?_)
  · refine (one_group _ ⟨r.val % 128 / 8, by omega⟩ fun s hs => ?_).trans (Finset.sum_congr rfl fun j _ => ?_)
    · have hs' : ¬ s.val / 8 = r.val % 128 / 8 := hs
      simp only [mixWS]
      rw [if_neg fun e => hs' e.2, zero_mul]
    · rw [Ref.weightS, gate_sample g hx, mul_comm]
      refine congrArg₂ (· * ·) (congrArg₂ (fun i q => val_main_v141 (F := Ideal) a0 a1 a2 a3 a4 (ix3 i q k)) (Fin.ext ?_) (Fin.ext ?_)) ?_
      · show (r.val / 128 * 128 + (r.val % 128 / 8 * 8 + j.val)) / 8 = r.val / 8; omega
      · show (r.val / 128 * 128 + (r.val % 128 / 8 * 8 + j.val)) % 8 = j.val; omega
      · simp only [mixWS, g.mixw]
        by_cases h : j.val ≤ r.val % 8
        · rw [if_pos ⟨by show r.val % 128 / 8 * 8 + j.val ≤ r.val % 128; omega, by show (r.val % 128 / 8 * 8 + j.val) / 8 = r.val % 128 / 8; omega⟩, if_pos (by show j.val ≤ r.val % 8; exact h)]
          refine congrArg₂ (fun i q => a5 (ix4 0 _ i q)) (Fin.ext ?_) (Fin.ext ?_)
          · show r.val % 128 % 8 = r.val % 8; omega
          · show (r.val % 128 / 8 * 8 + j.val) % 8 = j.val; omega
        · rw [if_neg (fun e => h (by have e' : r.val % 128 / 8 * 8 + j.val ≤ r.val % 128 := e.1; omega)), if_neg (show ¬ j ≤ (⟨r.val % 8, by omega⟩ : Fin 8) from h)]
  · refine (g.mixb _ _).trans (congrArg (fun q : Fin 128 => a6 (ix3 0 _ q)) (Fin.ext ?_))
    show r.val % 128 % 8 = r.val % 8; omega

/-- A row of the tile of samples is the reference's. -/
theorem out_sample (r n : Fin 1024) :
    tileOut (mixWS x6) (mixBS x7) (unitT x1 x2 x3) (gateT x1 x2 x3 x4 x5) (convSample x1 x2 x3 x8 x10) x1 x9 r n
      = val_main_v189 (F := Ideal) a0 a1 a2 a3 a4 a5 a6 a7 a8 a9 (ix2 ⟨16384 + r.val, by omega⟩ n) := by
  have q := Ref.resultS a0 a1 a2 a3 a4 a5 a6 a7 a8 a9 ⟨r.val / 8, by omega⟩ ⟨r.val % 8, by omega⟩ n
  have e : (⟨16384 + (r.val / 8 * 8 + r.val % 8), by omega⟩ : Fin 17408) = ⟨16384 + r.val, by omega⟩ :=
    Fin.ext (by show 16384 + (r.val / 8 * 8 + r.val % 8) = 16384 + r.val; omega)
  simp only [e] at q
  refine Eq.trans ?_ q.symm
  rw [Ref.outS, tileOut, outRow, hx r n]
  refine congrArg (_ + ·) (Finset.sum_congr rfl fun k _ => ?_)
  rw [g.wout]
  refine congrArg (· * _) ?_
  by_cases h : k.val < 512
  · rw [dif_pos h, dif_pos h]
    exact mixed_sample g hx r ⟨k.val, h⟩
  · rw [dif_neg h, dif_neg h]
    exact conv_sample g hx r _

end Samples

end Cert.Even

end
-- ==== Proof.EvenBodyFirst.lean ====
/-
  One run of the body on a tile that begins a sequence: the carried rows are first set to zero.
-/
module

public import proofs.«01_k».proof.Proof.EvenDefs
public import Idealize.ShloMosaic.Lib.VecWindow

@[expose] public section

set_option maxRecDepth 16384

noncomputable section

namespace Cert.Even

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.EvenIdeal Cert.EvenIdeal.Gen

variable {F : FTy → Type} [FloatOps F]

local notation "𝕄" => MT nD τ sig Unit (Elt F) ℕ (UR sig nD τ) ℕ

set_option maxHeartbeats 4000000 in
/-- One run of the body on a tile that begins a sequence: the carried rows are first set to zero. -/
theorem body_first (c : Dev nD) (i : grid0.Coords)
    (arg1 : Memref sig .tc .vmem S1024x1024 .f32) (harg1 : arg1.IsWhole) (arg2 : Memref sig .tc .vmem S1x1x1024 .f32) (harg2 : arg2.IsWhole) (arg3 : Memref sig .tc .vmem S1024x2560 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S4x128x128 .f32) (harg6 : arg6.IsWhole) (arg7 : Memref sig .tc .vmem S4x128 .f32) (harg7 : arg7.IsWhole) (arg8 : Memref sig .tc .vmem S3x512 .f32) (harg8 : arg8.IsWhole) (arg9 : Memref sig .tc .vmem S1024x1024 .bf16) (harg9 : arg9.IsWhole) (arg10 : Memref sig .tc .vmem S128x2x512 .f32) (harg10 : arg10.IsWhole) (arg11 : Memref sig .tc .vmem S1024x1024 .f32) (harg11 : arg11.IsWhole) (arg12 : Memref sig .tc .vmem S1x8x512 .f32) (harg12 : arg12.IsWhole) (arg13 : Memref sig .tc .vmem S128x2x512 .f32) (harg13 : arg13.IsWhole) (arg14 : Memref sig .tc .vmem S1024x512 .f32) (harg14 : arg14.IsWhole) (arg15 : Memref sig .tc .vmem S8x512 .f32) (harg15 : arg15.IsWhole) (arg16 : Memref sig .tc .vmem S64x8x512 .f32) (harg16 : arg16.IsWhole)
    (h1 : k0_cond1 i = 1#1) (h2 : isFirst i = 1#1) (h3 : ¬ k0_cond3 i = 1#1)
    (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) (x8 : Vec F S3x512 .f32) (x9 : Vec F S1024x1024 .bf16) (x11 : Vec F S1024x1024 .f32) (x12 : Vec F S1x8x512 .f32) (x15 : Vec F S8x512 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg12 fullShare x12 ∗ owns (c : Thread nD τ) arg15 fullShare x15
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare (pOut x1 x2 x3 x4 x5 x6 x7 x8 x9 (arg15.view.readCov (Val := Elt F) [⟨rCarry, k0_pay4⟩] rCarry.toLoadRect)) ∗ owns (c : Thread nD τ) arg12 fullShare (pState x1 x2 x3) ∗ owns (c : Thread nD τ) arg15 fullShare (pCarry x1 x2 x3)) -∗ K ⟨⟩))
      ⊢ wp frame (wpE (defs₀ (F := F)) Variants.none c none) E (cc0_even i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_even_eq_skeleton]; unfold cc0_even_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f11, %hf11, H11⟩, ⟨%f12, %hf12, H12⟩, ⟨%f15, %hf15, H15⟩, Hk⟩
  obtain rfl := hf1; obtain rfl := hf2; obtain rfl := hf3; obtain rfl := hf4; obtain rfl := hf5; obtain rfl := hf6; obtain rfl := hf7; obtain rfl := hf8; obtain rfl := hf9; obtain rfl := hf11; obtain rfl := hf12; obtain rfl := hf15
  sl_exec
  sl_step
  iapply Hk
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr; · ipureintro; exact rfl
    iexact H7
  isplitl [H8]
  · iexists _; isplitr; · ipureintro; exact rfl
    iexact H8
  isplitl [H9]
  · iexists _; isplitr; · ipureintro; exact rfl
    iexact H9
  isplitl [H11]
  · iexists _; isplitr; rotate_left; · iexact H11
    ipureintro; exact (View.read_writes_eq_canon _ _ _ (cover_tokens _ _)).trans rfl
  isplitl [H12]
  · iexists _; isplitr; rotate_left; · iexact H12
    ipureintro; exact (View.read_writes_full _ _ _ _ _).trans rfl
  · iexists _; isplitr; rotate_left; · iexact H15
    ipureintro; exact (View.read_writes_full _ _ _ _ _).trans rfl

end Cert.Even

end
-- ==== Proof.EvenBodyNext.lean ====
/-
  One run of the body on a later tile of a sequence: the carried rows are those of the tile before.
-/
module

public import proofs.«01_k».proof.Proof.EvenDefs
public import Idealize.ShloMosaic.Lib.VecWindow

@[expose] public section

set_option maxRecDepth 16384

noncomputable section

namespace Cert.Even

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.EvenIdeal Cert.EvenIdeal.Gen

variable {F : FTy → Type} [FloatOps F]

local notation "𝕄" => MT nD τ sig Unit (Elt F) ℕ (UR sig nD τ) ℕ

set_option maxHeartbeats 4000000 in
/-- One run of the body on a later tile of a sequence: the carried rows are those of the tile before. -/
theorem body_next (c : Dev nD) (i : grid0.Coords)
    (arg1 : Memref sig .tc .vmem S1024x1024 .f32) (harg1 : arg1.IsWhole) (arg2 : Memref sig .tc .vmem S1x1x1024 .f32) (harg2 : arg2.IsWhole) (arg3 : Memref sig .tc .vmem S1024x2560 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S4x128x128 .f32) (harg6 : arg6.IsWhole) (arg7 : Memref sig .tc .vmem S4x128 .f32) (harg7 : arg7.IsWhole) (arg8 : Memref sig .tc .vmem S3x512 .f32) (harg8 : arg8.IsWhole) (arg9 : Memref sig .tc .vmem S1024x1024 .bf16) (harg9 : arg9.IsWhole) (arg10 : Memref sig .tc .vmem S128x2x512 .f32) (harg10 : arg10.IsWhole) (arg11 : Memref sig .tc .vmem S1024x1024 .f32) (harg11 : arg11.IsWhole) (arg12 : Memref sig .tc .vmem S1x8x512 .f32) (harg12 : arg12.IsWhole) (arg13 : Memref sig .tc .vmem S128x2x512 .f32) (harg13 : arg13.IsWhole) (arg14 : Memref sig .tc .vmem S1024x512 .f32) (harg14 : arg14.IsWhole) (arg15 : Memref sig .tc .vmem S8x512 .f32) (harg15 : arg15.IsWhole) (arg16 : Memref sig .tc .vmem S64x8x512 .f32) (harg16 : arg16.IsWhole)
    (h1 : k0_cond1 i = 1#1) (h2 : ¬ isFirst i = 1#1) (h3 : ¬ k0_cond3 i = 1#1)
    (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) (x8 : Vec F S3x512 .f32) (x9 : Vec F S1024x1024 .bf16) (x11 : Vec F S1024x1024 .f32) (x12 : Vec F S1x8x512 .f32) (x15 : Vec F S8x512 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg12 fullShare x12 ∗ owns (c : Thread nD τ) arg15 fullShare x15
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare (pOut x1 x2 x3 x4 x5 x6 x7 x8 x9 (View.ld x15 rCarry)) ∗ owns (c : Thread nD τ) arg12 fullShare (pState x1 x2 x3) ∗ owns (c : Thread nD τ) arg15 fullShare (pCarry x1 x2 x3)) -∗ K ⟨⟩))
      ⊢ wp frame (wpE (defs₀ (F := F)) Variants.none c none) E (cc0_even i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_even_eq_skeleton]; unfold cc0_even_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f11, %hf11, H11⟩, ⟨%f12, %hf12, H12⟩, ⟨%f15, %hf15, H15⟩, Hk⟩
  obtain rfl := hf1; obtain rfl := hf2; obtain rfl := hf3; obtain rfl := hf4; obtain rfl := hf5; obtain rfl := hf6; obtain rfl := hf7; obtain rfl := hf8; obtain rfl := hf9; obtain rfl := hf11; obtain rfl := hf12; obtain rfl := hf15
  sl_exec
  sl_step
  iapply Hk
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr; · ipureintro; exact rfl
    iexact H7
  isplitl [H8]
  · iexists _; isplitr; · ipureintro; exact rfl
    iexact H8
  isplitl [H9]
  · iexists _; isplitr; · ipureintro; exact rfl
    iexact H9
  isplitl [H11]
  · iexists _; isplitr; rotate_left; · iexact H11
    ipureintro; exact (View.read_writes_eq_canon _ _ _ (cover_tokens _ _)).trans rfl
  isplitl [H12]
  · iexists _; isplitr; rotate_left; · iexact H12
    ipureintro; exact (View.read_writes_full _ _ _ _ _).trans rfl
  · iexists _; isplitr; rotate_left; · iexact H15
    ipureintro; exact (View.read_writes_full _ _ _ _ _).trans rfl

end Cert.Even

end
-- ==== Proof.EvenBodySample.lean ====
/-
  One run of the body on the tile of samples.
-/
module

public import proofs.«01_k».proof.Proof.EvenDefs
public import Idealize.ShloMosaic.Lib.VecWindow

@[expose] public section

set_option maxRecDepth 16384

noncomputable section

namespace Cert.Even

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.EvenIdeal Cert.EvenIdeal.Gen

variable {F : FTy → Type} [FloatOps F]

local notation "𝕄" => MT nD τ sig Unit (Elt F) ℕ (UR sig nD τ) ℕ

set_option maxHeartbeats 4000000 in
/-- One run of the body on the tile of samples. -/
theorem body_sample (c : Dev nD) (i : grid0.Coords)
    (arg1 : Memref sig .tc .vmem S1024x1024 .f32) (harg1 : arg1.IsWhole) (arg2 : Memref sig .tc .vmem S1x1x1024 .f32) (harg2 : arg2.IsWhole) (arg3 : Memref sig .tc .vmem S1024x2560 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S4x128x128 .f32) (harg6 : arg6.IsWhole) (arg7 : Memref sig .tc .vmem S4x128 .f32) (harg7 : arg7.IsWhole) (arg8 : Memref sig .tc .vmem S3x512 .f32) (harg8 : arg8.IsWhole) (arg9 : Memref sig .tc .vmem S1024x1024 .bf16) (harg9 : arg9.IsWhole) (arg10 : Memref sig .tc .vmem S128x2x512 .f32) (harg10 : arg10.IsWhole) (arg11 : Memref sig .tc .vmem S1024x1024 .f32) (harg11 : arg11.IsWhole) (arg12 : Memref sig .tc .vmem S1x8x512 .f32) (harg12 : arg12.IsWhole) (arg13 : Memref sig .tc .vmem S128x2x512 .f32) (harg13 : arg13.IsWhole) (arg14 : Memref sig .tc .vmem S1024x512 .f32) (harg14 : arg14.IsWhole) (arg15 : Memref sig .tc .vmem S8x512 .f32) (harg15 : arg15.IsWhole) (arg16 : Memref sig .tc .vmem S64x8x512 .f32) (harg16 : arg16.IsWhole)
    (h1 : ¬ k0_cond1 i = 1#1) (h3 : k0_cond3 i = 1#1)
    (x1 : Vec F S1024x1024 .f32) (x2 : Vec F S1x1x1024 .f32) (x3 : Vec F S1024x2560 .bf16) (x4 : Vec F S1x512 .f32) (x5 : Vec F S1x512 .f32) (x6 : Vec F S4x128x128 .f32) (x7 : Vec F S4x128 .f32) (x8 : Vec F S3x512 .f32) (x9 : Vec F S1024x1024 .bf16) (x10 : Vec F S128x2x512 .f32) (x11 : Vec F S1024x1024 .f32) (x13 : Vec F S128x2x512 .f32) (x14 : Vec F S1024x512 .f32) (x16 : Vec F S64x8x512 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg13 fullShare x13 ∗ owns (c : Thread nD τ) arg14 fullShare x14 ∗ owns (c : Thread nD τ) arg16 fullShare x16
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (sOut x1 x2 x3 x4 x5 x6 x7 x8 x9 x10 arg16) ∗ owns (c : Thread nD τ) arg13 fullShare (sState x1 x2 x3 x10 arg16) ∗ owns (c : Thread nD τ) arg14 fullShare (sGate x1 x2 x3 x4 x5) ∗ (∃ y, owns (c : Thread nD τ) arg16 fullShare y)) -∗ K ⟨⟩))
      ⊢ wp frame (wpE (defs₀ (F := F)) Variants.none c none) E (cc0_even i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_even_eq_skeleton]; unfold cc0_even_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f13, %hf13, H13⟩, ⟨%f14, %hf14, H14⟩, ⟨%f16, %hf16, H16⟩, Hk⟩
  obtain rfl := hf1; obtain rfl := hf2; obtain rfl := hf3; obtain rfl := hf4; obtain rfl := hf5; obtain rfl := hf6; obtain rfl := hf7; obtain rfl := hf8; obtain rfl := hf9; obtain rfl := hf10; obtain rfl := hf11; obtain rfl := hf13; obtain rfl := hf14; obtain rfl := hf16
  sl_exec
  sl_step
  iapply Hk
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr; · ipureintro; exact rfl
    iexact H7
  isplitl [H8]
  · iexists _; isplitr; · ipureintro; exact rfl
    iexact H8
  isplitl [H9]
  · iexists _; isplitr; · ipureintro; exact rfl
    iexact H9
  isplitl [H10]
  · iexists _; isplitr; · ipureintro; exact rfl
    iexact H10
  isplitl [H11]
  · iexists _; isplitr; rotate_left; · iexact H11
    ipureintro; exact (View.read_writes_eq_canon _ _ _ (cover_tokens _ _)).trans rfl
  isplitl [H13]
  · iexists _; isplitr; rotate_left; · iexact H13
    ipureintro; exact (View.read_writes_eq_canon _ _ _ (cover_state _ _ _ _)).trans rfl
  isplitl [H14]
  · iexists _; isplitr; rotate_left; · iexact H14
    ipureintro; exact (View.read_writes_eq_canon _ _ _ (cover_gate _ _)).trans rfl
  · iexists _; iexists _; isplitr; rotate_left; · iexact H16
    any_goals (ipureintro; exact rfl)

end Cert.Even

end
-- ==== Proof.EvenRun.lean ====
/-
  The run of the even layer's call: what each point of the grid leaves in the blocks of its four results, and what the
  four result arrays hold at the end. The rows carried from one tile to the next lie in a buffer of the kernel's
  own; the invariant says what they are after the first tile of each sequence.
-/
module

public import proofs.«01_k».proof.Proof.EvenBodyFirst
public import proofs.«01_k».proof.Proof.EvenBodyNext
public import proofs.«01_k».proof.Proof.EvenBodySample
public import proofs.«01_k».proof.Proof.Gen.EvenIdeal.Points
public import Idealize.ShloMosaic.Lib.Pipeline.ValueKit
public import Idealize.ShloMosaic.Lib.Claim

@[expose] public section

set_option maxRecDepth 16384

noncomputable section

namespace Cert.Even

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.EvenIdeal Cert.EvenIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point before. -/
def prevPt (t : Fin cfg0.N) : Fin cfg0.N := ⟨t.val - 1, lt_of_le_of_lt (Nat.sub_le _ _) t.isLt⟩

/-- The last tile of prompts at or before a point. -/
def promptPt (t : Fin cfg0.N) : Fin cfg0.N := ⟨min t.val 15, lt_of_le_of_lt (min_le_left _ _) t.isLt⟩

/-- The rows of the convolution that the tile at point `t` hands to the next. -/
def carryAt (c : Dev nD) (t : Fin cfg0.N) : Vec F S8x512 .f32 := pCarry (iblk m c 0 t) (iblk m c 1 t) (iblk m c 2 t)

/-- The rows that the tile at point `t` reads as those before it: none at the start of a sequence. -/
def priorAt (c : Dev nD) (t : Fin cfg0.N) : Vec F S8x512 .f32 :=
  if t.val % 2 = 0 then (Memref.whole cc0_scratch0).view.readCov (Val := Elt F) [⟨rCarry, k0_pay4⟩] rCarry.toLoadRect
  else View.ld (carryAt m c (prevPt t)) rCarry

/-- The rows of the first result that point `t` computes, -/
def tokensAt (c : Dev nD) (t : Fin cfg0.N) : Vec F S1024x1024 .f32 :=
  if t.val < 16 then pOut (iblk m c 0 t) (iblk m c 1 t) (iblk m c 2 t) (iblk m c 3 t) (iblk m c 4 t) (iblk m c 5 t) (iblk m c 6 t) (iblk m c 7 t) (iblk m c 8 t) (priorAt m c t)
  else sOut (iblk m c 0 t) (iblk m c 1 t) (iblk m c 2 t) (iblk m c 3 t) (iblk m c 4 t) (iblk m c 5 t) (iblk m c 6 t) (iblk m c 7 t) (iblk m c 8 t) (iblk m c 9 t) (Memref.whole cc0_scratch1)

/-- the block of the second, -/
def promptState (c : Dev nD) (t : Fin cfg0.N) : Vec F S1x8x512 .f32 := pState (iblk m c 0 t) (iblk m c 1 t) (iblk m c 2 t)

/-- of the third, -/
def sampleState (c : Dev nD) (t : Fin cfg0.N) : Vec F S128x2x512 .f32 :=
  sState (iblk m c 0 t) (iblk m c 1 t) (iblk m c 2 t) (iblk m c 9 t) (Memref.whole cc0_scratch1)

/-- and of the fourth. -/
def sampleGate (c : Dev nD) (t : Fin cfg0.N) : Vec F S1024x512 .f32 :=
  sGate (iblk m c 0 t) (iblk m c 1 t) (iblk m c 2 t) (iblk m c 3 t) (iblk m c 4 t)

/-- What is known of the carried rows before point `t`: after the first tile of a sequence, its last rows. -/
def carried (c : Dev nD) (t : Fin (cfg0.N + 1)) (X : Vec F S8x512 .f32) : Prop :=
  ∀ p : Fin cfg0.N, p.val + 1 = t.val → p.val % 2 = 0 → p.val < 16 → X = carryAt m c p

/-- The invariant before point `t`: the kernel's two buffers and its generator register. -/
def inv (c : Dev nD) (t : Fin (cfg0.N + 1)) : sProp 𝕄 :=
  iprop((∃ X, ⌜carried m c t X⌝ ∗ owns (c : Thread nD τ) (Memref.whole cc0_scratch0) fullShare X)
    ∗ (∃ Y, owns (c : Thread nD τ) (Memref.whole cc0_scratch1) fullShare Y) ∗ ∃ r, prngReg c r)

/-- The proof data: every window exact. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => tokensAt m c t
    | ⟨11, _⟩ => promptState m c (promptPt t)
    | ⟨12, _⟩ => sampleState m c t
    | ⟨13, _⟩ => sampleGate m c t
  Φ t := inv m c t
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = tokensAt m c t := by dsimp only [dats]
theorem after_11 (c : Dev nD) (t : Fin cfg0.N) : (dats m 0 c).after 11 t = promptState m c (promptPt t) := by dsimp only [dats]
theorem after_12 (c : Dev nD) (t : Fin cfg0.N) : (dats m 0 c).after 12 t = sampleState m c t := by dsimp only [dats]
theorem after_13 (c : Dev nD) (t : Fin cfg0.N) : (dats m 0 c).after 13 t = sampleGate m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- Which branches run at a point. -/
theorem cond1_eq : ∀ t : Fin grid0.N, (k0_cond1 (grid0.coords t) = 1#1) ↔ t.val < 16 := by decide +kernel
theorem cond3_eq : ∀ t : Fin grid0.N, (k0_cond3 (grid0.coords t) = 1#1) ↔ ¬ t.val < 16 := by decide +kernel
theorem first_eq : ∀ t : Fin grid0.N, (isFirst (grid0.coords t) = 1#1) ↔ t.val % 2 = 0 := by decide +kernel

/-- Which results' blocks the body stores at a point, and which are written back there. -/
theorem idle_10 : ∀ t : Fin grid0.N, idle0 10 (grid0.coords t) = false := by decide +kernel
theorem idle_11 : ∀ t : Fin grid0.N, idle0 11 (grid0.coords t) = decide (¬ t.val < 16) := by decide +kernel
theorem idle_11_last : idle0 11 (grid0.coords ⟨15, by decide⟩) = false := by decide +kernel
theorem idle_12 : ∀ t : Fin grid0.N, idle0 12 (grid0.coords t) = decide (t.val < 16) := by decide +kernel
theorem idle_13 : ∀ t : Fin grid0.N, idle0 13 (grid0.coords t) = decide (t.val < 16) := by decide +kernel
theorem flush_11 : ∀ t : Fin grid0.N, win0_11.flush t = decide (t.val % 2 = 1 ∧ t.val < 15 ∨ t.val = 16) := by decide +kernel
theorem flush_12 : ∀ t : Fin grid0.N, win0_12.flush t = decide (t.val = 16) := by decide +kernel
theorem flush_13 : ∀ t : Fin grid0.N, win0_13.flush t = decide (t.val = 16) := by decide +kernel

/-- At the last point the body finds the rows of the last prompt in the second result's block. -/
theorem before_11 (c : Dev nD) (t : Fin cfg0.N) (h : ¬ t.val < 16) (d) :
    (dats m 0 c).before 11 t d = promptState m c (promptPt t) := by
  have h17 : t.val < 17 := lt_of_lt_of_eq t.isLt N_0
  obtain ⟨n, hn⟩ := t
  obtain rfl : n = 16 := by simp only at h h17; omega
  have e : (cfg0.win 11).flush ⟨15, by decide⟩ = false := (flush_11 ⟨15, by decide⟩).trans (by decide)
  have ei : cfg0.idle 11 (cfg0.grid.coords ⟨15, by decide⟩) = false := idle_11_last
  rw [Dat.before_of_pos (dat := dats m 0 c) 11 _ (by show (16:ℕ) ≠ 0; decide) rfl]
  refine (if_neg (by rw [show (cfg0.win 11).flush ⟨16 - 1, _⟩ = false from e]; decide)).trans ?_
  unfold Dat.left
  rw [show cfg0.idle 11 (cfg0.grid.coords ⟨16 - 1, _⟩) = false from ei]
  rfl

theorem leaves_10 (c : Dev nD) (t : Fin cfg0.N) :
    (dats m 0 c).leavesExact 10 t = owns (c : Thread nD τ) (st0_10 t) fullShare (tokensAt m c t) := by
  unfold Dat.leavesExact
  rw [show cfg0.idle 10 (cfg0.grid.coords t) = false from idle_10 t, after_10]
theorem leaves_11 (c : Dev nD) (t : Fin cfg0.N) (ht : t.val < 16) :
    (dats m 0 c).leavesExact 11 t = owns (c : Thread nD τ) (st0_11 t) fullShare (promptState m c t) := by
  unfold Dat.leavesExact
  rw [show cfg0.idle 11 (cfg0.grid.coords t) = false from (idle_11 t).trans (decide_eq_false (not_not.mpr ht)), after_11,
    show promptPt t = t from Fin.ext (min_eq_left (by omega))]
theorem leaves_11' (c : Dev nD) (t : Fin cfg0.N) (ht : ¬ t.val < 16) :
    (dats m 0 c).leavesExact 11 t = owns (c : Thread nD τ) (st0_11 t) fullShare (promptState m c (promptPt t)) := by
  have h17 : t.val < 17 := lt_of_lt_of_eq t.isLt N_0
  unfold Dat.leavesExact
  rw [show cfg0.idle 11 (cfg0.grid.coords t) = true from (idle_11 t).trans (decide_eq_true ht),
    show (cfg0.win 11).flush t = true from (flush_11 t).trans (decide_eq_true (by omega)), after_11]
theorem leaves_12 (c : Dev nD) (t : Fin cfg0.N) (ht : t.val < 16) :
    (dats m 0 c).leavesExact 12 t = iprop(∃ d, owns (c : Thread nD τ) (st0_12 t) fullShare ((dats m 0 c).before 12 t d)) :=
  (dats m 0 c).leavesExact_idle 12 t ((idle_12 t).trans (decide_eq_true ht)) ((flush_12 t).trans (decide_eq_false (by omega)))
theorem leaves_12' (c : Dev nD) (t : Fin cfg0.N) (ht : ¬ t.val < 16) :
    (dats m 0 c).leavesExact 12 t = owns (c : Thread nD τ) (st0_12 t) fullShare (sampleState m c t) := by
  unfold Dat.leavesExact
  rw [show cfg0.idle 12 (cfg0.grid.coords t) = false from (idle_12 t).trans (decide_eq_false ht), after_12]
theorem leaves_13 (c : Dev nD) (t : Fin cfg0.N) (ht : t.val < 16) :
    (dats m 0 c).leavesExact 13 t = iprop(∃ d, owns (c : Thread nD τ) (st0_13 t) fullShare ((dats m 0 c).before 13 t d)) :=
  (dats m 0 c).leavesExact_idle 13 t ((idle_13 t).trans (decide_eq_true ht)) ((flush_13 t).trans (decide_eq_false (by omega)))
theorem leaves_13' (c : Dev nD) (t : Fin cfg0.N) (ht : ¬ t.val < 16) :
    (dats m 0 c).leavesExact 13 t = owns (c : Thread nD τ) (st0_13 t) fullShare (sampleGate m c t) := by
  unfold Dat.leavesExact
  rw [show cfg0.idle 13 (cfg0.grid.coords t) = false from (idle_13 t).trans (decide_eq_false ht), after_13]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (dats m 0 c).leavesExact 10 t
    ∗ (dats m 0 c).leavesExact 11 t
    ∗ (dats m 0 c).leavesExact 12 t
    ∗ (dats m 0 c).leavesExact 13 t)

/-- After a tile of prompts the carried rows are its own. -/
theorem carried_succ (c : Dev nD) (t : Fin cfg0.N) : carried m c t.succ (carryAt m c t) := fun p hp _ _ => by
  rw [show p = t from Fin.ext (Nat.succ.inj hp)]

/-- After the tile of samples nothing is asked of them. -/
theorem carried_last (c : Dev nD) (t : Fin cfg0.N) (ht : ¬ t.val < 16) (X : Vec F S8x512 .f32) : carried m c t.succ X :=
  fun p hp _ h16 => absurd (show p.val = t.val from Nat.succ.inj hp) (by omega)

theorem prior_first (c : Dev nD) (t : Fin cfg0.N) (h : t.val % 2 = 0) :
    priorAt m c t = (Memref.whole cc0_scratch0).view.readCov (Val := Elt F) [⟨rCarry, k0_pay4⟩] rCarry.toLoadRect := if_pos h

theorem prior_next (c : Dev nD) (t : Fin cfg0.N) (ht : t.val < 16) (h : ¬ t.val % 2 = 0) (X : Vec F S8x512 .f32)
    (hX : carried m c t.castSucc X) : View.ld X rCarry = priorAt m c t := by
  rw [priorAt, if_neg h, hX (prevPt t) (by show t.val - 1 + 1 = t.val; omega) (by show (t.val - 1) % 2 = 0; omega)
    (by show t.val - 1 < 16; omega)]

set_option maxHeartbeats 1600000 in
/-- The body at the first tile of a sequence, -/
theorem sound_first (c : Dev nD) (t : Fin cfg0.N) (ht : t.val < 16) (h2 : t.val % 2 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl,
    after_0, after_1, after_2, after_3, after_4, after_5, after_6, after_7, after_8, after_9, leaves_10,
    leaves_11 m c t ht, leaves_12 m c t ht, leaves_13 m c t ht,
    show (dats m 0 c).Φ t.succ = inv m c t.succ from rfl, show (dats m 0 c).Φ t.castSucc = inv m c t.castSucc from rfl]
  unfold inv
  iintro ⟨⟨⟨%X, %hX, HX⟩, ⟨%Y, HY⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_first c (grid0.coords t) _ _ _ _ _ _ _ _ _ _ _ _ _ _ _ _ _ _ _ _ _ _ _ _ _ _ _ _ _ _ _ _ ((cond1_eq t).mpr ht) ((first_eq t).mpr h2) (fun h => (cond3_eq t).mp h ht) (iblk m c 0 t) (iblk m c 1 t) (iblk m c 2 t) (iblk m c 3 t) (iblk m c 4 t) (iblk m c 5 t) (iblk m c 6 t) (iblk m c 7 t) (iblk m c 8 t) _ _ X Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [HX]; · iexact HX
  iintro ⟨H0, H1, H2, H3, H4, H5, H6, H7, H8, H10, H11, HX⟩
  isplitl [HX HY Hr]
  · isplitl [HX]
    · iexists _; isplitr; rotate_left; · iexact HX
      ipureintro; exact carried_succ m c t
    isplitl [HY]; · iexists _; iexact HY
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  rw [show tokensAt m c t = pOut (iblk m c 0 t) (iblk m c 1 t) (iblk m c 2 t) (iblk m c 3 t) (iblk m c 4 t) (iblk m c 5 t) (iblk m c 6 t) (iblk m c 7 t) (iblk m c 8 t) ((Memref.whole cc0_scratch0).view.readCov (Val := Elt F) [⟨rCarry, k0_pay4⟩] rCarry.toLoadRect) from by rw [tokensAt, if_pos ht, prior_first m c t h2]]
  isplitl [H10]; · iexact H10
  isplitl [H11]; · iexact H11
  isplitl [H12]; · iexists _; iexact H12
  iexists _; iexact H13

set_option maxHeartbeats 1600000 in
/-- at a later one, -/
theorem sound_next (c : Dev nD) (t : Fin cfg0.N) (ht : t.val < 16) (h2 : ¬ t.val % 2 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl,
    after_0, after_1, after_2, after_3, after_4, after_5, after_6, after_7, after_8, after_9, leaves_10,
    leaves_11 m c t ht, leaves_12 m c t ht, leaves_13 m c t ht,
    show (dats m 0 c).Φ t.succ = inv m c t.succ from rfl, show (dats m 0 c).Φ t.castSucc = inv m c t.castSucc from rfl]
  unfold inv
  iintro ⟨⟨⟨%X, %hX, HX⟩, ⟨%Y, HY⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_next c (grid0.coords t) _ _ _ _ _ _ _ _ _ _ _ _ _ _ _ _ _ _ _ _ _ _ _ _ _ _ _ _ _ _ _ _ ((cond1_eq t).mpr ht) (fun h => h2 ((first_eq t).mp h)) (fun h => (cond3_eq t).mp h ht) (iblk m c 0 t) (iblk m c 1 t) (iblk m c 2 t) (iblk m c 3 t) (iblk m c 4 t) (iblk m c 5 t) (iblk m c 6 t) (iblk m c 7 t) (iblk m c 8 t) _ _ X Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [HX]; · iexact HX
  iintro ⟨H0, H1, H2, H3, H4, H5, H6, H7, H8, H10, H11, HX⟩
  isplitl [HX HY Hr]
  · isplitl [HX]
    · iexists _; isplitr; rotate_left; · iexact HX
      ipureintro; exact carried_succ m c t
    isplitl [HY]; · iexists _; iexact HY
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  rw [show tokensAt m c t = pOut (iblk m c 0 t) (iblk m c 1 t) (iblk m c 2 t) (iblk m c 3 t) (iblk m c 4 t) (iblk m c 5 t) (iblk m c 6 t) (iblk m c 7 t) (iblk m c 8 t) (View.ld X rCarry) from by rw [tokensAt, if_pos ht, ← prior_next m c t ht h2 X hX]]
  isplitl [H10]; · iexact H10
  isplitl [H11]; · iexact H11
  isplitl [H12]; · iexists _; iexact H12
  iexists _; iexact H13

set_option maxHeartbeats 1600000 in
/-- and at the tile of samples. -/
theorem sound_sample (c : Dev nD) (t : Fin cfg0.N) (ht : ¬ t.val < 16) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl,
    after_0, after_1, after_2, after_3, after_4, after_5, after_6, after_7, after_8, after_9, leaves_10,
    leaves_11' m c t ht, leaves_12' m c t ht, leaves_13' m c t ht,
    show (dats m 0 c).Φ t.succ = inv m c t.succ from rfl, show (dats m 0 c).Φ t.castSucc = inv m c t.castSucc from rfl]
  unfold inv
  iintro ⟨⟨⟨%X, %hX, HX⟩, ⟨%Y, HY⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  simp only [before_11 m c t ht]
  iapply (body_sample c (grid0.coords t) _ _ _ _ _ _ _ _ _ _ _ _ _ _ _ _ _ _ _ _ _ _ _ _ _ _ _ _ _ _ _ _ (fun h => ht ((cond1_eq t).mp h)) ((cond3_eq t).mpr ht) (iblk m c 0 t) (iblk m c 1 t) (iblk m c 2 t) (iblk m c 3 t) (iblk m c 4 t) (iblk m c 5 t) (iblk m c 6 t) (iblk m c 7 t) (iblk m c 8 t) (iblk m c 9 t) _ _ _ Y Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [HY]; · iexact HY
  iintro ⟨H0, H1, H2, H3, H4, H5, H6, H7, H8, H9, H10, H12, H13, ⟨%Y2, HY⟩⟩
  isplitl [HX HY Hr]
  · isplitl [HX]
    · iexists _; isplitr; rotate_left; · iexact HX
      ipureintro; exact carried_last m c t ht X
    isplitl [HY]; · iexists _; iexact HY
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  rw [show tokensAt m c t = sOut (iblk m c 0 t) (iblk m c 1 t) (iblk m c 2 t) (iblk m c 3 t) (iblk m c 4 t) (iblk m c 5 t) (iblk m c 6 t) (iblk m c 7 t) (iblk m c 8 t) (iblk m c 9 t) (Memref.whole cc0_scratch1) from by rw [tokensAt, if_neg ht]]
  isplitl [H10]; · iexact H10
  isplitl [H11]; · iexact H11
  isplitl [H12]; · iexact H12
  iexact H13

theorem sound_body (c : Dev nD) (t : Fin cfg0.N) :
    bodyPre m c t ⊢ wp frame (wpE (defs₀ (F := F)) Variants.none c none) Set.univ (bodyAt0 t) (fun _ => bodyPost m c t) := by
  by_cases ht : t.val < 16
  · by_cases h2 : t.val % 2 = 0
    · exact sound_first m c t ht h2
    · exact sound_next m c t ht h2
  · exact sound_sample m c t ht

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligation (dats (F := F) m 0 c) (defs₀ (F := F)) Variants.none () Set.univ := fun t => by
  rw [bigSep_W0, bigSep_W0, defs₀_row]
  exact triple_restated (sound_body m c t) rfl .rfl fun _ => .rfl

theorem inv_in (c : Dev nD) : Pipeline.ΦA (U := UR sig nD τ) (Val := Elt F) spec0 c ⊢ (dats m 0 c).Φ 0 := by
  rw [show (dats m 0 c).Φ 0 = inv m c 0 from rfl]
  unfold Pipeline.ΦA inv
  rw [scopedRest0_eq]
  simp only [owns_whole]
  iintro ⟨⟨⟨%f, Hf⟩, ⟨%g, Hg⟩⟩, Hr⟩
  isplitl [Hf]
  · iexists f; isplitr; · ipureintro; exact fun p hp => absurd hp (by show p.val + 1 ≠ 0; omega)
    iexact Hf
  isplitl [Hg]; · iexists g; iexact Hg
  iexact Hr

theorem inv_out (c : Dev nD) : (dats m 0 c).Φ (Fin.last cfg0.N) ⊢ Pipeline.ΦA (U := UR sig nD τ) (Val := Elt F) spec0 c := by
  rw [show (dats m 0 c).Φ (Fin.last cfg0.N) = inv m c (Fin.last cfg0.N) from rfl]
  unfold Pipeline.ΦA inv
  rw [scopedRest0_eq]
  simp only [owns_whole]
  iintro ⟨⟨%f, %hf, Hf⟩, ⟨%g, Hg⟩, Hr⟩
  isplitl [Hf Hg]
  · isplitl [Hf]; · iexists f; iexact Hf
    iexists g; iexact Hg
  iexact Hr

/-- What the launch leaves. -/
abbrev Post (r : PUnit × MemSt nD τ sig (Elt F)) : Prop :=
  Pipeline.FramePost cfgs (dats m) 0 (Pipeline.afterTail₀ cfgs (dats m) 0 (V0 m) [hostOps1]) r

set_option backward.isDefEq.respectTransparency.types false in
/-- The launch, with every counter back at zero. -/
theorem run_main : θ_run defs (onTc (τ := τ) (main (F := F))) (s₀ m ρ) (fun r => Post m r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m) (Q' := _) (hQ' := fun _ h => h)

end Cert.Even

end
-- ==== Proof.EvenOut.lean ====
/-
  The even layer's call: its four results are the reference's.
-/
module

public import proofs.«01_k».proof.Proof.EvenEquation
public import proofs.«01_k».proof.Proof.EvenRun
public import Idealize.ShloMosaic.Lib.Pipeline.ValueKit

@[expose] public section

set_option maxRecDepth 16384

noncomputable section

namespace Cert.Even

open Idealize.ShloMosaic Idealize.ShloMosaic.TcCoe Idealize.ShloMosaic.Tactic Idealize.SL.Sem
open Cert.EvenIdeal Cert.EvenIdeal.Gen
open Cert.EvenReferenceIdeal.Read
open Cert.FfnFinal (pair_eq)

variable (m : (ℓ : Loc nD τ sig) → Buf (Elt Ideal) ℓ) (c : Dev nD)

/-- The arguments. -/
abbrev A0 : Vec Ideal S17408x1024 .f32 := m ((c : Thread nD τ).loc main_arg0)
abbrev A1 : Vec Ideal S2x3x1024 .f32 := m ((c : Thread nD τ).loc main_arg1)
abbrev A2 : Vec Ideal S1x1024x2560 .f32 := m ((c : Thread nD τ).loc main_arg2)
abbrev A3 : Vec Ideal S1x512 .f32 := m ((c : Thread nD τ).loc main_arg3)
abbrev A4 : Vec Ideal S1x512 .f32 := m ((c : Thread nD τ).loc main_arg4)
abbrev A5 : Vec Ideal S1x4x128x128 .f32 := m ((c : Thread nD τ).loc main_arg5)
abbrev A6 : Vec Ideal S1x4x128 .f32 := m ((c : Thread nD τ).loc main_arg6)
abbrev A7 : Vec Ideal S1x3x512 .f32 := m ((c : Thread nD τ).loc main_arg7)
abbrev A8 : Vec Ideal S1x1024x1024 .f32 := m ((c : Thread nD τ).loc main_arg8)
abbrev A9 : Vec Ideal S1x128x2x512 .f32 := m ((c : Thread nD τ).loc main_arg9)

/-! The arrays that the call is given, in terms of the arguments. -/

theorem gain_at (k : Fin 1024) : (V m c main_v4 : Vec Ideal S6x1x1024 .f32) (ix3 1 0 k) = A1 m c (ix3 0 1 k) := by
  unfold V V0
  simp only [List.flatten_cons, List.flatten_nil, List.append_nil]
  after_results
  pointwise []

theorem win_at (k : Fin 1024) (j : Fin 2560) : (V m c main_v1 : Vec Ideal S1024x2560 .bf16) (ix2 k j) = A2 m c (ix3 0 k j) := by
  unfold V V0
  simp only [List.flatten_cons, List.flatten_nil, List.append_nil]
  after_results
  pointwise []

theorem lng_at (d : Fin 512) : (V m c main_v11 : Vec Ideal S1x512 .f32) (ix2 0 d) = A3 m c (ix2 0 d) := by
  unfold V V0
  simp only [List.flatten_cons, List.flatten_nil, List.append_nil]
  after_results
  pointwise []

theorem lnb_at (d : Fin 512) : (V m c main_v12 : Vec Ideal S1x512 .f32) (ix2 0 d) = A4 m c (ix2 0 d) := by
  unfold V V0
  simp only [List.flatten_cons, List.flatten_nil, List.append_nil]
  after_results
  pointwise []

theorem mixw_at (h : Fin 4) (t s : Fin 128) : (V m c main_v7 : Vec Ideal S4x128x128 .f32) (ix3 h t s) = A5 m c (ix4 0 h t s) := by
  unfold V V0
  simp only [List.flatten_cons, List.flatten_nil, List.append_nil]
  after_results
  pointwise []

theorem mixb_at (h : Fin 4) (t : Fin 128) : (V m c main_v8 : Vec Ideal S4x128 .f32) (ix2 h t) = A6 m c (ix3 0 h t) := by
  unfold V V0
  simp only [List.flatten_cons, List.flatten_nil, List.append_nil]
  after_results
  pointwise []

theorem conv_at (n : Fin 3) (d : Fin 512) : (V m c main_v9 : Vec Ideal S3x512 .f32) (ix2 n d) = A7 m c (ix3 0 n d) := by
  unfold V V0
  simp only [List.flatten_cons, List.flatten_nil, List.append_nil]
  after_results
  pointwise []

theorem wout_at (k n : Fin 1024) : (V m c main_v3 : Vec Ideal S1024x1024 .bf16) (ix2 k n) = A8 m c (ix3 0 k n) := by
  unfold V V0
  simp only [List.flatten_cons, List.flatten_nil, List.append_nil]
  after_results
  pointwise []

theorem state_at (b : Fin 128) (i : Fin 2) (d : Fin 512) : (V m c main_v10 : Vec Ideal S128x2x512 .f32) (ix3 b i d) = A9 m c (ix4 0 b i d) := by
  unfold V V0
  simp only [List.flatten_cons, List.flatten_nil, List.append_nil]
  after_results
  pointwise []

theorem index_0 : ∀ t : Fin grid0.N, win0_0.index t = ![t.val, 0] := by decide +kernel
theorem index_1 : ∀ t : Fin grid0.N, win0_1.index t = ![1, 0, 0] := by decide +kernel
theorem index_2 : ∀ t : Fin grid0.N, win0_2.index t = ![0, 0] := by decide +kernel
theorem index_3 : ∀ t : Fin grid0.N, win0_3.index t = ![0, 0] := by decide +kernel
theorem index_4 : ∀ t : Fin grid0.N, win0_4.index t = ![0, 0] := by decide +kernel
theorem index_5 : ∀ t : Fin grid0.N, win0_5.index t = ![0, 0, 0] := by decide +kernel
theorem index_6 : ∀ t : Fin grid0.N, win0_6.index t = ![0, 0] := by decide +kernel
theorem index_7 : ∀ t : Fin grid0.N, win0_7.index t = ![0, 0] := by decide +kernel
theorem index_8 : ∀ t : Fin grid0.N, win0_8.index t = ![0, 0] := by decide +kernel
theorem index_9 : ∀ t : Fin grid0.N, win0_9.index t = ![0, 0, 0] := by decide +kernel
theorem index_10 : ∀ t : Fin grid0.N, win0_10.index t = ![t.val, 0] := by decide +kernel
theorem index_11 : ∀ t : Fin grid0.N, win0_11.index t = ![min (t.val / 2) 7, 0, 0] := by decide +kernel

/-! The blocks at a point. -/

theorem block0_at (t : Fin cfg0.N) (r k : Fin 1024) :
    (iblk m c 0 t : Vec Ideal S1024x1024 .f32) (ix2 r k) = A0 m c (ix2 ⟨t.val * 1024 + r.val, by have := lt_of_lt_of_eq t.isLt N_0; omega⟩ k) := by
  refine Eq.trans ?_ (congrFun (V_main_arg0 m c) _)
  refine congrArg (V m c main_arg0) ?_
  funext a; apply Fin.ext; fin_cases a
  · blk_simp [index_0 t]; rfl
  · blk_simp [index_0 t]; rfl

theorem block1_at (t : Fin cfg0.N) (k : Fin 1024) : (iblk m c 1 t : Vec Ideal S1x1x1024 .f32) (ix3 0 0 k) = (V m c main_v4 : Vec Ideal S6x1x1024 .f32) (ix3 1 0 k) := by
  refine congrArg (V m c main_v4) ?_
  funext a; apply Fin.ext; fin_cases a
  · blk_simp [index_1 t]; rfl
  · blk_simp [index_1 t]
  · blk_simp [index_1 t]; rfl

theorem block2_at (t' : Fin cfg0.N) (k : Fin 1024) (j : Fin 2560) : (iblk m c 2 t' : Vec Ideal S1024x2560 .bf16) (ix2 k j) = (V m c main_v1 : Vec Ideal S1024x2560 .bf16) (ix2 k j) := by
  refine congrArg (V m c main_v1) ?_
  funext a; apply Fin.ext; fin_cases a
  · blk_simp [index_2 t']
  · blk_simp [index_2 t']

theorem block3_at (t' : Fin cfg0.N) (d : Fin 512) : (iblk m c 3 t' : Vec Ideal S1x512 .f32) (ix2 0 d) = (V m c main_v11 : Vec Ideal S1x512 .f32) (ix2 0 d) := by
  refine congrArg (V m c main_v11) ?_
  funext a; apply Fin.ext; fin_cases a
  · blk_simp [index_3 t']
  · blk_simp [index_3 t']

theorem block4_at (t' : Fin cfg0.N) (d : Fin 512) : (iblk m c 4 t' : Vec Ideal S1x512 .f32) (ix2 0 d) = (V m c main_v12 : Vec Ideal S1x512 .f32) (ix2 0 d) := by
  refine congrArg (V m c main_v12) ?_
  funext a; apply Fin.ext; fin_cases a
  · blk_simp [index_4 t']
  · blk_simp [index_4 t']

theorem block5_at (t' : Fin cfg0.N) (h : Fin 4) (t s : Fin 128) : (iblk m c 5 t' : Vec Ideal S4x128x128 .f32) (ix3 h t s) = (V m c main_v7 : Vec Ideal S4x128x128 .f32) (ix3 h t s) := by
  refine congrArg (V m c main_v7) ?_
  funext a; apply Fin.ext; fin_cases a
  · blk_simp [index_5 t']
  · blk_simp [index_5 t']
  · blk_simp [index_5 t']

theorem block6_at (t' : Fin cfg0.N) (h : Fin 4) (t : Fin 128) : (iblk m c 6 t' : Vec Ideal S4x128 .f32) (ix2 h t) = (V m c main_v8 : Vec Ideal S4x128 .f32) (ix2 h t) := by
  refine congrArg (V m c main_v8) ?_
  funext a; apply Fin.ext; fin_cases a
  · blk_simp [index_6 t']
  · blk_simp [index_6 t']

theorem block7_at (t' : Fin cfg0.N) (n : Fin 3) (d : Fin 512) : (iblk m c 7 t' : Vec Ideal S3x512 .f32) (ix2 n d) = (V m c main_v9 : Vec Ideal S3x512 .f32) (ix2 n d) := by
  refine congrArg (V m c main_v9) ?_
  funext a; apply Fin.ext; fin_cases a
  · blk_simp [index_7 t']
  · blk_simp [index_7 t']

theorem block8_at (t' : Fin cfg0.N) (k n : Fin 1024) : (iblk m c 8 t' : Vec Ideal S1024x1024 .bf16) (ix2 k n) = (V m c main_v3 : Vec Ideal S1024x1024 .bf16) (ix2 k n) := by
  refine congrArg (V m c main_v3) ?_
  funext a; apply Fin.ext; fin_cases a
  · blk_simp [index_8 t']
  · blk_simp [index_8 t']

theorem block9_at (t' : Fin cfg0.N) (b : Fin 128) (i : Fin 2) (d : Fin 512) : (iblk m c 9 t' : Vec Ideal S128x2x512 .f32) (ix3 b i d) = (V m c main_v10 : Vec Ideal S128x2x512 .f32) (ix3 b i d) := by
  refine congrArg (V m c main_v10) ?_
  funext a; apply Fin.ext; fin_cases a
  · blk_simp [index_9 t']
  · blk_simp [index_9 t']
  · blk_simp [index_9 t']

/-- What every tile is given beside its tokens. -/
theorem given (t : Fin cfg0.N) : Given (A1 m c) (A2 m c) (A3 m c) (A4 m c) (A5 m c) (A6 m c) (A7 m c) (A8 m c) (A9 m c)
    (iblk m c 1 t) (iblk m c 2 t) (iblk m c 3 t) (iblk m c 4 t) (iblk m c 5 t) (iblk m c 6 t) (iblk m c 7 t) (iblk m c 8 t) (iblk m c 9 t) where
  gain k := (block1_at m c t k).trans (gain_at m c k)
  win k j := (block2_at m c t k j).trans (win_at m c k j)
  lng d := (block3_at m c t d).trans (lng_at m c d)
  lnb d := (block4_at m c t d).trans (lnb_at m c d)
  mixw h i j := (block5_at m c t h i j).trans (mixw_at m c h i j)
  mixb h i := (block6_at m c t h i).trans (mixb_at m c h i)
  conv n d := (block7_at m c t n d).trans (conv_at m c n d)
  wout k n := (block8_at m c t k n).trans (wout_at m c k n)
  state b i d := (block9_at m c t b i d).trans (state_at m c b i d)

theorem prompt_tokens (t : Fin cfg0.N) (ht : t.val < 16) (r k : Fin 1024) :
    (iblk m c 0 t : Vec Ideal S1024x1024 .f32) (ix2 r k)
      = A0 m c (ix2 ⟨(⟨t.val / 2, by omega⟩ : Fin 8).val * 2048 + ((⟨t.val % 2, by omega⟩ : Fin 2).val * 1024 + r.val), prompt_bound _ _ r⟩ k) := by
  refine (block0_at m c t r k).trans (congrArg (fun q => A0 m c (ix2 q k)) (Fin.ext ?_))
  show t.val * 1024 + r.val = t.val / 2 * 2048 + (t.val % 2 * 1024 + r.val)
  omega

theorem sample_tokens (t : Fin cfg0.N) (ht : ¬ t.val < 16) (r k : Fin 1024) :
    (iblk m c 0 t : Vec Ideal S1024x1024 .f32) (ix2 r k) = A0 m c (ix2 ⟨16384 + r.val, sample_bound r⟩ k) := by
  have h17 : t.val < 17 := lt_of_lt_of_eq t.isLt N_0
  refine (block0_at m c t r k).trans (congrArg (fun q => A0 m c (ix2 q k)) (Fin.ext ?_))
  show t.val * 1024 + r.val = 16384 + r.val
  omega

theorem zeros_at (q : Fin 8) (d : Fin 512) : (k0_pay4 (F := Ideal)) (ix2 q d) = 0 := by
  pointwise [k0_pay4]

theorem prior_even (t : Fin cfg0.N) (h : t.val % 2 = 0) (q : Fin 8) (d : Fin 512) : priorAt m c t (ix2 q d) = 0 := by
  rw [prior_first m c t h, View.readCov_cons_toLoadRect]
  exact zeros_at q d

theorem prior_odd (t : Fin cfg0.N) (ht : t.val < 16) (h : t.val % 2 = 1) (q : Fin 8) (d : Fin 512) :
    priorAt m c t (ix2 q d) = val_main_v77 (F := Ideal) (A0 m c) (A1 m c) (A2 m c) (ix3 ⟨t.val / 2, by omega⟩ ⟨1016 + q.val, by omega⟩ d) := by
  unfold priorAt
  rw [if_neg (by omega), View.ld_unit_zero (by funext a; fin_cases a <;> rfl)]
  have hp : (prevPt t).val < 16 := by show t.val - 1 < 16; omega
  refine (pCarry_at _ _ _ q d).trans ((cross_prompt (given m c (prevPt t)) ⟨(prevPt t).val / 2, by omega⟩ ⟨(prevPt t).val % 2, by omega⟩
    (prompt_tokens m c (prevPt t) hp) ⟨1016 + q.val, by omega⟩ d).trans ?_)
  refine congrArg₂ (fun i j => val_main_v77 (F := Ideal) (A0 m c) (A1 m c) (A2 m c) (ix3 i j d)) (Fin.ext ?_) (Fin.ext ?_)
  · show (t.val - 1) / 2 = t.val / 2; omega
  · show (t.val - 1) % 2 * 1024 + (1016 + q.val) = 1016 + q.val; omega

/-- A row of the tokens that a point computes is the reference's. -/
theorem tokens_at (t : Fin cfg0.N) (r n : Fin 1024) :
    tokensAt m c t (ix2 r n) = val_main_v189 (F := Ideal) (A0 m c) (A1 m c) (A2 m c) (A3 m c) (A4 m c) (A5 m c) (A6 m c) (A7 m c) (A8 m c) (A9 m c)
      (ix2 ⟨t.val * 1024 + r.val, by have := lt_of_lt_of_eq t.isLt N_0; omega⟩ n) := by
  have h17 : t.val < 17 := lt_of_lt_of_eq t.isLt N_0
  unfold tokensAt
  by_cases ht : t.val < 16
  · rw [if_pos ht]
    refine (pOut_at ..).trans ((out_prompt (given m c t) ⟨t.val / 2, by omega⟩ ⟨t.val % 2, by omega⟩ (prompt_tokens m c t ht) _
      (fun h q d => prior_even m c t h q d) (fun h q d => prior_odd m c t ht h q d) r n).trans ?_)
    refine congrArg (fun q => val_main_v189 (F := Ideal) (A0 m c) (A1 m c) (A2 m c) (A3 m c) (A4 m c) (A5 m c) (A6 m c) (A7 m c) (A8 m c) (A9 m c) (ix2 q n)) (Fin.ext ?_)
    show t.val / 2 * 2048 + (t.val % 2 * 1024 + r.val) = t.val * 1024 + r.val
    omega
  · rw [if_neg ht]
    refine (sOut_at ..).trans ((out_sample (given m c t) (sample_tokens m c t ht) r n).trans ?_)
    refine congrArg (fun q => val_main_v189 (F := Ideal) (A0 m c) (A1 m c) (A2 m c) (A3 m c) (A4 m c) (A5 m c) (A6 m c) (A7 m c) (A8 m c) (A9 m c) (ix2 q n)) (Fin.ext ?_)
    show 16384 + r.val = t.val * 1024 + r.val
    omega

/-- The first result: the tokens after the layer. -/
theorem tokens_eq : (dats m 0 c).arrAt 10 cfg0.N
    = val_main_v189 (F := Ideal) (A0 m c) (A1 m c) (A2 m c) (A3 m c) (A4 m c) (A5 m c) (A6 m c) (A7 m c) (A8 m c) (A9 m c) := by
  refine Pipeline.Dat.arrAt_eq_of_covers (cfg := cfg0) _ 10 _ (by decide +kernel) fun t hf y => ?_
  blk_simp
  rw [after_10]
  rw [pair_eq (n0 := 1024) (n1 := 1024) y]
  refine (tokens_at m c t (y 0) (y 1)).trans ?_
  refine congrArg (val_main_v189 (F := Ideal) (A0 m c) (A1 m c) (A2 m c) (A3 m c) (A4 m c) (A5 m c) (A6 m c) (A7 m c) (A8 m c) (A9 m c)) ?_
  funext a; apply Fin.ext; fin_cases a
  · blk_simp [index_10 t]; rfl
  · blk_simp [index_10 t]; rfl

/-! The states. -/

/-- The last eight rows of each sequence, as the call leaves them. -/
def lastRows : Vec Ideal S8x8x512 .f32 := fun y =>
  val_main_v77 (F := Ideal) (A0 m c) (A1 m c) (A2 m c) (ix3 (y 0) ⟨2040 + (y 1).val, by have h : (y 1).val < 8 := (y 1).isLt; omega⟩ (y 2))

theorem lastRows_at (b : Fin 8) (q : Fin 8) (d : Fin 512) : lastRows m c (ix3 b q d)
    = val_main_v77 (F := Ideal) (A0 m c) (A1 m c) (A2 m c) (ix3 b ⟨2040 + q.val, by omega⟩ d) := rfl

theorem promptState_at (t : Fin cfg0.N) (ht : t.val < 16) (h : t.val % 2 = 1) (q : Fin 8) (d : Fin 512) :
    promptState m c t (ix3 0 q d) = lastRows m c (ix3 ⟨t.val / 2, by omega⟩ q d) := by
  refine (pState_at _ _ _ q d).trans ((cross_prompt (given m c t) ⟨t.val / 2, by omega⟩ ⟨t.val % 2, by omega⟩
    (prompt_tokens m c t ht) ⟨1016 + q.val, by omega⟩ d).trans ?_)
  rw [lastRows_at]
  refine congrArg (fun j => val_main_v77 (F := Ideal) (A0 m c) (A1 m c) (A2 m c) (ix3 _ j d)) (Fin.ext ?_)
  show t.val % 2 * 1024 + (1016 + q.val) = 2040 + q.val
  omega

theorem lastRows_eq : (dats m 0 c).arrAt 11 cfg0.N = lastRows m c := by
  refine Pipeline.Dat.arrAt_eq_of_covers (cfg := cfg0) _ 11 _ (by decide +kernel) fun t hf y => ?_
  have h17 : t.val < 17 := lt_of_lt_of_eq t.isLt N_0
  have hf' : t.val % 2 = 1 ∧ t.val < 15 ∨ t.val = 16 := of_decide_eq_true ((flush_11 t).symm.trans hf)
  blk_simp
  rw [after_11]
  have hy : y = ix3 (0 : Fin 1) (y 1) (y 2) := by
    funext a
    fin_cases a
    · exact Subsingleton.elim (α := Fin 1) _ _
    · rfl
    · rfl
  rw [hy]
  refine (promptState_at m c (promptPt t) (by show min t.val 15 < 16; omega) (by show min t.val 15 % 2 = 1; omega) (y 1) (y 2)).trans ?_
  refine congrArg (lastRows m c) ?_
  funext a; apply Fin.ext; fin_cases a
  · blk_simp [index_11 t]
    show min t.val 15 / 2 = min (t.val / 2) 7
    omega
  · blk_simp [index_11 t]; rfl
  · blk_simp [index_11 t]; rfl

theorem sampleState_at (t : Fin cfg0.N) (ht : ¬ t.val < 16) (b : Fin 128) (i : Fin 2) (d : Fin 512) :
    sampleState m c t (ix3 b i d) = val_main_v185 (F := Ideal) (A0 m c) (A1 m c) (A2 m c) (A9 m c) (ix3 b i d) := by
  refine (sState_at (iblk m c 0 t) (iblk m c 1 t) (iblk m c 2 t) (iblk m c 9 t) (Memref.whole cc0_scratch1) (ix3 b i d)).trans
    ((cross_sample (given m c t) (sample_tokens m c t ht) ⟨b.val * 8 + (6 + i.val), by omega⟩ d).trans ?_)
  rw [Ref.stateS]
  refine congrArg₂ (fun b q => val_main_v160 (F := Ideal) (A0 m c) (A1 m c) (A2 m c) (ix3 b q d)) (Fin.ext ?_) (Fin.ext ?_)
  · show (b.val * 8 + (6 + i.val)) / 8 = b.val; omega
  · show (b.val * 8 + (6 + i.val)) % 8 = 6 + i.val; omega

/-- The third result: the samples' state. -/
theorem sampleState_eq : (dats m 0 c).arrAt 12 cfg0.N = val_main_v185 (F := Ideal) (A0 m c) (A1 m c) (A2 m c) (A9 m c) := by
  refine Pipeline.Dat.arrAt_eq_of_after_last (cfg := cfg0) _ 12 ⟨16, by decide⟩ (by decide +kernel) _ fun j => ?_
  rw [after_12]
  have hj : j = ix3 (n0 := 128) (n1 := 2) (n2 := 512) (j 0) (j 1) (j 2) := by
    funext a
    fin_cases a <;> rfl
  refine Eq.trans (congrArg (sampleState m c ⟨16, by decide⟩) hj) ?_
  exact (sampleState_at m c ⟨16, by decide⟩ (by decide) (j 0) (j 1) (j 2)).trans
    (congrArg (val_main_v185 (F := Ideal) (A0 m c) (A1 m c) (A2 m c) (A9 m c)) hj.symm)

/-- The fourth: the samples' gates. -/
theorem sampleGate_eq : (dats m 0 c).arrAt 13 cfg0.N = val_main_v190 (F := Ideal) (A0 m c) (A1 m c) (A2 m c) (A3 m c) (A4 m c) := by
  refine Pipeline.Dat.arrAt_eq_of_after_last (cfg := cfg0) _ 13 ⟨16, by decide⟩ (by decide +kernel) _ fun j => ?_
  rw [after_13]
  have h0 : (j 0).val < 1024 := (j 0).isLt
  have hj : j = ix2 (n0 := 1024) (n1 := 512) ⟨(j 0).val / 8 * 8 + (j 0).val % 8, by omega⟩ (j 1) := by
    funext a
    fin_cases a
    · exact Fin.ext (by show (j 0).val = (j 0).val / 8 * 8 + (j 0).val % 8; omega)
    · rfl
  refine Eq.trans (congrArg (sampleGate m c ⟨16, by decide⟩) (pair_eq (n0 := 1024) (n1 := 512) j)) ?_
  refine (sGate_at _ _ _ _ _ (j 0) (j 1)).trans ((gate_sample (given m c ⟨16, by decide⟩) (sample_tokens m c ⟨16, by decide⟩ (by decide)) _ _).trans ?_)
  exact (Ref.gateRowsS (A0 m c) (A1 m c) (A2 m c) (A3 m c) (A4 m c) ⟨(j 0).val / 8, by omega⟩ ⟨(j 0).val % 8, by omega⟩ (j 1)).symm.trans
    (congrArg (val_main_v190 (F := Ideal) (A0 m c) (A1 m c) (A2 m c) (A3 m c) (A4 m c)) hj.symm)

/-- The second, cut from the last rows: the sequences' state. -/
theorem promptState_eq : Pipeline.afterTail₀ cfgs (dats m) 0 (V0 m) [hostOps1] c main_v14
    = val_main_v102 (F := Ideal) (A0 m c) (A1 m c) (A2 m c) := by
  have e : Pipeline.afterTail₀ cfgs (dats m) 0 (V0 m) [hostOps1] c main_v14
      = (extractStridedSlice S8x2x512 ![0, 6, 0] (lastRows m c) slices_S8x8x512_S8x2x512_0_6_0 : Vec Ideal S8x2x512 .f32) := by
    unfold Pipeline.afterTail₀
    simp only [hostOps1, List.flatten_cons, List.flatten_nil, List.append_nil]
    after_results
    refine congrArg (fun x : Vec Ideal S8x8x512 .f32 => (extractStridedSlice S8x2x512 ![0, 6, 0] x slices_S8x8x512_S8x2x512_0_6_0 : Vec Ideal S8x2x512 .f32)) ?_
    exact (Pipeline.withArrays_arr spec0 launch0.win.arr_inj c (V0 m c) _ 11).trans (lastRows_eq m c)
  rw [e]
  funext y
  have hy : y = ix3 (n0 := 8) (n1 := 2) (n2 := 512) (y 0) (y 1) (y 2) := by
    funext a
    fin_cases a <;> rfl
  rw [hy]
  refine Eq.trans ?_ (Ref.stateP (A0 m c) (A1 m c) (A2 m c) (y 0) (y 1) (y 2)).symm
  have s : (extractStridedSlice S8x2x512 ![0, 6, 0] (lastRows m c) slices_S8x8x512_S8x2x512_0_6_0 : Vec Ideal S8x2x512 .f32) (ix3 (y 0) (y 1) (y 2))
      = lastRows m c (ix3 (y 0) ⟨6 + (y 1).val, by have h : (y 1).val < 2 := (y 1).isLt; omega⟩ (y 2)) := by
    pointwise []
  refine s.trans ((lastRows_at m c (y 0) _ (y 2)).trans ?_)
  refine congrArg (fun q => val_main_v77 (F := Ideal) (A0 m c) (A1 m c) (A2 m c) (ix3 (y 0) q (y 2))) (Fin.ext ?_)
  show 2040 + (6 + (y 1).val) = 2046 + (y 1).val
  omega

end Cert.Even

end
-- ==== Proof.lean ====
/- The claims on the three calls, assembled from their runs, their references' runs and the equations of their results:
   the final feed-forward call (`Proof/Run.lean`, `Proof/Equation.lean`), the middle one (`Proof/FfnOut.lean`) and the
   first layer's mixer (`Proof/EvenRun.lean`, `Proof/EvenOut.lean`). -/
module

public import proofs.«01_k».proof.Proof.Equation
public import proofs.«01_k».proof.Proof.FfnOut
public import proofs.«01_k».proof.Proof.EvenOut
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.Even
public import proofs.«01_k».proof.Proof.Gen.Even.Skeleton
public import proofs.«01_k».proof.Proof.Gen.Even.Launch
public import proofs.«01_k».proof.Proof.Gen.Even.Points
public import proofs.«01_k».proof.Proof.Gen.Even.Frame
public import proofs.«01_k».proof.Proof.Gen.EvenIdeal
public import proofs.«01_k».proof.Proof.Gen.EvenIdeal.Skeleton
public import proofs.«01_k».proof.Proof.Gen.EvenIdeal.Launch
public import proofs.«01_k».proof.Proof.Gen.EvenIdeal.Points
public import proofs.«01_k».proof.Proof.Gen.EvenIdeal.Frame
public import proofs.«01_k».proof.Proof.Gen.EvenReferenceIdeal
public import proofs.«01_k».proof.Proof.Gen.EvenReferenceIdeal.Run
public import proofs.«01_k».proof.Proof.Gen.EvenReferenceIdeal.Read
public import proofs.«01_k».proof.Proof.Gen.FfnReferenceIdeal
public import proofs.«01_k».proof.Proof.Gen.FfnReferenceIdeal.Run
public import proofs.«01_k».proof.Proof.Gen.FfnReferenceIdeal.Read
public import Idealize.ShloMosaic.Adequacy
public import Idealize.ShloMosaic.Init

@[expose] public section

noncomputable section

namespace Cert.Proof

open Idealize.ShloMosaic Idealize.SL.Sem

/-- The kernel's frame, over any float values: the program read at the machine's and at the ideal instance is one text. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) :=
  (θ_run Cert.KernelIdeal.defs _ _).mono (fun _ h => ⟨fun c => Cert.FfnFinal.unchanged m h.1 c, h.2⟩) (Cert.FfnFinal.run_main m ρ)

theorem frame_kernel : Cert.quiescent_Kernel := by
  intro m ρ _
  refine Eq.mp ?_ (frame_any (F := Bits) m ρ)
  sl_kernel_rfl

theorem frame_ideal : Cert.quiescent_KernelIdeal := fun m ρ _ => frame_any (F := Ideal) m ρ

theorem frame_reference : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run m ρ)

theorem equal : Cert.algebraic_KernelIdeal_ReferenceIdeal := by
  intro m ρ m' ρ' _ hargs
  refine ⟨Cert.FfnFinal.out0 m, Cert.FfnFinal.out1 m,
    (θ_run Cert.KernelIdeal.defs _ _).mono
      (fun _ h c => ⟨Cert.FfnFinal.result0 m h.1 c, Cert.FfnFinal.result1 m h.1 c, Cert.FfnFinal.unchanged m h.1 c⟩)
      (Cert.FfnFinal.run_main m ρ),
    (θ_run Cert.ReferenceIdeal.defs _ _).mono (fun _ h c => ⟨?_, ?_, (h c).2.2⟩) (Cert.ReferenceIdeal.Value.run m' ρ')⟩
  · refine ((h c).1.trans (Cert.ReferenceIdeal.Read.val_main_v42_eq m' c)).trans ?_
    obtain ⟨h0, h1, h2, h3, h4, h5⟩ := hargs c
    rw [h0, h1, h2, h3, h4, h5]
    exact (Cert.FfnFinal.out0_eq m c).symm
  · refine ((h c).2.1.trans (Cert.ReferenceIdeal.Read.val_main_v43_eq m' c)).trans ?_
    obtain ⟨h0, h1, h2, h3, h4, h5⟩ := hargs c
    rw [h0, h1, h2, h3, h4, h5]
    exact (Cert.FfnFinal.out1_eq m c).symm

/-! The middle feed-forward call. -/

theorem frame_reference_ffn : Cert.quiescent_FfnReferenceIdeal := fun m ρ _ =>
  (θ_run Cert.FfnReferenceIdeal.defs _ _).mono
    (fun r h => ⟨fun c => (h c).2.2.2.2, sem_eq_zero_of_no_sems (by decide) r.2⟩) (Cert.FfnReferenceIdeal.Value.run m ρ)

theorem equal_ffn : Cert.algebraic_FfnIdeal_FfnReferenceIdeal := by
  intro m ρ m' ρ' _ hargs
  refine ⟨fun c => (Cert.FfnIdeal.Gen.dats m 0 c).arrAt 8 Cert.FfnIdeal.cfg0.N, fun c => (Cert.FfnIdeal.Gen.dats m 0 c).arrAt 9 Cert.FfnIdeal.cfg0.N,
    fun c => (Cert.FfnIdeal.Gen.dats m 0 c).arrAt 10 Cert.FfnIdeal.cfg0.N, fun c => (Cert.FfnIdeal.Gen.dats m 0 c).arrAt 11 Cert.FfnIdeal.cfg0.N,
    Cert.FfnIdeal.Value.run_blocks m ρ,
    (θ_run Cert.FfnReferenceIdeal.defs _ _).mono (fun _ h c => ⟨?_, ?_, ?_, ?_, (h c).2.2.2.2⟩) (Cert.FfnReferenceIdeal.Value.run m' ρ')⟩
  · refine ((h c).1.trans (Cert.FfnReferenceIdeal.Read.val_main_v28_eq _ _ _ _ _)).trans ?_
    obtain ⟨h0, h1, h2, h3, h4⟩ := hargs c
    rw [h0, h1, h2, h3, h4]
    exact (Cert.FfnMid.first_eq m c).symm
  · refine ((h c).2.1.trans (Cert.FfnReferenceIdeal.Read.val_main_v31_eq _)).trans ?_
    rw [(hargs c).2.2.1]
    exact (Cert.FfnMid.next2_eq m c).symm
  · refine ((h c).2.2.1.trans (Cert.FfnReferenceIdeal.Read.val_main_v34_eq _)).trans ?_
    rw [(hargs c).2.2.2.1]
    exact (Cert.FfnMid.next3_eq m c).symm
  · refine ((h c).2.2.2.1.trans (Cert.FfnReferenceIdeal.Read.val_main_v37_eq _)).trans ?_
    rw [(hargs c).2.2.2.2]
    exact (Cert.FfnMid.next4_eq m c).symm

/-! The first layer's mixer. -/

/-- The call of the first layer's mixer leaves its arguments as they were. -/
theorem unchanged_even {F : FTy → Type} [FloatOps F] (m : (ℓ : Loc Cert.EvenIdeal.nD Cert.EvenIdeal.τ Cert.EvenIdeal.sig) → Buf (Elt F) ℓ)
    {r : PUnit × MemSt Cert.EvenIdeal.nD Cert.EvenIdeal.τ Cert.EvenIdeal.sig (Elt F)} (h : Cert.Even.Post m r) (c : Dev Cert.EvenIdeal.nD) :
    r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
    ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
    ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
    ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
    ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
    ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
    ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
    ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7)
    ∧ r.2.mem ((c.tc : Thread Cert.EvenIdeal.nD Cert.EvenIdeal.τ).loc Cert.EvenIdeal.main_arg8) = m ((c.tc : Thread Cert.EvenIdeal.nD Cert.EvenIdeal.τ).loc Cert.EvenIdeal.main_arg8)
    ∧ r.2.mem ((c.tc : Thread Cert.EvenIdeal.nD Cert.EvenIdeal.τ).loc Cert.EvenIdeal.main_arg9) = m ((c.tc : Thread Cert.EvenIdeal.nD Cert.EvenIdeal.τ).loc Cert.EvenIdeal.main_arg9) :=
  ⟨((h c).1 0).trans (((Cert.Even.dats m 0 c).arrAt_in 0 rfl _).trans ((Cert.Even.A_eq m c 0).trans (Cert.EvenIdeal.Gen.V_main_arg0 m c))),
    (((h c).2 Cert.EvenIdeal.main_arg1 (Pipeline.mem_restRefs_of Cert.EvenIdeal.main_arg1 (by decide) (by decide)))).trans (Cert.EvenIdeal.Gen.W_main_arg1 m (Cert.Even.dats m) c),
    (((h c).2 Cert.EvenIdeal.main_arg2 (Pipeline.mem_restRefs_of Cert.EvenIdeal.main_arg2 (by decide) (by decide)))).trans (Cert.EvenIdeal.Gen.W_main_arg2 m (Cert.Even.dats m) c),
    (((h c).2 Cert.EvenIdeal.main_arg3 (Pipeline.mem_restRefs_of Cert.EvenIdeal.main_arg3 (by decide) (by decide)))).trans (Cert.EvenIdeal.Gen.W_main_arg3 m (Cert.Even.dats m) c),
    (((h c).2 Cert.EvenIdeal.main_arg4 (Pipeline.mem_restRefs_of Cert.EvenIdeal.main_arg4 (by decide) (by decide)))).trans (Cert.EvenIdeal.Gen.W_main_arg4 m (Cert.Even.dats m) c),
    (((h c).2 Cert.EvenIdeal.main_arg5 (Pipeline.mem_restRefs_of Cert.EvenIdeal.main_arg5 (by decide) (by decide)))).trans (Cert.EvenIdeal.Gen.W_main_arg5 m (Cert.Even.dats m) c),
    (((h c).2 Cert.EvenIdeal.main_arg6 (Pipeline.mem_restRefs_of Cert.EvenIdeal.main_arg6 (by decide) (by decide)))).trans (Cert.EvenIdeal.Gen.W_main_arg6 m (Cert.Even.dats m) c),
    (((h c).2 Cert.EvenIdeal.main_arg7 (Pipeline.mem_restRefs_of Cert.EvenIdeal.main_arg7 (by decide) (by decide)))).trans (Cert.EvenIdeal.Gen.W_main_arg7 m (Cert.Even.dats m) c),
    (((h c).2 Cert.EvenIdeal.main_arg8 (Pipeline.mem_restRefs_of Cert.EvenIdeal.main_arg8 (by decide) (by decide)))).trans (Cert.EvenIdeal.Gen.W_main_arg8 m (Cert.Even.dats m) c),
    (((h c).2 Cert.EvenIdeal.main_arg9 (Pipeline.mem_restRefs_of Cert.EvenIdeal.main_arg9 (by decide) (by decide)))).trans (Cert.EvenIdeal.Gen.W_main_arg9 m (Cert.Even.dats m) c)⟩

/-- Its frame, over any float values. -/
theorem frame_even_any {F : FTy → Type} [FloatOps F] (m : (ℓ : Loc Cert.EvenIdeal.nD Cert.EvenIdeal.τ Cert.EvenIdeal.sig) → Buf (Elt F) ℓ)
    (ρ : Dev Cert.EvenIdeal.nD → PrngReg) :
    θ_run (Cert.EvenIdeal.defs (F := F)) (onTc (τ := Cert.EvenIdeal.τ) (Cert.EvenIdeal.main (F := F))) ⟨m, fun _ => 0, ρ⟩ (fun r =>
      (∀ c : Dev Cert.EvenIdeal.nD,
        r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
        ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
        ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
        ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
        ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
        ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
        ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
        ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7)
        ∧ r.2.mem ((c.tc : Thread Cert.EvenIdeal.nD Cert.EvenIdeal.τ).loc Cert.EvenIdeal.main_arg8) = m ((c.tc : Thread Cert.EvenIdeal.nD Cert.EvenIdeal.τ).loc Cert.EvenIdeal.main_arg8)
        ∧ r.2.mem ((c.tc : Thread Cert.EvenIdeal.nD Cert.EvenIdeal.τ).loc Cert.EvenIdeal.main_arg9) = m ((c.tc : Thread Cert.EvenIdeal.nD Cert.EvenIdeal.τ).loc Cert.EvenIdeal.main_arg9))
      ∧ r.2.sem = fun _ => 0) :=
  (θ_run Cert.EvenIdeal.defs _ _).mono (fun _ h => ⟨fun c => unchanged_even m h.1 c, h.2⟩) (Cert.Even.run_main m ρ)

theorem frame_even : Cert.quiescent_Even := by
  intro m ρ _
  refine Eq.mp ?_ (frame_even_any (F := Bits) m ρ)
  sl_kernel_rfl

theorem frame_even_ideal : Cert.quiescent_EvenIdeal := fun m ρ _ => frame_even_any (F := Ideal) m ρ

theorem frame_reference_even : Cert.quiescent_EvenReferenceIdeal := fun m ρ _ =>
  (θ_run Cert.EvenReferenceIdeal.defs _ _).mono
    (fun r h => ⟨fun c => (h c).2.2.2.2, sem_eq_zero_of_no_sems (by decide) r.2⟩) (Cert.EvenReferenceIdeal.Value.run m ρ)

theorem equal_even : Cert.algebraic_EvenIdeal_EvenReferenceIdeal := by
  intro m ρ m' ρ' _ hargs
  refine ⟨fun c => (Cert.Even.dats m 0 c).arrAt 10 Cert.EvenIdeal.cfg0.N,
    fun c => Pipeline.afterTail₀ Cert.EvenIdeal.cfgs (Cert.Even.dats m) 0 (Cert.EvenIdeal.Gen.V0 m) [Cert.EvenIdeal.Gen.hostOps1] c Cert.EvenIdeal.main_v14,
    fun c => (Cert.Even.dats m 0 c).arrAt 12 Cert.EvenIdeal.cfg0.N, fun c => (Cert.Even.dats m 0 c).arrAt 13 Cert.EvenIdeal.cfg0.N,
    (θ_run Cert.EvenIdeal.defs _ _).mono
      (fun _ h c => ⟨(h.1 c).1 10, (h.1 c).2 Cert.EvenIdeal.main_v14 (Pipeline.mem_restRefs_of Cert.EvenIdeal.main_v14 (by decide) (by decide)),
        (h.1 c).1 12, (h.1 c).1 13, unchanged_even m h.1 c⟩)
      (Cert.Even.run_main m ρ),
    (θ_run Cert.EvenReferenceIdeal.defs _ _).mono (fun _ h c => ⟨?_, ?_, ?_, ?_, (h c).2.2.2.2⟩) (Cert.EvenReferenceIdeal.Value.run m' ρ')⟩
  · refine ((h c).1.trans (Cert.EvenReferenceIdeal.Read.val_main_v189_eq (StableHlo.launchContents m' c))).trans ?_
    obtain ⟨h0, h1, h2, h3, h4, h5, h6, h7, h8, h9⟩ := hargs c
    refine Eq.trans ?_ (Cert.Even.tokens_eq m c).symm
    change Cert.EvenReferenceIdeal.Read.val_main_v189 (F := Ideal) (m' ((c.tc : Thread Cert.EvenReferenceIdeal.nD Cert.EvenReferenceIdeal.τ).loc Cert.EvenReferenceIdeal.main_arg0)) (m' ((c.tc : Thread Cert.EvenReferenceIdeal.nD Cert.EvenReferenceIdeal.τ).loc Cert.EvenReferenceIdeal.main_arg1)) (m' ((c.tc : Thread Cert.EvenReferenceIdeal.nD Cert.EvenReferenceIdeal.τ).loc Cert.EvenReferenceIdeal.main_arg2)) (m' ((c.tc : Thread Cert.EvenReferenceIdeal.nD Cert.EvenReferenceIdeal.τ).loc Cert.EvenReferenceIdeal.main_arg3)) (m' ((c.tc : Thread Cert.EvenReferenceIdeal.nD Cert.EvenReferenceIdeal.τ).loc Cert.EvenReferenceIdeal.main_arg4)) (m' ((c.tc : Thread Cert.EvenReferenceIdeal.nD Cert.EvenReferenceIdeal.τ).loc Cert.EvenReferenceIdeal.main_arg5)) (m' ((c.tc : Thread Cert.EvenReferenceIdeal.nD Cert.EvenReferenceIdeal.τ).loc Cert.EvenReferenceIdeal.main_arg6)) (m' ((c.tc : Thread Cert.EvenReferenceIdeal.nD Cert.EvenReferenceIdeal.τ).loc Cert.EvenReferenceIdeal.main_arg7)) (m' ((c.tc : Thread Cert.EvenReferenceIdeal.nD Cert.EvenReferenceIdeal.τ).loc Cert.EvenReferenceIdeal.main_arg8)) (m' ((c.tc : Thread Cert.EvenReferenceIdeal.nD Cert.EvenReferenceIdeal.τ).loc Cert.EvenReferenceIdeal.main_arg9)) = _
    rw [h0, h1, h2, h3, h4, h5, h6, h7, h8, h9]
  · refine ((h c).2.1.trans (Cert.EvenReferenceIdeal.Read.val_main_v102_eq (StableHlo.launchContents m' c))).trans ?_
    obtain ⟨h0, h1, h2, h3, h4, h5, h6, h7, h8, h9⟩ := hargs c
    refine Eq.trans ?_ (Cert.Even.promptState_eq m c).symm
    change Cert.EvenReferenceIdeal.Read.val_main_v102 (F := Ideal) (m' ((c.tc : Thread Cert.EvenReferenceIdeal.nD Cert.EvenReferenceIdeal.τ).loc Cert.EvenReferenceIdeal.main_arg0)) (m' ((c.tc : Thread Cert.EvenReferenceIdeal.nD Cert.EvenReferenceIdeal.τ).loc Cert.EvenReferenceIdeal.main_arg1)) (m' ((c.tc : Thread Cert.EvenReferenceIdeal.nD Cert.EvenReferenceIdeal.τ).loc Cert.EvenReferenceIdeal.main_arg2)) = _
    rw [h0, h1, h2]
  · refine ((h c).2.2.1.trans (Cert.EvenReferenceIdeal.Read.val_main_v185_eq (StableHlo.launchContents m' c))).trans ?_
    obtain ⟨h0, h1, h2, h3, h4, h5, h6, h7, h8, h9⟩ := hargs c
    refine Eq.trans ?_ (Cert.Even.sampleState_eq m c).symm
    change Cert.EvenReferenceIdeal.Read.val_main_v185 (F := Ideal) (m' ((c.tc : Thread Cert.EvenReferenceIdeal.nD Cert.EvenReferenceIdeal.τ).loc Cert.EvenReferenceIdeal.main_arg0)) (m' ((c.tc : Thread Cert.EvenReferenceIdeal.nD Cert.EvenReferenceIdeal.τ).loc Cert.EvenReferenceIdeal.main_arg1)) (m' ((c.tc : Thread Cert.EvenReferenceIdeal.nD Cert.EvenReferenceIdeal.τ).loc Cert.EvenReferenceIdeal.main_arg2)) (m' ((c.tc : Thread Cert.EvenReferenceIdeal.nD Cert.EvenReferenceIdeal.τ).loc Cert.EvenReferenceIdeal.main_arg9)) = _
    rw [h0, h1, h2, h9]
  · refine ((h c).2.2.2.1.trans (Cert.EvenReferenceIdeal.Read.val_main_v190_eq (StableHlo.launchContents m' c))).trans ?_
    obtain ⟨h0, h1, h2, h3, h4, h5, h6, h7, h8, h9⟩ := hargs c
    refine Eq.trans ?_ (Cert.Even.sampleGate_eq m c).symm
    change Cert.EvenReferenceIdeal.Read.val_main_v190 (F := Ideal) (m' ((c.tc : Thread Cert.EvenReferenceIdeal.nD Cert.EvenReferenceIdeal.τ).loc Cert.EvenReferenceIdeal.main_arg0)) (m' ((c.tc : Thread Cert.EvenReferenceIdeal.nD Cert.EvenReferenceIdeal.τ).loc Cert.EvenReferenceIdeal.main_arg1)) (m' ((c.tc : Thread Cert.EvenReferenceIdeal.nD Cert.EvenReferenceIdeal.τ).loc Cert.EvenReferenceIdeal.main_arg2)) (m' ((c.tc : Thread Cert.EvenReferenceIdeal.nD Cert.EvenReferenceIdeal.τ).loc Cert.EvenReferenceIdeal.main_arg3)) (m' ((c.tc : Thread Cert.EvenReferenceIdeal.nD Cert.EvenReferenceIdeal.τ).loc Cert.EvenReferenceIdeal.main_arg4)) = _
    rw [h0, h1, h2, h3, h4]

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Even.Gen.facts, Cert.EvenIdeal.Gen.facts, Cert.EvenReferenceIdeal.Gen.facts,
  frame_kernel, frame_ideal, frame_reference,
  fun m ρ _ => Cert.Ffn.Gen.frame m ρ, fun m ρ _ => Cert.FfnIdeal.Gen.frame m ρ, frame_reference_ffn,
  frame_even, frame_even_ideal, frame_reference_even,
  trivial, equal, trivial, equal_ffn, trivial, equal_even⟩

end Cert.Proof

end
